-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S96x32x128 : Shape := ⟨3, ![96, 32, 128]⟩
abbrev S96x32x4 : Shape := ⟨3, ![96, 32, 4]⟩
abbrev S6144x180x128 : Shape := ⟨3, ![6144, 180, 128]⟩
abbrev S6144x180x4 : Shape := ⟨3, ![6144, 180, 4]⟩
abbrev S6144 : Shape := ⟨1, ![6144]⟩
abbrev S96 : Shape := ⟨1, ![96]⟩
abbrev S_ : Shape := ⟨0, ![]⟩
abbrev S6240 : Shape := ⟨1, ![6240]⟩

class Facts : Prop where
  bcast_S_S6144 : S_.BroadcastsInDim S6144 (![] : Fin 0 → Fin S6144.rank)
  bcast_S_S96 : S_.BroadcastsInDim S96 (![] : Fin 0 → Fin S96.rank)
  concatenates_S6144_S96_S6240_d0 : Shape.Concatenates [S6144, S96] S6240 0

variable [Facts]

def fn {F : FTy → Type} [FloatOps F] (main_arg0 : FVec F S96x32x128 .fp8e4m3) (main_arg1 : FVec F S96x32x4 .f32) (main_arg2 : FVec F S6144x180x128 .fp8e4m3) (main_arg3 : FVec F S6144x180x4 .f32) (main_arg4 : IVec S6144 32) (main_arg5 : IVec S96 32) : IVec S6240 1 :=
  let main_c : IVec S_ 32 := constantI S_ 32 1#32
  let main_v0 : IVec S6144 32 := broadcastInDim S6144 ![] bcast_S_S6144 main_c
  let main_v1 : IVec S6144 1 := cmpi .sge main_arg4 main_v0
  let main_c_0 : IVec S_ 32 := constantI S_ 32 0#32
  let main_v2 : IVec S96 32 := broadcastInDim S96 ![] bcast_S_S96 main_c_0
  let main_v3 : IVec S96 1 := cmpi .sge main_arg5 main_v2
  let main_c_1 : IVec S_ 32 := constantI S_ 32 6144#32
  let main_v4 : IVec S96 32 := broadcastInDim S96 ![] bcast_S_S96 main_c_1
  let main_v5 : IVec S96 1 := cmpi .slt main_arg5 main_v4
  let main_v6 : IVec S96 1 := andi main_v3 main_v5
  let main_v7 : IVec S6240 1 := (fun a b => concatenate S6240 0 [⟨S6144, a⟩, ⟨S96, b⟩] concatenates_S6144_S96_S6240_d0) main_v1 main_v6
  main_v7
-- ==== Kernel.lean ====
abbrev S96x32x128 : Shape := ⟨3, ![96, 32, 128]⟩
abbrev S96x32x4 : Shape := ⟨3, ![96, 32, 4]⟩
abbrev S6144x180x128 : Shape := ⟨3, ![6144, 180, 128]⟩
abbrev S6144x180x4 : Shape := ⟨3, ![6144, 180, 4]⟩
abbrev S6144 : Shape := ⟨1, ![6144]⟩
abbrev S96 : Shape := ⟨1, ![96]⟩
abbrev S3072x4 : Shape := ⟨2, ![3072, 4]⟩
abbrev S_ : Shape := ⟨0, ![]⟩
abbrev S3072x128 : Shape := ⟨2, ![3072, 128]⟩
abbrev S180x6144x128 : Shape := ⟨3, ![180, 6144, 128]⟩
abbrev S180x4x6144 : Shape := ⟨3, ![180, 4, 6144]⟩
abbrev S6144x1 : Shape := ⟨2, ![6144, 1]⟩
abbrev S96x1 : Shape := ⟨2, ![96, 1]⟩
abbrev S96x6144 : Shape := ⟨2, ![96, 6144]⟩
abbrev S3072x6144 : Shape := ⟨2, ![3072, 6144]⟩
abbrev S180x128x128 : Shape := ⟨3, ![180, 128, 128]⟩
abbrev S180x4x128 : Shape := ⟨3, ![180, 4, 128]⟩
abbrev S128x1 : Shape := ⟨2, ![128, 1]⟩
abbrev S96x128 : Shape := ⟨2, ![96, 128]⟩
abbrev S23040x128 : Shape := ⟨2, ![23040, 128]⟩
abbrev S6x128x128 : Shape := ⟨3, ![6, 128, 128]⟩
abbrev S48x96x128 : Shape := ⟨3, ![48, 96, 128]⟩
abbrev S128x128 : Shape := ⟨2, ![128, 128]⟩
abbrev S128x128x1 : Shape := ⟨3, ![128, 128, 1]⟩
abbrev S32x4x128 : Shape := ⟨3, ![32, 4, 128]⟩
abbrev S1x128x128 : Shape := ⟨3, ![1, 128, 128]⟩
abbrev S20x4x128 : Shape := ⟨3, ![20, 4, 128]⟩
abbrev S80x128 : Shape := ⟨2, ![80, 128]⟩
abbrev S48x128 : Shape := ⟨2, ![48, 128]⟩
abbrev S256x128 : Shape := ⟨2, ![256, 128]⟩
abbrev S128x256 : Shape := ⟨2, ![128, 256]⟩
abbrev S1280x128 : Shape := ⟨2, ![1280, 128]⟩
abbrev S1280x256 : Shape := ⟨2, ![1280, 256]⟩
abbrev S10x128x256 : Shape := ⟨3, ![10, 128, 256]⟩
abbrev S8x32x128 : Shape := ⟨3, ![8, 32, 128]⟩
abbrev S8x128 : Shape := ⟨2, ![8, 128]⟩
abbrev S1x96x128 : Shape := ⟨3, ![1, 96, 128]⟩
abbrev S96x32x6144 : Shape := ⟨3, ![96, 32, 6144]⟩
abbrev S96x6144x32 : Shape := ⟨3, ![96, 6144, 32]⟩

abbrev nBuf : Space → Nat
  | .hbm => 21
  | .vmem => 18
  | .smem => 0
  | _ => 0

abbrev bufTy : (tb : Table) → Fin (tcTables nBuf tb) → BufTy
  | .hbm, ⟨0, _⟩ => ⟨S96x32x128, .fp8e4m3⟩
  | .hbm, ⟨1, _⟩ => ⟨S96x32x4, .f32⟩
  | .hbm, ⟨2, _⟩ => ⟨S6144x180x128, .fp8e4m3⟩
  | .hbm, ⟨3, _⟩ => ⟨S6144x180x4, .f32⟩
  | .hbm, ⟨4, _⟩ => ⟨S6144, .i32⟩
  | .hbm, ⟨5, _⟩ => ⟨S96, .i32⟩
  | .hbm, ⟨6, _⟩ => ⟨S3072x4, .f32⟩
  | .hbm, ⟨7, _⟩ => ⟨S_, .i32⟩
  | .hbm, ⟨8, _⟩ => ⟨S_, .f32⟩
  | .hbm, ⟨9, _⟩ => ⟨S3072x128, .f32⟩
  | .hbm, ⟨10, _⟩ => ⟨S180x6144x128, .fp8e4m3⟩
  | .hbm, ⟨11, _⟩ => ⟨S180x4x6144, .f32⟩
  | .hbm, ⟨12, _⟩ => ⟨S3072x128, .fp8e4m3⟩
  | .hbm, ⟨13, _⟩ => ⟨S6144x1, .i32⟩
  | .hbm, ⟨14, _⟩ => ⟨S96x1, .i32⟩
  | .hbm, ⟨15, _⟩ => ⟨S96x6144, .f32⟩
  | .hbm, ⟨16, _⟩ => ⟨S96x1, .f32⟩
  | .hbm, ⟨17, _⟩ => ⟨S3072x6144, .f32⟩
  | .hbm, ⟨18, _⟩ => ⟨S96x32x6144, .f32⟩
  | .hbm, ⟨19, _⟩ => ⟨S96x6144x32, .f32⟩
  | .hbm, ⟨20, _⟩ => ⟨S96, .f32⟩
  | .local _ .vmem, ⟨0, _⟩ => ⟨S3072x128, .fp8e4m3⟩
  | .local _ .vmem, ⟨1, _⟩ => ⟨S3072x128, .f32⟩
  | .local _ .vmem, ⟨2, _⟩ => ⟨S180x128x128, .fp8e4m3⟩
  | .local _ .vmem, ⟨3, _⟩ => ⟨S180x128x128, .fp8e4m3⟩
  | .local _ .vmem, ⟨4, _⟩ => ⟨S180x4x128, .f32⟩
  | .local _ .vmem, ⟨5, _⟩ => ⟨S180x4x128, .f32⟩
  | .local _ .vmem, ⟨6, _⟩ => ⟨S128x1, .i32⟩
  | .local _ .vmem, ⟨7, _⟩ => ⟨S128x1, .i32⟩
  | .local _ .vmem, ⟨8, _⟩ => ⟨S96x1, .i32⟩
  | .local _ .vmem, ⟨9, _⟩ => ⟨S96x128, .f32⟩
  | .local _ .vmem, ⟨10, _⟩ => ⟨S96x128, .f32⟩
  | .local _ .vmem, ⟨11, _⟩ => ⟨S96x1, .f32⟩
  | .local _ .vmem, ⟨12, _⟩ => ⟨S3072x128, .f32⟩
  | .local _ .vmem, ⟨13, _⟩ => ⟨S3072x128, .f32⟩
  | .local _ .vmem, ⟨14, _⟩ => ⟨S3072x128, .bf16⟩
  | .local _ .vmem, ⟨15, _⟩ => ⟨S23040x128, .bf16⟩
  | .local _ .vmem, ⟨16, _⟩ => ⟨S6x128x128, .f32⟩
  | .local _ .vmem, ⟨17, _⟩ => ⟨S48x96x128, .f32⟩
  | _, _ => ⟨S96x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_174 : BitVec 32 := 0#32
  let c24_i32 : BitVec 32 := 24#32
  let v214 : BitVec 32 := Scalar.addi c0_i32_174 c24_i32
  let c1_i32_175 : BitVec 32 := 1#32
  ⟨c0_i32_174, v214, c1_i32_175⟩
def k0_off1 (k0_t1 : Fin k0_t1_loop.trips) : Fin 2 → Nat :=
  let c0_i32_174 : BitVec 32 := 0#32
  let c1_i32_175 : BitVec 32 := 1#32
  let arg14 : BitVec 32 := Scf.iv c0_i32_174 c1_i32_175 k0_t1
  let c128_i32_177 : BitVec 32 := 128#32
  let v215 : BitVec 32 := Scalar.muli arg14 c128_i32_177
  let v216 : Index := Scalar.indexCast v215
  let c0_178 : Index := 0#32
  ![v216.toNat, 0]
@[reducible] def k0_t2_loop : Scf.Loop 32 :=
  let c1_i32_43 : BitVec 32 := 1#32
  let c179_i32 : BitVec 32 := 179#32
  let v96 : BitVec 32 := Scalar.addi c1_i32_43 c179_i32
  let c1_i32_44 : BitVec 32 := 1#32
  ⟨c1_i32_43, v96, c1_i32_44⟩
def k0_off2 (k0_t2 : Fin k0_t2_loop.trips) : Fin 3 → Nat :=
  let c1_i32_43 : BitVec 32 := 1#32
  let c1_i32_44 : BitVec 32 := 1#32
  let arg14 : BitVec 32 := Scf.iv c1_i32_43 c1_i32_44 k0_t2
  let c0_i32_175 : BitVec 32 := 0#32
  let v215 : BitVec 1 := Scalar.cmpi .sgt arg14 c0_i32_175
  let v216 : BitVec 32 := Scalar.extui v215
  let c0_i32_176 : BitVec 32 := 0#32
  let v217 : BitVec 1 := Scalar.cmpi .slt arg14 c0_i32_176
  let v218 : BitVec 32 := Scalar.extui v217
  let v219 : BitVec 32 := Scalar.subi v216 v218
  let c32_i32_174 : BitVec 32 := 32#32
  let c0_i32_177 : BitVec 32 := 0#32
  let v220 : BitVec 1 := Scalar.cmpi .sgt c32_i32_174 c0_i32_177
  let v221 : BitVec 32 := Scalar.extui v220
  let c0_i32_178 : BitVec 32 := 0#32
  let v222 : BitVec 1 := Scalar.cmpi .slt c32_i32_174 c0_i32_178
  let v223 : BitVec 32 := Scalar.extui v222
  let v224 : BitVec 32 := Scalar.subi v221 v223
  let v225 : BitVec 1 := Scalar.cmpi .ne v219 v224
  let v226 : BitVec 32 := Scalar.remsi arg14 c32_i32_174
  let c0_i32_179 : BitVec 32 := 0#32
  let v227 : BitVec 1 := Scalar.cmpi .ne v226 c0_i32_179
  let v228 : BitVec 1 := Scalar.andi v225 v227
  let v214 : BitVec 32 := Scalar.divsi arg14 c32_i32_174
  let c1_i32_180 : BitVec 32 := 1#32
  let v229 : BitVec 32 := Scalar.subi v214 c1_i32_180
  let v230 : BitVec 32 := Scalar.select v228 v229 v214
  let v231 : Index := Scalar.indexCast v230
  let c0_181 : Index := 0#32
  let c0_182 : Index := 0#32
  ![v231.toNat, 0, 0]
def k0_off3 (k0_t2 : Fin k0_t2_loop.trips) : Fin 3 → Nat :=
  let c1_i32_43 : BitVec 32 := 1#32
  let c1_i32_44 : BitVec 32 := 1#32
  let arg14 : BitVec 32 := Scf.iv c1_i32_43 c1_i32_44 k0_t2
  let v281 : Index := Scalar.indexCast arg14
  let c0_198 : Index := 0#32
  let c0_199 : Index := 0#32
  ![v281.toNat, 0, 0]
def k0_off4 (k0_t2 : Fin k0_t2_loop.trips) : Fin 2 → Nat :=
  let c1_i32_43 : BitVec 32 := 1#32
  let c1_i32_44 : BitVec 32 := 1#32
  let arg14 : BitVec 32 := Scf.iv c1_i32_43 c1_i32_44 k0_t2
  let c128_i32_202 : BitVec 32 := 128#32
  let v293 : BitVec 32 := Scalar.muli arg14 c128_i32_202
  let v294 : Index := Scalar.indexCast v293
  let c0_203 : Index := 0#32
  ![v294.toNat, 0]
@[reducible] def k0_t3_loop : Scf.Loop 32 :=
  let c0_i32_49 : BitVec 32 := 0#32
  let c18_i32 : BitVec 32 := 18#32
  let v99 : BitVec 32 := Scalar.addi c0_i32_49 c18_i32
  let c1_i32_50 : BitVec 32 := 1#32
  ⟨c0_i32_49, v99, c1_i32_50⟩
def k0_off5 (k0_t3 : Fin k0_t3_loop.trips) : Fin 2 → Nat :=
  let c0_i32_49 : BitVec 32 := 0#32
  let c1_i32_50 : BitVec 32 := 1#32
  let arg14 : BitVec 32 := Scf.iv c0_i32_49 c1_i32_50 k0_t3
  let c1280_i32 : BitVec 32 := 1280#32
  let v214 : BitVec 32 := Scalar.muli arg14 c1280_i32
  let v215 : Index := Scalar.indexCast v214
  let c0_174 : Index := 0#32
  ![v215.toNat, 0]
@[reducible] def k0_t4_loop : Scf.Loop 32 :=
  let c0_i32_59 : BitVec 32 := 0#32
  let c18_i32_60 : BitVec 32 := 18#32
  let v108 : BitVec 32 := Scalar.addi c0_i32_59 c18_i32_60
  let c1_i32_61 : BitVec 32 := 1#32
  ⟨c0_i32_59, v108, c1_i32_61⟩
def k0_off6 (k0_t4 : Fin k0_t4_loop.trips) : Fin 2 → Nat :=
  let c0_i32_59 : BitVec 32 := 0#32
  let c1_i32_61 : BitVec 32 := 1#32
  let arg14 : BitVec 32 := Scf.iv c0_i32_59 c1_i32_61 k0_t4
  let c1280_i32 : BitVec 32 := 1280#32
  let v214 : BitVec 32 := Scalar.muli arg14 c1280_i32
  let v215 : Index := Scalar.indexCast v214
  let c0_174 : Index := 0#32
  ![v215.toNat, 0]
@[reducible] def k0_t5_loop : Scf.Loop 32 :=
  let c0_i32_69 : BitVec 32 := 0#32
  let c18_i32_70 : BitVec 32 := 18#32
  let v117 : BitVec 32 := Scalar.addi c0_i32_69 c18_i32_70
  let c1_i32_71 : BitVec 32 := 1#32
  ⟨c0_i32_69, v117, c1_i32_71⟩
def k0_off7 (k0_t5 : Fin k0_t5_loop.trips) : Fin 2 → Nat :=
  let c0_i32_69 : BitVec 32 := 0#32
  let c1_i32_71 : BitVec 32 := 1#32
  let arg14 : BitVec 32 := Scf.iv c0_i32_69 c1_i32_71 k0_t5
  let c1280_i32 : BitVec 32 := 1280#32
  let v214 : BitVec 32 := Scalar.muli arg14 c1280_i32
  let v215 : Index := Scalar.indexCast v214
  let c0_174 : Index := 0#32
  ![v215.toNat, 0]
@[reducible] def k0_t6_loop : Scf.Loop 32 :=
  let c0_i32_79 : BitVec 32 := 0#32
  let c18_i32_80 : BitVec 32 := 18#32
  let v126 : BitVec 32 := Scalar.addi c0_i32_79 c18_i32_80
  let c1_i32_81 : BitVec 32 := 1#32
  ⟨c0_i32_79, v126, c1_i32_81⟩
def k0_off8 (k0_t6 : Fin k0_t6_loop.trips) : Fin 2 → Nat :=
  let c0_i32_79 : BitVec 32 := 0#32
  let c1_i32_81 : BitVec 32 := 1#32
  let arg14 : BitVec 32 := Scf.iv c0_i32_79 c1_i32_81 k0_t6
  let c1280_i32 : BitVec 32 := 1280#32
  let v214 : BitVec 32 := Scalar.muli arg14 c1280_i32
  let v215 : Index := Scalar.indexCast v214
  let c0_174 : Index := 0#32
  ![v215.toNat, 0]
@[reducible] def k0_t7_loop : Scf.Loop 32 :=
  let c0_i32_89 : BitVec 32 := 0#32
  let c18_i32_90 : BitVec 32 := 18#32
  let v135 : BitVec 32 := Scalar.addi c0_i32_89 c18_i32_90
  let c1_i32_91 : BitVec 32 := 1#32
  ⟨c0_i32_89, v135, c1_i32_91⟩
def k0_off9 (k0_t7 : Fin k0_t7_loop.trips) : Fin 2 → Nat :=
  let c0_i32_89 : BitVec 32 := 0#32
  let c1_i32_91 : BitVec 32 := 1#32
  let arg14 : BitVec 32 := Scf.iv c0_i32_89 c1_i32_91 k0_t7
  let c1280_i32 : BitVec 32 := 1280#32
  let v214 : BitVec 32 := Scalar.muli arg14 c1280_i32
  let v215 : Index := Scalar.indexCast v214
  let c0_174 : Index := 0#32
  ![v215.toNat, 0]
@[reducible] def k0_t8_loop : Scf.Loop 32 :=
  let c0_i32_100 : BitVec 32 := 0#32
  let c18_i32_101 : BitVec 32 := 18#32
  let v144 : BitVec 32 := Scalar.addi c0_i32_100 c18_i32_101
  let c1_i32_102 : BitVec 32 := 1#32
  ⟨c0_i32_100, v144, c1_i32_102⟩
def k0_off10 (k0_t8 : Fin k0_t8_loop.trips) : Fin 2 → Nat :=
  let c0_i32_100 : BitVec 32 := 0#32
  let c1_i32_102 : BitVec 32 := 1#32
  let arg14 : BitVec 32 := Scf.iv c0_i32_100 c1_i32_102 k0_t8
  let c1280_i32 : BitVec 32 := 1280#32
  let v214 : BitVec 32 := Scalar.muli arg14 c1280_i32
  let v215 : Index := Scalar.indexCast v214
  let c0_174 : Index := 0#32
  ![v215.toNat, 0]
@[reducible] def k0_t9_loop : Scf.Loop 32 :=
  let c0_i32_110 : BitVec 32 := 0#32
  let c18_i32_111 : BitVec 32 := 18#32
  let v153 : BitVec 32 := Scalar.addi c0_i32_110 c18_i32_111
  let c1_i32_112 : BitVec 32 := 1#32
  ⟨c0_i32_110, v153, c1_i32_112⟩
def k0_off11 (k0_t9 : Fin k0_t9_loop.trips) : Fin 2 → Nat :=
  let c0_i32_110 : BitVec 32 := 0#32
  let c1_i32_112 : BitVec 32 := 1#32
  let arg14 : BitVec 32 := Scf.iv c0_i32_110 c1_i32_112 k0_t9
  let c1280_i32 : BitVec 32 := 1280#32
  let v214 : BitVec 32 := Scalar.muli arg14 c1280_i32
  let v215 : Index := Scalar.indexCast v214
  let c0_174 : Index := 0#32
  ![v215.toNat, 0]
@[reducible] def k0_t10_loop : Scf.Loop 32 :=
  let c0_i32_120 : BitVec 32 := 0#32
  let c18_i32_121 : BitVec 32 := 18#32
  let v162 : BitVec 32 := Scalar.addi c0_i32_120 c18_i32_121
  let c1_i32_122 : BitVec 32 := 1#32
  ⟨c0_i32_120, v162, c1_i32_122⟩
def k0_off12 (k0_t10 : Fin k0_t10_loop.trips) : Fin 2 → Nat :=
  let c0_i32_120 : BitVec 32 := 0#32
  let c1_i32_122 : BitVec 32 := 1#32
  let arg14 : BitVec 32 := Scf.iv c0_i32_120 c1_i32_122 k0_t10
  let c1280_i32 : BitVec 32 := 1280#32
  let v214 : BitVec 32 := Scalar.muli arg14 c1280_i32
  let v215 : Index := Scalar.indexCast v214
  let c0_174 : Index := 0#32
  ![v215.toNat, 0]
@[reducible] def k0_t11_loop : Scf.Loop 32 :=
  let c0_i32_130 : BitVec 32 := 0#32
  let c18_i32_131 : BitVec 32 := 18#32
  let v171 : BitVec 32 := Scalar.addi c0_i32_130 c18_i32_131
  let c1_i32_132 : BitVec 32 := 1#32
  ⟨c0_i32_130, v171, c1_i32_132⟩
def k0_off13 (k0_t11 : Fin k0_t11_loop.trips) : Fin 2 → Nat :=
  let c0_i32_130 : BitVec 32 := 0#32
  let c1_i32_132 : BitVec 32 := 1#32
  let arg14 : BitVec 32 := Scf.iv c0_i32_130 c1_i32_132 k0_t11
  let c1280_i32 : BitVec 32 := 1280#32
  let v214 : BitVec 32 := Scalar.muli arg14 c1280_i32
  let v215 : Index := Scalar.indexCast v214
  let c0_174 : Index := 0#32
  ![v215.toNat, 0]
@[reducible] def k0_t12_loop : Scf.Loop 32 :=
  let c0_i32_141 : BitVec 32 := 0#32
  let c18_i32_142 : BitVec 32 := 18#32
  let v180 : BitVec 32 := Scalar.addi c0_i32_141 c18_i32_142
  let c1_i32_143 : BitVec 32 := 1#32
  ⟨c0_i32_141, v180, c1_i32_143⟩
def k0_off14 (k0_t12 : Fin k0_t12_loop.trips) : Fin 2 → Nat :=
  let c0_i32_141 : BitVec 32 := 0#32
  let c1_i32_143 : BitVec 32 := 1#32
  let arg14 : BitVec 32 := Scf.iv c0_i32_141 c1_i32_143 k0_t12
  let c1280_i32 : BitVec 32 := 1280#32
  let v214 : BitVec 32 := Scalar.muli arg14 c1280_i32
  let v215 : Index := Scalar.indexCast v214
  let c0_174 : Index := 0#32
  ![v215.toNat, 0]
@[reducible] def k0_t13_loop : Scf.Loop 32 :=
  let c0_i32_151 : BitVec 32 := 0#32
  let c18_i32_152 : BitVec 32 := 18#32
  let v189 : BitVec 32 := Scalar.addi c0_i32_151 c18_i32_152
  let c1_i32_153 : BitVec 32 := 1#32
  ⟨c0_i32_151, v189, c1_i32_153⟩
def k0_off15 (k0_t13 : Fin k0_t13_loop.trips) : Fin 2 → Nat :=
  let c0_i32_151 : BitVec 32 := 0#32
  let c1_i32_153 : BitVec 32 := 1#32
  let arg14 : BitVec 32 := Scf.iv c0_i32_151 c1_i32_153 k0_t13
  let c1280_i32 : BitVec 32 := 1280#32
  let v214 : BitVec 32 := Scalar.muli arg14 c1280_i32
  let v215 : Index := Scalar.indexCast v214
  let c0_174 : Index := 0#32
  ![v215.toNat, 0]
@[reducible] def k0_t14_loop : Scf.Loop 32 :=
  let c0_i32_161 : BitVec 32 := 0#32
  let c18_i32_162 : BitVec 32 := 18#32
  let v198 : BitVec 32 := Scalar.addi c0_i32_161 c18_i32_162
  let c1_i32_163 : BitVec 32 := 1#32
  ⟨c0_i32_161, v198, c1_i32_163⟩
def k0_off16 (k0_t14 : Fin k0_t14_loop.trips) : Fin 2 → Nat :=
  let c0_i32_161 : BitVec 32 := 0#32
  let c1_i32_163 : BitVec 32 := 1#32
  let arg14 : BitVec 32 := Scf.iv c0_i32_161 c1_i32_163 k0_t14
  let c1280_i32 : BitVec 32 := 1280#32
  let v214 : BitVec 32 := Scalar.muli arg14 c1280_i32
  let v215 : Index := Scalar.indexCast v214
  let c0_174 : Index := 0#32
  ![v215.toNat, 0]
def k0_off17 (i : grid0.Coords) : Fin 3 → Nat :=
  let arg0 : BitVec 32 := BitVec.ofNat 32 (i 0).val
  let v207 : Index := Scalar.indexCast arg0
  let c0_171 : Index := 0#32
  let c0_172 : Index := 0#32
  ![v207.toNat, 0, 0]
def k0_cond2 (i : grid0.Coords) : BitVec 1 :=
  let arg0 : BitVec 32 := BitVec.ofNat 32 (i 0).val
  let c47_i32 : BitVec 32 := 47#32
  let v211 : BitVec 1 := Scalar.cmpi .eq arg0 c47_i32
  let v212 : BitVec 32 := Scalar.extui v211
  let c0_i32_173 : BitVec 32 := 0#32
  let v213 : BitVec 1 := Scalar.cmpi .ne v212 c0_i32_173
  v213

@[reducible] def k0_t15_loop : Scf.Loop 32 :=
  let c0_i32_177 : BitVec 32 := 0#32
  let c48_i32 : BitVec 32 := 48#32
  let v217 : BitVec 32 := Scalar.addi c0_i32_177 c48_i32
  let c1_i32_178 : BitVec 32 := 1#32
  ⟨c0_i32_177, v217, c1_i32_178⟩
def k0_off18 (k0_t15 : Fin k0_t15_loop.trips) : Fin 3 → Nat :=
  let c0_i32_177 : BitVec 32 := 0#32
  let c1_i32_178 : BitVec 32 := 1#32
  let arg14 : BitVec 32 := Scf.iv c0_i32_177 c1_i32_178 k0_t15
  let v232 : Index := Scalar.indexCast arg14
  let c0_190 : Index := 0#32
  let c0_191 : Index := 0#32
  ![v232.toNat, 0, 0]
@[reducible] def k0_t16_loop : Scf.Loop 32 :=
  let c0_i32_182 : BitVec 32 := 0#32
  let c48_i32_183 : BitVec 32 := 48#32
  let v222 : BitVec 32 := Scalar.addi c0_i32_182 c48_i32_183
  let c1_i32_184 : BitVec 32 := 1#32
  ⟨c0_i32_182, v222, c1_i32_184⟩
def k0_off19 (k0_t16 : Fin k0_t16_loop.trips) : Fin 3 → Nat :=
  let c0_i32_182 : BitVec 32 := 0#32
  let c1_i32_184 : BitVec 32 := 1#32
  let arg14 : BitVec 32 := Scf.iv c0_i32_182 c1_i32_184 k0_t16
  let v232 : Index := Scalar.indexCast arg14
  let c0_190 : Index := 0#32
  let c0_191 : Index := 0#32
  ![v232.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S180x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S180x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3072x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S96x32x128 : Shape := ⟨3, ![96, 32, 128]⟩
abbrev S96x32x4 : Shape := ⟨3, ![96, 32, 4]⟩
abbrev S6144x180x128 : Shape := ⟨3, ![6144, 180, 128]⟩
abbrev S6144x180x4 : Shape := ⟨3, ![6144, 180, 4]⟩
abbrev S6144 : Shape := ⟨1, ![6144]⟩
abbrev S96 : Shape := ⟨1, ![96]⟩
abbrev S96x32x4x32 : Shape := ⟨4, ![96, 32, 4, 32]⟩
abbrev S96x32x4x1 : Shape := ⟨4, ![96, 32, 4, 1]⟩
abbrev S6144x180x4x32 : Shape := ⟨4, ![6144, 180, 4, 32]⟩
abbrev S6144x180x4x1 : Shape := ⟨4, ![6144, 180, 4, 1]⟩
abbrev S180 : Shape := ⟨1, ![180]⟩
abbrev S1x1x1x180 : Shape := ⟨4, ![1, 1, 1, 180]⟩
abbrev S1x6144x1x1 : Shape := ⟨4, ![1, 6144, 1, 1]⟩
abbrev S1x6144x1x180 : Shape := ⟨4, ![1, 6144, 1, 180]⟩
abbrev S6144x180x96x32 : Shape := ⟨4, ![6144, 180, 96, 32]⟩
abbrev S96x6144x32x180 : Shape := ⟨4, ![96, 6144, 32, 180]⟩
abbrev S_ : Shape := ⟨0, ![]⟩
abbrev S96x6144x32 : Shape := ⟨3, ![96, 6144, 32]⟩
abbrev S96x6144 : Shape := ⟨2, ![96, 6144]⟩
abbrev S96x1 : Shape := ⟨2, ![96, 1]⟩
abbrev S96x1x1 : Shape := ⟨3, ![96, 1, 1]⟩
abbrev S1 : Shape := ⟨1, ![1]⟩
abbrev S1x1x1 : Shape := ⟨3, ![1, 1, 1]⟩

abbrev nBuf : Space → Nat
  | .hbm => 72
  | .vmem => 4
  | .smem => 0
  | _ => 0

abbrev bufTy : (tb : Table) → Fin (tcTables nBuf tb) → BufTy
  | .hbm, ⟨0, _⟩ => ⟨S96x32x128, .fp8e4m3⟩
  | .hbm, ⟨1, _⟩ => ⟨S96x32x4, .f32⟩
  | .hbm, ⟨2, _⟩ => ⟨S6144x180x128, .fp8e4m3⟩
  | .hbm, ⟨3, _⟩ => ⟨S6144x180x4, .f32⟩
  | .hbm, ⟨4, _⟩ => ⟨S6144, .i32⟩
  | .hbm, ⟨5, _⟩ => ⟨S96, .i32⟩
  | .hbm, ⟨6, _⟩ => ⟨S96x32x128, .bf16⟩
  | .hbm, ⟨7, _⟩ => ⟨S6144x180x128, .bf16⟩
  | .hbm, ⟨8, _⟩ => ⟨S96x32x4x32, .bf16⟩
  | .hbm, ⟨9, _⟩ => ⟨S96x32x4, .bf16⟩
  | .hbm, ⟨10, _⟩ => ⟨S96x32x4x1, .bf16⟩
  | .hbm, ⟨11, _⟩ => ⟨S96x32x4x32, .bf16⟩
  | .hbm, ⟨12, _⟩ => ⟨S96x32x4x32, .bf16⟩
  | .hbm, ⟨13, _⟩ => ⟨S96x32x128, .bf16⟩
  | .hbm, ⟨14, _⟩ => ⟨S6144x180x4x32, .bf16⟩
  | .hbm, ⟨15, _⟩ => ⟨S6144x180x4, .bf16⟩
  | .hbm, ⟨16, _⟩ => ⟨S6144x180x4x1, .bf16⟩
  | .hbm, ⟨17, _⟩ => ⟨S6144x180x4x32, .bf16⟩
  | .hbm, ⟨18, _⟩ => ⟨S6144x180x4x32, .bf16⟩
  | .hbm, ⟨19, _⟩ => ⟨S6144x180x128, .bf16⟩
  | .hbm, ⟨20, _⟩ => ⟨S180, .i32⟩
  | .hbm, ⟨21, _⟩ => ⟨S1x1x1x180, .i32⟩
  | .hbm, ⟨22, _⟩ => ⟨S1x6144x1x1, .i32⟩
  | .hbm, ⟨23, _⟩ => ⟨S1x6144x1x180, .i32⟩
  | .hbm, ⟨24, _⟩ => ⟨S1x6144x1x180, .i32⟩
  | .hbm, ⟨25, _⟩ => ⟨S1x6144x1x180, .i1⟩
  | .hbm, ⟨26, _⟩ => ⟨S6144x180x96x32, .f32⟩
  | .hbm, ⟨27, _⟩ => ⟨S96x6144x32x180, .f32⟩
  | .hbm, ⟨28, _⟩ => ⟨S_, .f32⟩
  | .hbm, ⟨29, _⟩ => ⟨S_, .f32⟩
  | .hbm, ⟨30, _⟩ => ⟨S96x6144x32x180, .i1⟩
  | .hbm, ⟨31, _⟩ => ⟨S96x6144x32x180, .f32⟩
  | .hbm, ⟨32, _⟩ => ⟨S96x6144x32x180, .f32⟩
  | .hbm, ⟨33, _⟩ => ⟨S_, .f32⟩
  | .hbm, ⟨34, _⟩ => ⟨S96x6144x32, .f32⟩
  | .hbm, ⟨35, _⟩ => ⟨S_, .f32⟩
  | .hbm, ⟨36, _⟩ => ⟨S96x6144, .f32⟩
  | .hbm, ⟨37, _⟩ => ⟨S96x1, .i32⟩
  | .hbm, ⟨38, _⟩ => ⟨S_, .i32⟩
  | .hbm, ⟨39, _⟩ => ⟨S96x1, .i32⟩
  | .hbm, ⟨40, _⟩ => ⟨S96x1, .i1⟩
  | .hbm, ⟨41, _⟩ => ⟨S_, .i32⟩
  | .hbm, ⟨42, _⟩ => ⟨S96x1, .i32⟩
  | .hbm, ⟨43, _⟩ => ⟨S96x1, .i32⟩
  | .hbm, ⟨44, _⟩ => ⟨S96x1, .i32⟩
  | .hbm, ⟨45, _⟩ => ⟨S96x1x1, .i32⟩
  | .hbm, ⟨46, _⟩ => ⟨S1, .i32⟩
  | .hbm, ⟨47, _⟩ => ⟨S_, .i32⟩
  | .hbm, ⟨48, _⟩ => ⟨S96x1x1, .i32⟩
  | .hbm, ⟨49, _⟩ => ⟨S96x1x1, .i1⟩
  | .hbm, ⟨50, _⟩ => ⟨S1x1x1, .i32⟩
  | .hbm, ⟨51, _⟩ => ⟨S96x1x1, .i32⟩
  | .hbm, ⟨52, _⟩ => ⟨S96x1x1, .i1⟩
  | .hbm, ⟨53, _⟩ => ⟨S96x1x1, .i1⟩
  | .hbm, ⟨54, _⟩ => ⟨S_, .i1⟩
  | .hbm, ⟨55, _⟩ => ⟨S96x1, .i1⟩
  | .hbm, ⟨56, _⟩ => ⟨S96x1, .f32⟩
  | .hbm, ⟨57, _⟩ => ⟨S_, .f32⟩
  | .hbm, ⟨58, _⟩ => ⟨S96x1, .f32⟩
  | .hbm, ⟨59, _⟩ => ⟨S96x1, .f32⟩
  | .hbm, ⟨60, _⟩ => ⟨S96, .f32⟩
  | .hbm, ⟨61, _⟩ => ⟨S_, .f32⟩
  | .hbm, ⟨62, _⟩ => ⟨S96, .f32⟩
  | .hbm, ⟨63, _⟩ => ⟨S96x1, .f32⟩
  | .hbm, ⟨64, _⟩ => ⟨S96x6144, .f32⟩
  | .hbm, ⟨65, _⟩ => ⟨S96x6144, .f32⟩
  | .hbm, ⟨66, _⟩ => ⟨S96x6144, .f32⟩
  | .hbm, ⟨67, _⟩ => ⟨S_, .f32⟩
  | .hbm, ⟨68, _⟩ => ⟨S96, .f32⟩
  | .hbm, ⟨69, _⟩ => ⟨S96, .f32⟩
  | .hbm, ⟨70, _⟩ => ⟨S96, .f32⟩
  | .hbm, ⟨71, _⟩ => ⟨S96, .f32⟩
  | .local _ .vmem, ⟨0, _⟩ => ⟨S96x32x128, .fp8e4m3⟩
  | .local _ .vmem, ⟨1, _⟩ => ⟨S6144x180x128, .fp8e4m3⟩
  | .local _ .vmem, ⟨2, _⟩ => ⟨S96x32x128, .bf16⟩
  | .local _ .vmem, ⟨3, _⟩ => ⟨S6144x180x128, .bf16⟩
  | _, _ => ⟨S96x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S96x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x180x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x180x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Widen.lean ====
module

public import proofs.«01_k».proof.Proof.Gen.Kernel.Skeleton
public import Idealize.ShloMosaic.Lib.PointwiseCore

@[expose] public section

/-! What the widening payloads compute, one element at a time: a code widened times its scale. -/

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

/-- One code widened by its scale, as the kernel does it: the code exactly widened to bf16, the scale
    rounded to bf16, and their bf16 product. -/
def wid (code : F .fp8e4m3) (scale : F .f32) : F .bf16 :=
  FloatOps.mulf (FloatOps.extf .bf16 bitsLt_fp8e4m3_bf16 code) (FloatOps.truncf .bf16 bitsLt_bf16_f32 scale)

/-- Token `s`, coordinate `l`, of document `j`, widened. -/
def tokE (x3 : Vec F S180x128x128 .fp8e4m3) (x4 : Vec F S180x4x128 .f32) (s : Fin 180) (j l : Fin 128) : F .bf16 :=
  wid (x3 (ix3 s j l)) (x4 (ix3 s ⟨l.val / 32, by omega⟩ j))

/-- The same where token `s` lies inside the document; outside it, the document's token 0. -/
def dwE (x3 : Vec F S180x128x128 .fp8e4m3) (x4 : Vec F S180x4x128 .f32) (x5 : Vec F S128x1 .i32)
    (s : Fin 180) (j l : Fin 128) : F .bf16 :=
  if s.val = 0 then tokE x3 x4 ⟨0, by omega⟩ j l
  else FloatOps.truncf .bf16 bitsLt_bf16_f32
    (Scalar.select (IntOp.cmpi .slt (BitVec.ofNat 32 s.val) (x5 (ix2 j ⟨0, by omega⟩)))
      (FloatOps.extf .f32 bitsLt_bf16_f32 (tokE x3 x4 s j l))
      (FloatOps.extf .f32 bitsLt_bf16_f32 (tokE x3 x4 ⟨0, by omega⟩ j l)))

/-- The widened documents of one block, token-major: row `128 s + j` is token `s` of document `j`. -/
def dwS (x3 : Vec F S180x128x128 .fp8e4m3) (x4 : Vec F S180x4x128 .f32) (x5 : Vec F S128x1 .i32) :
    Vec F S23040x128 .bf16 := fun y =>
  dwE x3 x4 x5 ⟨(y 0).val / 128, by have : (y 0).val < 23040 := (y 0).isLt; omega⟩
    ⟨(y 0).val % 128, by omega⟩ (y 1)

/-- The widened queries. -/
def qwS (x1 : Vec F S3072x128 .fp8e4m3) (x2 : Vec F S3072x128 .f32) : Vec F S3072x128 .bf16 := fun y =>
  wid (x1 y) (x2 (ix2 (y 0) ⟨(y 1).val / 32, by have : (y 1).val < 128 := (y 1).isLt; omega⟩))

/-- The document scales as the kernel lays them out: group `g` of 32 tokens, row `j` a document, lane
    `4 t + b` block `b` of the group's token `t`; zeros past the last token. -/
def dsS (x4 : Vec F S180x4x128 .f32) : Vec F S6x128x128 .f32 := fun y =>
  if h : 32 * (y 0).val + (y 2).val / 4 < 180 then
    x4 (ix3 ⟨32 * (y 0).val + (y 2).val / 4, h⟩ ⟨(y 2).val % 4, by omega⟩ (y 1))
  else Scalar.ofBits .f32 0x00000000#32

theorem pay19_apply (v : Vec F S128x128 .f32) (w : Vec F S128x128 .fp8e4m3) (a b : Fin 128) :
    k0_pay19 (k0_pay14 v w) (ix2 a b) = wid (w (ix2 a b)) (v (ix2 a ⟨b.val / 32, by omega⟩)) := by
  pointwise [k0_pay19, k0_pay14]
  refine congrArg (fun z => FloatOps.mulf _ (FloatOps.truncf .bf16 bitsLt_bf16_f32 (v (ix2 a z)))) (Fin.ext ?_)
  dsimp only
  clear v w a
  revert b
  decide +kernel

theorem pay31_apply (v : Vec F S1x128x128 .f32) (w : Vec F S1x128x128 .fp8e4m3) (a b : Fin 128) :
    k0_pay31 (k0_pay28 v) (iota .tc S128x128 32 [1] iota_S128x128_d1_w32) 32#32 k0_pay29 k0_pay30 1#1 w (ix2 a b)
      = wid (w (ix3 ⟨0, by omega⟩ a b)) (v (ix3 ⟨0, by omega⟩ a ⟨b.val / 32, by omega⟩)) := by
  pointwise [k0_pay31, k0_pay28, k0_pay29, k0_pay30]
  refine congrArg (fun z => FloatOps.mulf _ (FloatOps.truncf .bf16 bitsLt_bf16_f32 (v (ix3 _ a z)))) (Fin.ext ?_)
  dsimp only
  clear v w a
  revert b
  decide +kernel

theorem pay20_apply (v : Vec F S32x4x128 .f32) (a b : Fin 128) :
    k0_pay20 v (ix3 ⟨0, by omega⟩ a b) = v (ix3 ⟨b.val / 4, by omega⟩ ⟨b.val % 4, by omega⟩ a) := by
  pointwise [k0_pay20]
theorem pay21_apply (v : Vec F S32x4x128 .f32) (a b : Fin 128) :
    k0_pay21 v (ix3 ⟨0, by omega⟩ a b) = v (ix3 ⟨b.val / 4, by omega⟩ ⟨b.val % 4, by omega⟩ a) := by
  pointwise [k0_pay21]
theorem pay22_apply (v : Vec F S32x4x128 .f32) (a b : Fin 128) :
    k0_pay22 v (ix3 ⟨0, by omega⟩ a b) = v (ix3 ⟨b.val / 4, by omega⟩ ⟨b.val % 4, by omega⟩ a) := by
  pointwise [k0_pay22]
theorem pay24_apply (v : Vec F S32x4x128 .f32) (a b : Fin 128) :
    k0_pay24 (k0_pay23 v) (ix3 ⟨0, by omega⟩ a b) = v (ix3 ⟨b.val / 4, by omega⟩ ⟨b.val % 4, by omega⟩ a) := by
  pointwise [k0_pay24, k0_pay23]
theorem pay25_apply (v : Vec F S32x4x128 .f32) (a b : Fin 128) :
    k0_pay25 v (ix3 ⟨0, by omega⟩ a b) = v (ix3 ⟨b.val / 4, by omega⟩ ⟨b.val % 4, by omega⟩ a) := by
  pointwise [k0_pay25]
theorem pay26_apply (v : Vec F S20x4x128 .f32) (a b : Fin 128) :
    k0_pay26 v (ix3 ⟨0, by omega⟩ a b) =
      if h : b.val / 4 < 20 then v (ix3 ⟨b.val / 4, h⟩ ⟨b.val % 4, by omega⟩ a) else Scalar.ofBits .f32 0x00000000#32 := by
  pointwise [k0_pay26]
  split <;> rename_i h
  · rw [dif_pos (by omega)]
  · rw [dif_neg (by omega)]
    done

/-- Lane group of token `s`: `4 (s mod 32)` plus the coordinate's block is the lane its scale lies in. -/
theorem pay32_apply (v50 : IVec S128x128 32) (k : Fin k0_t2_loop.trips) (v : Vec F S1x128x128 .f32)
    (w : Vec F S1x128x128 .fp8e4m3) (p : Vec F S128x128 .bf16) (a b : Fin 128) :
    k0_pay32 v50 (Scf.iv 1#32 1#32 k.val) (k0_pay15 v)
      (Scalar.muli (Scalar.select (0#1) (Scalar.addi (Scalar.remsi (Scf.iv 1#32 1#32 k.val) 32#32) 32#32)
                (Scalar.remsi (Scf.iv 1#32 1#32 k.val) 32#32)) 4#32)
      (iota .tc S128x128 32 [1] iota_S128x128_d1_w32) 32#32 k0_pay16 k0_pay17 k0_pay18 w p (ix2 a b)
      = FloatOps.truncf .bf16 bitsLt_bf16_f32
          (Scalar.select (IntOp.cmpi .slt (BitVec.ofNat 32 (k.val + 1)) (v50 (ix2 a b)))
            (FloatOps.extf .f32 bitsLt_bf16_f32 (wid (w (ix3 ⟨0, by omega⟩ a b))
              (v (ix3 ⟨0, by omega⟩ a ⟨4 * ((k.val + 1) % 32) + b.val / 32, by omega⟩))))
            (FloatOps.extf .f32 bitsLt_bf16_f32 (p (ix2 a b)))) := by
  have hiv : Scf.iv 1#32 1#32 k.val = BitVec.ofNat 32 (k.val + 1) := by
    revert k; decide +kernel
  pointwise [k0_pay32, k0_pay15, k0_pay16, k0_pay17, k0_pay18]
  rw [hiv]
  refine congrArg (fun z => FloatOps.truncf .bf16 bitsLt_bf16_f32 (Scalar.select _
    (FloatOps.extf .f32 bitsLt_bf16_f32 (FloatOps.mulf _ (FloatOps.truncf .bf16 bitsLt_bf16_f32 (v (ix3 _ a z))))) _)) (Fin.ext ?_)
  dsimp only
  clear hiv v w a p v50
  revert b
  revert k
  decide +kernel

theorem pay27_apply (v : Vec F S128x1 .i32) (a b : Fin 128) :
    k0_pay27 v (ix2 a b) = v (ix2 a ⟨0, by omega⟩) := by
  pointwise [k0_pay27]

end Cert.Kernel.Hand
-- ==== Proof.Trips.lean ====
module

public import proofs.«01_k».proof.Proof.Gen.Kernel.Loops
public import proofs.«01_k».proof.Proof.Widen

@[expose] public section

/-! What the body's loops compute, in closed form over what the buffers read: the twelve maximum loops over the
    document tokens, and the two over the scores of all the blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

/-- Ten tokens' rows of the widened documents: the tile trip `k` of a maximum loop loads. -/
def tileS (dw : Vec F S23040x128 .bf16) (k : ℕ) : Vec F S1280x128 .bf16 := fun y =>
  dw (ix2 ⟨(1280 * k + (y 0).val) % 23040, Nat.mod_lt _ (by norm_num)⟩ (y 1))

/-- The running maximum of a query tile against the documents after `k` trips. -/
def accS (qt : Vec F S256x128 .bf16) (dw : Vec F S23040x128 .bf16) : ℕ → FVec F S128x256 .f32
  | 0 => k0_pay1
  | k + 1 => k0_pay2 qt (accS qt dw k) (tileS dw k)

/-- The scores of block `k` out of all the blocks' scores, as a block of one row. -/
def rowS (sa : Vec F S48x96x128 .f32) (k : ℕ) : Vec F S1x96x128 .f32 := fun y =>
  sa (ix3 ⟨k % 48, Nat.mod_lt _ (by norm_num)⟩ (y 1) (y 2))

/-- The running lane-wise maximum over the blocks. -/
def topS (sa : Vec F S48x96x128 .f32) : ℕ → FVec F S96x128 .f32
  | 0 => k0_pay6
  | k + 1 => k0_pay7 (topS sa k) (rowS sa k)

/-- The running lane-wise sums over the blocks: of the exponentials, and of the score picked out. -/
def sumS (x6 : Vec F S96x1 .i32) (top : FVec F S96x128 .f32) (sa : Vec F S48x96x128 .f32) :
    ℕ → FVec F S96x128 .f32 × FVec F S96x128 .f32
  | 0 => (k0_pay9, k0_pay9)
  | k + 1 =>
    if h : k < k0_t16_loop.trips then
      (k0_pay11 top (sumS x6 top sa k).1 (rowS sa k), k0_pay12 x6 ⟨k, h⟩ (sumS x6 top sa k).2 (rowS sa k))
    else sumS x6 top sa k

theorem ld_tile (X : Vec F S23040x128 .bf16) (off : Fin 2 → ℕ) (inb) (k : ℕ) (hk : k < 18) (h : off = ![1280 * k, 0]) :
    View.ld (Val := Elt F) (S := S23040x128) (e' := .bf16) X (Rect.unit off S1280x128.size inb) = tileS X k := by
  subst h
  funext y
  refine congrArg X (funext fun a => Fin.ext ?_)
  have h0 : (y 0).val < 1280 := (y 0).isLt
  match a with
  | ⟨0, _⟩ => show 1280 * k + 1 * (y 0).val = (1280 * k + (y 0).val) % 23040; omega
  | ⟨1, _⟩ => show 0 + 1 * (y 1).val = (y 1).val; omega

theorem ld_row (X : Vec F S48x96x128 .f32) (off : Fin 3 → ℕ) (inb) (k : ℕ) (hk : k < 48) (h : off = ![k, 0, 0]) :
    View.ld (Val := Elt F) (S := S48x96x128) (e' := .f32) X (Rect.unit off S1x96x128.size inb) = rowS X k := by
  subst h
  funext y
  refine congrArg X (funext fun a => Fin.ext ?_)
  have h0 : (y 0).val < 1 := (y 0).isLt
  match a with
  | ⟨0, _⟩ => show k + 1 * (y 0).val = k % 48; omega
  | ⟨1, _⟩ => show 0 + 1 * (y 1).val = (y 1).val; omega
  | ⟨2, _⟩ => show 0 + 1 * (y 2).val = (y 2).val; omega

theorem off5_eq : ∀ k : Fin k0_t3_loop.trips, k0_off5 k = ![1280 * k.val, 0] := by decide +kernel

theorem st3_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v50 : IVec S128x128 32) (v52 : FVec F S128x128 .f32) (v53 : IVec S128x128 32) (c32_i32 : BitVec 32) (v55 : IVec S128x128 32) (v62 : IVec S128x128 32) (v63 : BitVec 1) (v97 : Vec F S256x128 .bf16) (X_arg11 : BufTy.Contents (Elt F) arg11.view.ty)  :
    ∀ k, k ≤ 18 → st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 k = accS v97 (arg11.view.read (Elt F) X_arg11) k := by
  intro k
  induction k with
  | zero => intro _; rfl
  | succ k ih =>
    intro hk
    have hk' : k < k0_t3_loop.trips := by
      have : k0_t3_loop.trips = 18 := by decide +kernel
      omega
    have h := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 ⟨k, hk'⟩
    refine h.trans ?_
    have ih' := ih (by omega)
    dsimp only
    rw [ih']
    unfold tripR_k0_t3 trip_k0_t3
    dsimp only
    rw [View.readAt_eq_ld]
    exact congrArg (k0_pay34 v97 _) (ld_tile _ _ _ k (by omega) (off5_eq ⟨k, hk'⟩))

theorem off6_eq : ∀ k : Fin k0_t4_loop.trips, k0_off6 k = ![1280 * k.val, 0] := by decide +kernel

theorem st4_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v106 : Vec F S256x128 .bf16) (X_arg11 : BufTy.Contents (Elt F) arg11.view.ty)  :
    ∀ k, k ≤ 18 → st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 k = accS v106 (arg11.view.read (Elt F) X_arg11) k := by
  intro k
  induction k with
  | zero => intro _; rfl
  | succ k ih =>
    intro hk
    have hk' : k < k0_t4_loop.trips := by
      have : k0_t4_loop.trips = 18 := by decide +kernel
      omega
    have h := st_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 ⟨k, hk'⟩
    refine h.trans ?_
    have ih' := ih (by omega)
    dsimp only
    rw [ih']
    unfold tripR_k0_t4 trip_k0_t4
    dsimp only
    rw [View.readAt_eq_ld]
    exact congrArg (k0_pay38 v106 _) (ld_tile _ _ _ k (by omega) (off6_eq ⟨k, hk'⟩))

theorem off7_eq : ∀ k : Fin k0_t5_loop.trips, k0_off7 k = ![1280 * k.val, 0] := by decide +kernel

theorem st5_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v115 : Vec F S256x128 .bf16) (X_arg11 : BufTy.Contents (Elt F) arg11.view.ty)  :
    ∀ k, k ≤ 18 → st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 k = accS v115 (arg11.view.read (Elt F) X_arg11) k := by
  intro k
  induction k with
  | zero => intro _; rfl
  | succ k ih =>
    intro hk
    have hk' : k < k0_t5_loop.trips := by
      have : k0_t5_loop.trips = 18 := by decide +kernel
      omega
    have h := st_k0_t5_succ (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 ⟨k, hk'⟩
    refine h.trans ?_
    have ih' := ih (by omega)
    dsimp only
    rw [ih']
    unfold tripR_k0_t5 trip_k0_t5
    dsimp only
    rw [View.readAt_eq_ld]
    exact congrArg (k0_pay42 v115 _) (ld_tile _ _ _ k (by omega) (off7_eq ⟨k, hk'⟩))

theorem off8_eq : ∀ k : Fin k0_t6_loop.trips, k0_off8 k = ![1280 * k.val, 0] := by decide +kernel

theorem st6_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v124 : Vec F S256x128 .bf16) (X_arg11 : BufTy.Contents (Elt F) arg11.view.ty)  :
    ∀ k, k ≤ 18 → st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 k = accS v124 (arg11.view.read (Elt F) X_arg11) k := by
  intro k
  induction k with
  | zero => intro _; rfl
  | succ k ih =>
    intro hk
    have hk' : k < k0_t6_loop.trips := by
      have : k0_t6_loop.trips = 18 := by decide +kernel
      omega
    have h := st_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 ⟨k, hk'⟩
    refine h.trans ?_
    have ih' := ih (by omega)
    dsimp only
    rw [ih']
    unfold tripR_k0_t6 trip_k0_t6
    dsimp only
    rw [View.readAt_eq_ld]
    exact congrArg (k0_pay46 v124 _) (ld_tile _ _ _ k (by omega) (off8_eq ⟨k, hk'⟩))

theorem off9_eq : ∀ k : Fin k0_t7_loop.trips, k0_off9 k = ![1280 * k.val, 0] := by decide +kernel

theorem st7_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v133 : Vec F S256x128 .bf16) (X_arg11 : BufTy.Contents (Elt F) arg11.view.ty)  :
    ∀ k, k ≤ 18 → st_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 k = accS v133 (arg11.view.read (Elt F) X_arg11) k := by
  intro k
  induction k with
  | zero => intro _; rfl
  | succ k ih =>
    intro hk
    have hk' : k < k0_t7_loop.trips := by
      have : k0_t7_loop.trips = 18 := by decide +kernel
      omega
    have h := st_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 ⟨k, hk'⟩
    refine h.trans ?_
    have ih' := ih (by omega)
    dsimp only
    rw [ih']
    unfold tripR_k0_t7 trip_k0_t7
    dsimp only
    rw [View.readAt_eq_ld]
    exact congrArg (k0_pay50 v133 _) (ld_tile _ _ _ k (by omega) (off9_eq ⟨k, hk'⟩))

theorem off10_eq : ∀ k : Fin k0_t8_loop.trips, k0_off10 k = ![1280 * k.val, 0] := by decide +kernel

theorem st8_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v142 : Vec F S256x128 .bf16) (X_arg11 : BufTy.Contents (Elt F) arg11.view.ty)  :
    ∀ k, k ≤ 18 → st_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 k = accS v142 (arg11.view.read (Elt F) X_arg11) k := by
  intro k
  induction k with
  | zero => intro _; rfl
  | succ k ih =>
    intro hk
    have hk' : k < k0_t8_loop.trips := by
      have : k0_t8_loop.trips = 18 := by decide +kernel
      omega
    have h := st_k0_t8_succ (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 ⟨k, hk'⟩
    refine h.trans ?_
    have ih' := ih (by omega)
    dsimp only
    rw [ih']
    unfold tripR_k0_t8 trip_k0_t8
    dsimp only
    rw [View.readAt_eq_ld]
    exact congrArg (k0_pay54 v142 _) (ld_tile _ _ _ k (by omega) (off10_eq ⟨k, hk'⟩))

theorem off11_eq : ∀ k : Fin k0_t9_loop.trips, k0_off11 k = ![1280 * k.val, 0] := by decide +kernel

theorem st9_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v151 : Vec F S256x128 .bf16) (X_arg11 : BufTy.Contents (Elt F) arg11.view.ty)  :
    ∀ k, k ≤ 18 → st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 k = accS v151 (arg11.view.read (Elt F) X_arg11) k := by
  intro k
  induction k with
  | zero => intro _; rfl
  | succ k ih =>
    intro hk
    have hk' : k < k0_t9_loop.trips := by
      have : k0_t9_loop.trips = 18 := by decide +kernel
      omega
    have h := st_k0_t9_succ (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 ⟨k, hk'⟩
    refine h.trans ?_
    have ih' := ih (by omega)
    dsimp only
    rw [ih']
    unfold tripR_k0_t9 trip_k0_t9
    dsimp only
    rw [View.readAt_eq_ld]
    exact congrArg (k0_pay58 v151 _) (ld_tile _ _ _ k (by omega) (off11_eq ⟨k, hk'⟩))

theorem off12_eq : ∀ k : Fin k0_t10_loop.trips, k0_off12 k = ![1280 * k.val, 0] := by decide +kernel

theorem st10_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v160 : Vec F S256x128 .bf16) (X_arg11 : BufTy.Contents (Elt F) arg11.view.ty)  :
    ∀ k, k ≤ 18 → st_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 k = accS v160 (arg11.view.read (Elt F) X_arg11) k := by
  intro k
  induction k with
  | zero => intro _; rfl
  | succ k ih =>
    intro hk
    have hk' : k < k0_t10_loop.trips := by
      have : k0_t10_loop.trips = 18 := by decide +kernel
      omega
    have h := st_k0_t10_succ (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 ⟨k, hk'⟩
    refine h.trans ?_
    have ih' := ih (by omega)
    dsimp only
    rw [ih']
    unfold tripR_k0_t10 trip_k0_t10
    dsimp only
    rw [View.readAt_eq_ld]
    exact congrArg (k0_pay62 v160 _) (ld_tile _ _ _ k (by omega) (off12_eq ⟨k, hk'⟩))

theorem off13_eq : ∀ k : Fin k0_t11_loop.trips, k0_off13 k = ![1280 * k.val, 0] := by decide +kernel

theorem st11_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (X_arg11 : BufTy.Contents (Elt F) arg11.view.ty)  :
    ∀ k, k ≤ 18 → st_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 k = accS v169 (arg11.view.read (Elt F) X_arg11) k := by
  intro k
  induction k with
  | zero => intro _; rfl
  | succ k ih =>
    intro hk
    have hk' : k < k0_t11_loop.trips := by
      have : k0_t11_loop.trips = 18 := by decide +kernel
      omega
    have h := st_k0_t11_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 ⟨k, hk'⟩
    refine h.trans ?_
    have ih' := ih (by omega)
    dsimp only
    rw [ih']
    unfold tripR_k0_t11 trip_k0_t11
    dsimp only
    rw [View.readAt_eq_ld]
    exact congrArg (k0_pay66 v169 _) (ld_tile _ _ _ k (by omega) (off13_eq ⟨k, hk'⟩))

theorem off14_eq : ∀ k : Fin k0_t12_loop.trips, k0_off14 k = ![1280 * k.val, 0] := by decide +kernel

theorem st12_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v178 : Vec F S256x128 .bf16) (X_arg11 : BufTy.Contents (Elt F) arg11.view.ty)  :
    ∀ k, k ≤ 18 → st_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 k = accS v178 (arg11.view.read (Elt F) X_arg11) k := by
  intro k
  induction k with
  | zero => intro _; rfl
  | succ k ih =>
    intro hk
    have hk' : k < k0_t12_loop.trips := by
      have : k0_t12_loop.trips = 18 := by decide +kernel
      omega
    have h := st_k0_t12_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 ⟨k, hk'⟩
    refine h.trans ?_
    have ih' := ih (by omega)
    dsimp only
    rw [ih']
    unfold tripR_k0_t12 trip_k0_t12
    dsimp only
    rw [View.readAt_eq_ld]
    exact congrArg (k0_pay70 v178 _) (ld_tile _ _ _ k (by omega) (off14_eq ⟨k, hk'⟩))

theorem off15_eq : ∀ k : Fin k0_t13_loop.trips, k0_off15 k = ![1280 * k.val, 0] := by decide +kernel

theorem st13_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v187 : Vec F S256x128 .bf16) (X_arg11 : BufTy.Contents (Elt F) arg11.view.ty)  :
    ∀ k, k ≤ 18 → st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 k = accS v187 (arg11.view.read (Elt F) X_arg11) k := by
  intro k
  induction k with
  | zero => intro _; rfl
  | succ k ih =>
    intro hk
    have hk' : k < k0_t13_loop.trips := by
      have : k0_t13_loop.trips = 18 := by decide +kernel
      omega
    have h := st_k0_t13_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 ⟨k, hk'⟩
    refine h.trans ?_
    have ih' := ih (by omega)
    dsimp only
    rw [ih']
    unfold tripR_k0_t13 trip_k0_t13
    dsimp only
    rw [View.readAt_eq_ld]
    exact congrArg (k0_pay74 v187 _) (ld_tile _ _ _ k (by omega) (off15_eq ⟨k, hk'⟩))

theorem off16_eq : ∀ k : Fin k0_t14_loop.trips, k0_off16 k = ![1280 * k.val, 0] := by decide +kernel

theorem st14_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v196 : Vec F S256x128 .bf16) (X_arg11 : BufTy.Contents (Elt F) arg11.view.ty)  :
    ∀ k, k ≤ 18 → st_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 k = accS v196 (arg11.view.read (Elt F) X_arg11) k := by
  intro k
  induction k with
  | zero => intro _; rfl
  | succ k ih =>
    intro hk
    have hk' : k < k0_t14_loop.trips := by
      have : k0_t14_loop.trips = 18 := by decide +kernel
      omega
    have h := st_k0_t14_succ (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 ⟨k, hk'⟩
    refine h.trans ?_
    have ih' := ih (by omega)
    dsimp only
    rw [ih']
    unfold tripR_k0_t14 trip_k0_t14
    dsimp only
    rw [View.readAt_eq_ld]
    exact congrArg (k0_pay2 v196 _) (ld_tile _ _ _ k (by omega) (off16_eq ⟨k, hk'⟩))

theorem off18_eq : ∀ k : Fin k0_t15_loop.trips, k0_off18 k = ![k.val, 0, 0] := by decide +kernel
theorem off19_eq : ∀ k : Fin k0_t16_loop.trips, k0_off19 k = ![k.val, 0, 0] := by decide +kernel

theorem st15_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (X_arg13 : BufTy.Contents (Elt F) arg13.view.ty)  :
    ∀ k, k ≤ 48 → st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 k = topS (arg13.view.read (Elt F) X_arg13) k := by
  intro k
  induction k with
  | zero => intro _; rfl
  | succ k ih =>
    intro hk
    have hk' : k < k0_t15_loop.trips := by
      have : k0_t15_loop.trips = 48 := by decide +kernel
      omega
    have h := st_k0_t15_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 ⟨k, hk'⟩
    refine h.trans ?_
    have ih' := ih (by omega)
    dsimp only
    rw [ih']
    unfold tripR_k0_t15 trip_k0_t15
    dsimp only
    rw [View.readAt_eq_ld]
    exact congrArg (k0_pay7 _) (ld_row _ _ _ k (by omega) (off18_eq ⟨k, hk'⟩))

theorem st16_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (v214 : Vec F S96x1 .i32) (v218 : FVec F S96x128 .f32) (X_arg13 : BufTy.Contents (Elt F) arg13.view.ty)  :
    ∀ k, k ≤ 48 → st_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) k
      = sumS v214 v218 (arg13.view.read (Elt F) X_arg13) k := by
  intro k
  induction k with
  | zero => intro _; rfl
  | succ k ih =>
    intro hk
    have hk' : k < k0_t16_loop.trips := by
      have : k0_t16_loop.trips = 48 := by decide +kernel
      omega
    have h := st_k0_t16_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) ⟨k, hk'⟩
    refine h.trans ?_
    have ih' := ih (by omega)
    dsimp only
    rw [ih']
    unfold tripR_k0_t16 trip_k0_t16
    dsimp only
    rw [View.readAt_eq_ld]
    have e := ld_row (arg13.view.read (Elt F) X_arg13) _ (k0_off19_inb i ⟨k, hk'⟩ k0_h2) k (by omega) (off19_eq ⟨k, hk'⟩)
    refine (congrArg (fun z => (k0_pay11 v218 _ z, k0_pay12 v214 ⟨k, hk'⟩ _ z)) e).trans ?_
    rw [sumS, dif_pos hk']

end Cert.Kernel.Hand
end
-- ==== Proof.Reads.lean ====
module

public import proofs.«01_k».proof.Proof.Trips
public import Idealize.ShloMosaic.Lib.WritesUnit

@[expose] public section

/-! What the scratch buffers read once the widening loops have run: the widened queries, the document scales laid
    out by groups of tokens, the widened documents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

local instance instNonemptyElt (e : EltTy) : Nonempty (Elt F e) := inferInstance

/-- The six stores that lay out the document scales. -/
def dsL (x4 : Vec F S180x4x128 .f32) : List (View.Piece (Elt F) S6x128x128 .f32) :=
  [⟨Rect.unit ![5,0,0] S1x128x128.size inb_S6x128x128_S1x128x128_5_0_0, k0_pay26 (View.ld (Val := Elt F) (S := S180x4x128) (e' := .f32) x4 (Rect.unit ![160,0,0] S20x4x128.size inb_S180x4x128_S20x4x128_160_0_0))⟩,
    ⟨Rect.unit ![4,0,0] S1x128x128.size inb_S6x128x128_S1x128x128_4_0_0, k0_pay25 (View.ld (Val := Elt F) (S := S180x4x128) (e' := .f32) x4 (Rect.unit ![128,0,0] S32x4x128.size inb_S180x4x128_S32x4x128_128_0_0))⟩,
    ⟨Rect.unit ![3,0,0] S1x128x128.size inb_S6x128x128_S1x128x128_3_0_0, k0_pay24 (k0_pay23 (View.ld (Val := Elt F) (S := S180x4x128) (e' := .f32) x4 (Rect.unit ![96,0,0] S32x4x128.size inb_S180x4x128_S32x4x128_96_0_0)))⟩,
    ⟨Rect.unit ![2,0,0] S1x128x128.size inb_S6x128x128_S1x128x128_2_0_0, k0_pay22 (View.ld (Val := Elt F) (S := S180x4x128) (e' := .f32) x4 (Rect.unit ![64,0,0] S32x4x128.size inb_S180x4x128_S32x4x128_64_0_0))⟩,
    ⟨Rect.unit ![1,0,0] S1x128x128.size inb_S6x128x128_S1x128x128_1_0_0, k0_pay21 (View.ld (Val := Elt F) (S := S180x4x128) (e' := .f32) x4 (Rect.unit ![32,0,0] S32x4x128.size inb_S180x4x128_S32x4x128_32_0_0))⟩,
    ⟨Rect.unit ![0,0,0] S1x128x128.size inb_S6x128x128_S1x128x128_0_0_0, k0_pay20 (View.ld (Val := Elt F) (S := S180x4x128) (e' := .f32) x4 (Rect.unit ![0,0,0] S32x4x128.size inb_S180x4x128_S32x4x128_0_0_0))⟩]

/-- The last store: 20 tokens' scales, and zeros after them. -/
theorem ds_piece5 (x4 : Vec F S180x4x128 .f32) (x : S1x128x128.Idx) :
    k0_pay26 (View.ld (Val := Elt F) (S := S180x4x128) (e' := .f32) x4 (Rect.unit ![160,0,0] S20x4x128.size inb_S180x4x128_S20x4x128_160_0_0)) x
      = dsS x4 ((Rect.unit (s := S6x128x128) ![5,0,0] S1x128x128.size inb_S6x128x128_S1x128x128_5_0_0).emb x) := by
  obtain ⟨x0, x1, x2, rfl⟩ : ∃ (x0 : Fin 1) (x1 x2 : Fin 128), x = ix3 x0 x1 x2 := ⟨x 0, x 1, x 2, eq_ix3 x⟩
  obtain rfl : x0 = ⟨0, by omega⟩ := Fin.ext (by omega)
  refine (pay26_apply _ x1 x2).trans ?_
  unfold dsS
  by_cases h : x2.val / 4 < 20
  · rw [dif_pos h, dif_pos (by show 32 * (5 + 1 * 0) + (0 + 1 * x2.val) / 4 < 180; omega)]
    refine congrArg x4 (funext fun a => Fin.ext ?_)
    match a with
    | ⟨0, _⟩ => show 160 + 1 * (x2.val / 4) = 32 * (5 + 1 * 0) + (0 + 1 * x2.val) / 4; omega
    | ⟨1, _⟩ => show 0 + 1 * (x2.val % 4) = (0 + 1 * x2.val) % 4; omega
    | ⟨2, _⟩ => show 0 + 1 * x1.val = 0 + 1 * x1.val; rfl
  · rw [dif_neg h, dif_neg (by show ¬ 32 * (5 + 1 * 0) + (0 + 1 * x2.val) / 4 < 180; omega)]

/-- A store of 32 whole tokens' scales is that group of the layout. -/
theorem ds_group (p : Vec F S32x4x128 .f32 → Vec F S1x128x128 .f32)
    (hp : ∀ v (a b : Fin 128), p v (ix3 ⟨0, by omega⟩ a b) = v (ix3 ⟨b.val / 4, by omega⟩ ⟨b.val % 4, by omega⟩ a))
    (k n : ℕ) (hk : k < 5) (hn : n = 32 * k) (h4 : ∀ a, ![n,0,0] a + S32x4x128.size a ≤ S180x4x128.size a) (h6 : ∀ a, ![k,0,0] a + S1x128x128.size a ≤ S6x128x128.size a)
    (x4 : Vec F S180x4x128 .f32) (x : S1x128x128.Idx) :
    p (View.ld (Val := Elt F) (S := S180x4x128) (e' := .f32) x4 (Rect.unit ![n,0,0] S32x4x128.size h4)) x
      = dsS x4 ((Rect.unit (s := S6x128x128) ![k,0,0] S1x128x128.size h6).emb x) := by
  subst hn
  obtain ⟨x0, x1, x2, rfl⟩ : ∃ (x0 : Fin 1) (x1 x2 : Fin 128), x = ix3 x0 x1 x2 := ⟨x 0, x 1, x 2, eq_ix3 x⟩
  obtain rfl : x0 = ⟨0, by omega⟩ := Fin.ext (by omega)
  refine (hp _ x1 x2).trans ?_
  unfold dsS
  rw [dif_pos (by show 32 * (k + 1 * 0) + (0 + 1 * x2.val) / 4 < 180; omega)]
  refine congrArg x4 (funext fun a => Fin.ext ?_)
  match a with
  | ⟨0, _⟩ => show 32 * k + 1 * (x2.val / 4) = 32 * (k + 1 * 0) + (0 + 1 * x2.val) / 4; omega
  | ⟨1, _⟩ => show 0 + 1 * (x2.val % 4) = (0 + 1 * x2.val) % 4; omega
  | ⟨2, _⟩ => show 0 + 1 * x1.val = 0 + 1 * x1.val; rfl

/-- The six stores together are the layout. -/
theorem ds_read {κ : Kind} {sp : Space} (v : View sig κ sp S6x128x128 .f32) (g : v.ty.Contents (Elt F))
    (x4 : Vec F S180x4x128 .f32) : v.read (Elt F) (v.writes (Elt F) g (dsL x4)) = dsS x4 := by
  funext y
  refine View.read_writes_apply_of_pieces v g (dsS x4) (dsL x4) ?_ y ?_
  · intro p hp
    unfold dsL at hp
    rcases List.mem_cons.mp hp with rfl | hp
    · exact ds_piece5 x4
    rcases List.mem_cons.mp hp with rfl | hp
    · exact ds_group k0_pay25 pay25_apply 4 128 (by omega) rfl inb_S180x4x128_S32x4x128_128_0_0 inb_S6x128x128_S1x128x128_4_0_0 x4
    rcases List.mem_cons.mp hp with rfl | hp
    · exact ds_group (fun v => k0_pay24 (k0_pay23 v)) pay24_apply 3 96 (by omega) rfl inb_S180x4x128_S32x4x128_96_0_0 inb_S6x128x128_S1x128x128_3_0_0 x4
    rcases List.mem_cons.mp hp with rfl | hp
    · exact ds_group k0_pay22 pay22_apply 2 64 (by omega) rfl inb_S180x4x128_S32x4x128_64_0_0 inb_S6x128x128_S1x128x128_2_0_0 x4
    rcases List.mem_cons.mp hp with rfl | hp
    · exact ds_group k0_pay21 pay21_apply 1 32 (by omega) rfl inb_S180x4x128_S32x4x128_32_0_0 inb_S6x128x128_S1x128x128_1_0_0 x4
    rcases List.mem_cons.mp hp with rfl | hp
    · exact ds_group k0_pay20 pay20_apply 0 0 (by omega) rfl inb_S180x4x128_S32x4x128_0_0_0 inb_S6x128x128_S1x128x128_0_0_0 x4
    exact absurd hp List.not_mem_nil
  · have key : ∀ g : Fin 6, (y 0).val = g.val → ∃ p ∈ dsL x4, y ∈ p.1.set := by
      intro g hg
      have h1 : (y 1).val < 128 := (y 1).isLt
      have h2 : (y 2).val < 128 := (y 2).isLt
      unfold dsL
      match g with
      | ⟨0, _⟩ =>
        refine ⟨_, List.mem_of_getElem (i := 5) (h := by simp) rfl, (Rect.mem_set_unit (s := S6x128x128) (inb := inb_S6x128x128_S1x128x128_0_0_0)).mpr fun a => ?_⟩
        match a with
        | ⟨0, _⟩ => show 0 ≤ (y 0).val ∧ (y 0).val < 0 + 1; dsimp only at hg; omega
        | ⟨1, _⟩ => show 0 ≤ (y 1).val ∧ (y 1).val < 0 + 128; omega
        | ⟨2, _⟩ => show 0 ≤ (y 2).val ∧ (y 2).val < 0 + 128; omega
      | ⟨1, _⟩ =>
        refine ⟨_, List.mem_of_getElem (i := 4) (h := by simp) rfl, (Rect.mem_set_unit (s := S6x128x128) (inb := inb_S6x128x128_S1x128x128_1_0_0)).mpr fun a => ?_⟩
        match a with
        | ⟨0, _⟩ => show 1 ≤ (y 0).val ∧ (y 0).val < 1 + 1; dsimp only at hg; omega
        | ⟨1, _⟩ => show 0 ≤ (y 1).val ∧ (y 1).val < 0 + 128; omega
        | ⟨2, _⟩ => show 0 ≤ (y 2).val ∧ (y 2).val < 0 + 128; omega
      | ⟨2, _⟩ =>
        refine ⟨_, List.mem_of_getElem (i := 3) (h := by simp) rfl, (Rect.mem_set_unit (s := S6x128x128) (inb := inb_S6x128x128_S1x128x128_2_0_0)).mpr fun a => ?_⟩
        match a with
        | ⟨0, _⟩ => show 2 ≤ (y 0).val ∧ (y 0).val < 2 + 1; dsimp only at hg; omega
        | ⟨1, _⟩ => show 0 ≤ (y 1).val ∧ (y 1).val < 0 + 128; omega
        | ⟨2, _⟩ => show 0 ≤ (y 2).val ∧ (y 2).val < 0 + 128; omega
      | ⟨3, _⟩ =>
        refine ⟨_, List.mem_of_getElem (i := 2) (h := by simp) rfl, (Rect.mem_set_unit (s := S6x128x128) (inb := inb_S6x128x128_S1x128x128_3_0_0)).mpr fun a => ?_⟩
        match a with
        | ⟨0, _⟩ => show 3 ≤ (y 0).val ∧ (y 0).val < 3 + 1; dsimp only at hg; omega
        | ⟨1, _⟩ => show 0 ≤ (y 1).val ∧ (y 1).val < 0 + 128; omega
        | ⟨2, _⟩ => show 0 ≤ (y 2).val ∧ (y 2).val < 0 + 128; omega
      | ⟨4, _⟩ =>
        refine ⟨_, List.mem_of_getElem (i := 1) (h := by simp) rfl, (Rect.mem_set_unit (s := S6x128x128) (inb := inb_S6x128x128_S1x128x128_4_0_0)).mpr fun a => ?_⟩
        match a with
        | ⟨0, _⟩ => show 4 ≤ (y 0).val ∧ (y 0).val < 4 + 1; dsimp only at hg; omega
        | ⟨1, _⟩ => show 0 ≤ (y 1).val ∧ (y 1).val < 0 + 128; omega
        | ⟨2, _⟩ => show 0 ≤ (y 2).val ∧ (y 2).val < 0 + 128; omega
      | ⟨5, _⟩ =>
        refine ⟨_, List.mem_of_getElem (i := 0) (h := by simp) rfl, (Rect.mem_set_unit (s := S6x128x128) (inb := inb_S6x128x128_S1x128x128_5_0_0)).mpr fun a => ?_⟩
        match a with
        | ⟨0, _⟩ => show 5 ≤ (y 0).val ∧ (y 0).val < 5 + 1; dsimp only at hg; omega
        | ⟨1, _⟩ => show 0 ≤ (y 1).val ∧ (y 1).val < 0 + 128; omega
        | ⟨2, _⟩ => show 0 ≤ (y 2).val ∧ (y 2).val < 0 + 128; omega
    have h0 : (y 0).val < 6 := (y 0).isLt
    exact key ⟨(y 0).val, h0⟩ rfl

theorem off1_eq : ∀ k : Fin k0_t1_loop.trips, k0_off1 k = ![128 * k.val, 0] := by decide +kernel

theorem pb1_read (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h1 : k0_cond1 i = 1#1) (X_arg1 : BufTy.Contents (Elt F) arg1.view.ty) (X_arg2 : BufTy.Contents (Elt F) arg2.view.ty)  (G : BufTy.Contents (Elt F) arg10.view.ty) :
    ∀ k, k ≤ 24 → ∀ y : S3072x128.Idx, (y 0).val < 128 * k →
      arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 k)) y
        = qwS (arg1.view.read (Elt F) X_arg1) (arg2.view.read (Elt F) X_arg2) y := by
  intro k
  induction k with
  | zero => intro _ y hy; omega
  | succ k ih =>
    intro hk y hy
    have hk' : k < k0_t1_loop.trips := by
      have : k0_t1_loop.trips = 24 := by decide +kernel
      omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 ⟨k, hk'⟩
    refine (congrArg (fun L => arg10.view.read (Elt F) (arg10.view.writes (Elt F) G L) y) h).trans ?_
    unfold tripL_k0_t1 trip_k0_t1
    dsimp only
    have h0 : (y 0).val < 3072 := (y 0).isLt
    have h1 : (y 1).val < 128 := (y 1).isLt
    by_cases hc : (y 0).val < 128 * k
    · refine (View.read_writes_cons_rows_of_not_mem arg10.view G _ _ _ y (off1_eq ⟨k, hk'⟩) (W := 128) rfl (Or.inl hc)).trans ?_
      exact ih (by omega) y hc
    · refine (View.read_writes_cons_rows_of_mem arg10.view G _ _ _ y (ix2 (n0 := 128) (n1 := 128) ⟨(y 0).val - 128 * k, by omega⟩ ⟨(y 1).val, h1⟩)
        (off1_eq ⟨k, hk'⟩) ?_ ?_).trans ?_
      · show (y 0).val = 128 * k + ((y 0).val - 128 * k); omega
      · rfl
      · refine (pay19_apply _ _ _ _).trans ?_
        unfold qwS
        rw [View.readAt_eq_ld, View.readAt_eq_ld]
        have ho0 : k0_off1 ⟨k, hk'⟩ 0 = 128 * k := by rw [off1_eq]; rfl
        have ho1 : k0_off1 ⟨k, hk'⟩ 1 = 0 := by rw [off1_eq]; rfl
        refine congrArg₂ wid (congrArg (arg1.view.read (Elt F) X_arg1) ?_) (congrArg (arg2.view.read (Elt F) X_arg2) ?_)
        · funext a; apply Fin.ext
          match a with
          | ⟨0, _⟩ => show k0_off1 ⟨k, hk'⟩ 0 + 1 * ((y 0).val - 128 * k) = (y 0).val; omega
          | ⟨1, _⟩ => show k0_off1 ⟨k, hk'⟩ 1 + 1 * (y 1).val = (y 1).val; omega
        · funext a; apply Fin.ext
          match a with
          | ⟨0, _⟩ => show k0_off1 ⟨k, hk'⟩ 0 + 1 * ((y 0).val - 128 * k) = (y 0).val; omega
          | ⟨1, _⟩ => show k0_off1 ⟨k, hk'⟩ 1 + 1 * ((y 1).val / 32) = (y 1).val / 32; omega

theorem off2_eq : ∀ k : Fin k0_t2_loop.trips, k0_off2 k = ![(k.val + 1) / 32, 0, 0] := by decide +kernel
theorem off3_eq : ∀ k : Fin k0_t2_loop.trips, k0_off3 k = ![k.val + 1, 0, 0] := by decide +kernel
theorem off4_eq : ∀ k : Fin k0_t2_loop.trips, k0_off4 k = ![128 * (k.val + 1), 0] := by decide +kernel

/-- Token `k + 1` of every document, as trip `k` of the document loop finds its scales. -/
theorem ds_token (x4 : Vec F S180x4x128 .f32) (k : ℕ) (hk : k < 179) (off : Fin 3 → ℕ) (inb) (h : off = ![(k + 1) / 32, 0, 0]) (a b : Fin 128) :
    View.ld (Val := Elt F) (S := S6x128x128) (e' := .f32) (dsS x4) (Rect.unit off S1x128x128.size inb)
        (ix3 (n0 := 1) (n1 := 128) (n2 := 128) ⟨0, by omega⟩ a ⟨4 * ((k + 1) % 32) + b.val / 32, by omega⟩)
      = x4 (ix3 ⟨k + 1, by omega⟩ ⟨b.val / 32, by omega⟩ a) := by
  subst h
  show dsS x4 _ = _
  unfold dsS
  rw [dif_pos (by show 32 * ((k + 1) / 32 + 1 * 0) + (0 + 1 * (4 * ((k + 1) % 32) + b.val / 32)) / 4 < 180; omega)]
  refine congrArg x4 (funext fun c => Fin.ext ?_)
  match c with
  | ⟨0, _⟩ => show 32 * ((k + 1) / 32 + 1 * 0) + (0 + 1 * (4 * ((k + 1) % 32) + b.val / 32)) / 4 = k + 1; omega
  | ⟨1, _⟩ => show (0 + 1 * (4 * ((k + 1) % 32) + b.val / 32)) % 4 = b.val / 32; omega
  | ⟨2, _⟩ => show 0 + 1 * a.val = a.val; omega

theorem pb2_read (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)  (x4 : Vec F S180x4x128 .f32) (x5 : Vec F S128x1 .i32) (v52 : FVec F S128x128 .f32) (v53 : IVec S128x128 32) (c32_i32 : BitVec 32) (v55 : IVec S128x128 32) (v62 : IVec S128x128 32) (v63 : BitVec 1) (X_arg3 : BufTy.Contents (Elt F) arg3.view.ty) (X_arg12 : BufTy.Contents (Elt F) arg12.view.ty)
    (h12 : arg12.view.read (Elt F) X_arg12 = dsS x4) (G : BufTy.Contents (Elt F) arg11.view.ty)
    (hG : ∀ y : S23040x128.Idx, (y 0).val < 128 → arg11.view.read (Elt F) G y = dwS (arg3.view.read (Elt F) X_arg3) x4 x5 y) :
    ∀ k, k ≤ 179 → ∀ y : S23040x128.Idx, (y 0).val < 128 * (k + 1) →
      arg11.view.read (Elt F) (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5) v52 v53 c32_i32 v55 v62 v63 X_arg3 X_arg12 G k)) y
        = dwS (arg3.view.read (Elt F) X_arg3) x4 x5 y := by
  intro k
  induction k with
  | zero => intro _ y hy; exact hG y (by omega)
  | succ k ih =>
    intro hk y hy
    have hk' : k < k0_t2_loop.trips := by
      have : k0_t2_loop.trips = 179 := by decide +kernel
      omega
    have h := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5) v52 v53 c32_i32 v55 v62 v63 X_arg3 X_arg12 G ⟨k, hk'⟩
    refine (congrArg (fun L => arg11.view.read (Elt F) (arg11.view.writes (Elt F) G L) y) h).trans ?_
    unfold tripL_k0_t2 trip_k0_t2
    dsimp only
    have h0 : (y 0).val < 23040 := (y 0).isLt
    have h1 : (y 1).val < 128 := (y 1).isLt
    by_cases hc : (y 0).val < 128 * (k + 1)
    · refine (View.read_writes_cons_rows_of_not_mem arg11.view G _ _ _ y (off4_eq ⟨k, hk'⟩) (W := 128) rfl (Or.inl hc)).trans ?_
      exact ih (by omega) y hc
    · refine (View.read_writes_cons_rows_of_mem arg11.view G _ _ _ y (ix2 (n0 := 128) (n1 := 128) ⟨(y 0).val - 128 * (k + 1), by omega⟩ ⟨(y 1).val, h1⟩)
        (off4_eq ⟨k, hk'⟩) ?_ ?_).trans ?_
      · show (y 0).val = 128 * (k + 1) + ((y 0).val - 128 * (k + 1)); omega
      · rfl
      · refine (pay32_apply (k0_pay27 x5) ⟨k, hk'⟩ _ _ _ _ _).trans ?_
        rw [View.readAt_eq_ld, View.readAt_eq_ld, View.readAt_eq_ld, h12, pay27_apply]
        have e1 := ds_token x4 k (by omega) _ (k0_off2_inb ⟨k, hk'⟩) (off2_eq ⟨k, hk'⟩) ⟨(y 0).val - 128 * (k + 1), by omega⟩ ⟨(y 1).val, h1⟩
        have ho0 : k0_off3 ⟨k, hk'⟩ 0 = k + 1 := by rw [off3_eq]; rfl
        have ho1 : k0_off3 ⟨k, hk'⟩ 1 = 0 := by rw [off3_eq]; rfl
        have ho2 : k0_off3 ⟨k, hk'⟩ 2 = 0 := by rw [off3_eq]; rfl
        have hdiv : (y 0).val / 128 = k + 1 := by omega
        have hmod : (y 0).val % 128 = (y 0).val - 128 * (k + 1) := by omega
        have hf : (⟨(y 0).val / 128, by omega⟩ : Fin 180) = ⟨k + 1, by omega⟩ := Fin.ext hdiv
        have hj : (⟨(y 0).val % 128, by omega⟩ : Fin 128) = ⟨(y 0).val - 128 * (k + 1), by omega⟩ := Fin.ext hmod
        have hrow := ih (by omega) (ix2 (n0 := 23040) (n1 := 128) ⟨(y 0).val - 128 * (k + 1), by omega⟩ ⟨(y 1).val, h1⟩) (by show (y 0).val - 128 * (k + 1) < _; omega)
        have hz : dwS (arg3.view.read (Elt F) X_arg3) x4 x5 (ix2 (n0 := 23040) (n1 := 128) ⟨(y 0).val - 128 * (k + 1), by omega⟩ ⟨(y 1).val, h1⟩)
            = tokE (arg3.view.read (Elt F) X_arg3) x4 ⟨0, by omega⟩ ⟨(y 0).val - 128 * (k + 1), by omega⟩ ⟨(y 1).val, h1⟩ := by
          have z1 : ((y 0).val - 128 * (k + 1)) / 128 = 0 := by omega
          have z2 : ((y 0).val - 128 * (k + 1)) % 128 = (y 0).val - 128 * (k + 1) := by omega
          have z3 : (⟨((y 0).val - 128 * (k + 1)) % 128, by omega⟩ : Fin 128) = ⟨(y 0).val - 128 * (k + 1), by omega⟩ := Fin.ext z2
          show dwE _ _ _ ⟨((y 0).val - 128 * (k + 1)) / 128, _⟩ ⟨((y 0).val - 128 * (k + 1)) % 128, _⟩ ⟨(y 1).val, h1⟩ = _
          unfold dwE
          rw [if_pos z1, z3]
        have hR : dwS (arg3.view.read (Elt F) X_arg3) x4 x5 y
            = dwE (arg3.view.read (Elt F) X_arg3) x4 x5 ⟨k + 1, by omega⟩ ⟨(y 0).val - 128 * (k + 1), by omega⟩ ⟨(y 1).val, h1⟩ := by
          show dwE _ _ _ ⟨(y 0).val / 128, _⟩ ⟨(y 0).val % 128, _⟩ (y 1) = _
          rw [hf, hj]
          rfl
        rw [hR]
        unfold dwE
        rw [if_neg (by show ¬ k + 1 = 0; omega)]
        refine congrArg (FloatOps.truncf .bf16 bitsLt_bf16_f32) (congrArg₂ (Scalar.select _) ?_ ?_)
        · refine congrArg (FloatOps.extf .f32 bitsLt_bf16_f32) (congrArg₂ wid (congrArg (arg3.view.read (Elt F) X_arg3) ?_) e1)
          funext a; apply Fin.ext
          match a with
          | ⟨0, _⟩ => show k0_off3 ⟨k, hk'⟩ 0 + 1 * 0 = k + 1; omega
          | ⟨1, _⟩ => show k0_off3 ⟨k, hk'⟩ 1 + 1 * ((y 0).val - 128 * (k + 1)) = (y 0).val - 128 * (k + 1); omega
          | ⟨2, _⟩ => show k0_off3 ⟨k, hk'⟩ 2 + 1 * (y 1).val = (y 1).val; omega
        · refine congrArg (FloatOps.extf .f32 bitsLt_bf16_f32) (Eq.trans ?_ (hrow.trans hz))
          refine congrArg (arg11.view.read (Elt F) _) ?_
          funext a; apply Fin.ext
          match a with
          | ⟨0, _⟩ => show 0 + 1 * ((y 0).val - 128 * (k + 1)) = (y 0).val - 128 * (k + 1); omega
          | ⟨1, _⟩ => show 0 + 1 * (y 1).val = (y 1).val; omega

end Cert.Kernel.Hand
end
-- ==== Proof.Body.lean ====
module

public import proofs.«01_k».proof.Proof.Reads
public import Idealize.ShloMosaic.Lib.PointwiseCore

@[expose] public section

/-! What one grid point leaves in its blocks, over what the buffers read: the scores and the per-token maxima of
    one block of documents, piece by piece. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

/-- Query tile `t`: eight queries' 32 rows each. -/
def qtileS (qw : Vec F S3072x128 .bf16) (t : ℕ) : Vec F S256x128 .bf16 := fun y =>
  qw (ix2 ⟨(256 * t + (y 0).val) % 3072, Nat.mod_lt _ (by norm_num)⟩ (y 1))

/-- The maxima over the tokens, query tile `t`. -/
def maxS (qw : Vec F S3072x128 .bf16) (dw : Vec F S23040x128 .bf16) (t : ℕ) : FVec F S128x256 .f32 :=
  accS (qtileS qw t) dw 18

/-- The block of scores a point writes. -/
def scS (qw : Vec F S3072x128 .bf16) (dw : Vec F S23040x128 .bf16) : Vec F S96x128 .f32 := fun y =>
  k0_pay4 (maxS qw dw ((y 0).val / 8)) (ix2 ⟨(y 0).val % 8, by omega⟩ (y 1))

/-- The block of per-token maxima a point writes. -/
def tmS (qw : Vec F S3072x128 .bf16) (dw : Vec F S23040x128 .bf16) : Vec F S3072x128 .f32 := fun y =>
  k0_pay3 (maxS qw dw ((y 0).val / 256)) (ix2 ⟨(y 0).val % 256, by omega⟩ (y 1))

theorem ld_qtile (X : Vec F S3072x128 .bf16) (o : ℕ) (inb) (t : ℕ) (ht : t < 12) (h : o = 256 * t) :
    View.ld (Val := Elt F) (S := S3072x128) (e' := .bf16) X (Rect.unit ![o, 0] S256x128.size inb) = qtileS X t := by
  subst h
  funext y
  refine congrArg X (funext fun a => Fin.ext ?_)
  have h0 : (y 0).val < 256 := (y 0).isLt
  match a with
  | ⟨0, _⟩ => show 256 * t + 1 * (y 0).val = (256 * t + (y 0).val) % 3072; omega
  | ⟨1, _⟩ => show 0 + 1 * (y 1).val = (y 1).val; omega

theorem sc_piece (qw : Vec F S3072x128 .bf16) (dw : Vec F S23040x128 .bf16) (t o : ℕ) (A : FVec F S128x256 .f32)
    (hA : A = maxS qw dw t) (ho : o = 8 * t) (inb) (x : (Rect.unit (s := S96x128) ![o, 0] S8x128.size inb).shape.Idx) :
    k0_pay4 A x = scS qw dw ((Rect.unit (s := S96x128) ![o, 0] S8x128.size inb).emb x) := by
  subst hA ho
  have h0 : (x 0).val < 8 := (x 0).isLt
  have e0 : (((Rect.unit (s := S96x128) ![8 * t, 0] S8x128.size inb).emb x) 0).val = 8 * t + 1 * (x 0).val := rfl
  unfold scS
  rw [show (((Rect.unit (s := S96x128) ![8 * t, 0] S8x128.size inb).emb x) 0).val / 8 = t by rw [e0]; omega]
  refine congrArg (k0_pay4 _) (funext fun a => Fin.ext ?_)
  match a with
  | ⟨0, _⟩ => show (x 0).val = (8 * t + 1 * (x 0).val) % 8; omega
  | ⟨1, _⟩ => show (x 1).val = 0 + 1 * (x 1).val; omega

theorem tm_piece (qw : Vec F S3072x128 .bf16) (dw : Vec F S23040x128 .bf16) (t o : ℕ) (A : FVec F S128x256 .f32)
    (hA : A = maxS qw dw t) (ho : o = 256 * t) (inb) (x : (Rect.unit (s := S3072x128) ![o, 0] S256x128.size inb).shape.Idx) :
    k0_pay3 A x = tmS qw dw ((Rect.unit (s := S3072x128) ![o, 0] S256x128.size inb).emb x) := by
  subst hA ho
  have h0 : (x 0).val < 256 := (x 0).isLt
  have e0 : (((Rect.unit (s := S3072x128) ![256 * t, 0] S256x128.size inb).emb x) 0).val = 256 * t + 1 * (x 0).val := rfl
  unfold tmS
  rw [show (((Rect.unit (s := S3072x128) ![256 * t, 0] S256x128.size inb).emb x) 0).val / 256 = t by rw [e0]; omega]
  refine congrArg (k0_pay3 _) (funext fun a => Fin.ext ?_)
  match a with
  | ⟨0, _⟩ => show (x 0).val = (256 * t + 1 * (x 0).val) % 256; omega
  | ⟨1, _⟩ => show (x 1).val = 0 + 1 * (x 1).val; omega

/-- Twelve stores of whole rows, each what `G` is there, read `G`. -/
theorem read_pieces {κ : Kind} {sp : Space} {s : Shape} {e : EltTy} (v : View sig κ sp s e) (g : v.ty.Contents (Elt F))
    (G : s.Idx → Elt F e) (p0 p1 p2 p3 p4 p5 p6 p7 p8 p9 p10 p11 : View.Piece (Elt F) s e)
    (h0 : ∀ x : p0.1.shape.Idx, p0.2 x = G (p0.1.emb x))
    (h1 : ∀ x : p1.1.shape.Idx, p1.2 x = G (p1.1.emb x))
    (h2 : ∀ x : p2.1.shape.Idx, p2.2 x = G (p2.1.emb x))
    (h3 : ∀ x : p3.1.shape.Idx, p3.2 x = G (p3.1.emb x))
    (h4 : ∀ x : p4.1.shape.Idx, p4.2 x = G (p4.1.emb x))
    (h5 : ∀ x : p5.1.shape.Idx, p5.2 x = G (p5.1.emb x))
    (h6 : ∀ x : p6.1.shape.Idx, p6.2 x = G (p6.1.emb x))
    (h7 : ∀ x : p7.1.shape.Idx, p7.2 x = G (p7.1.emb x))
    (h8 : ∀ x : p8.1.shape.Idx, p8.2 x = G (p8.1.emb x))
    (h9 : ∀ x : p9.1.shape.Idx, p9.2 x = G (p9.1.emb x))
    (h10 : ∀ x : p10.1.shape.Idx, p10.2 x = G (p10.1.emb x))
    (h11 : ∀ x : p11.1.shape.Idx, p11.2 x = G (p11.1.emb x))
    (hc : ∀ y, ∃ p ∈ [p0, p1, p2, p3, p4, p5, p6, p7, p8, p9, p10, p11], y ∈ p.1.set) :
    v.read (Elt F) (v.writes (Elt F) g [p0, p1, p2, p3, p4, p5, p6, p7, p8, p9, p10, p11]) = G := by
  funext y
  refine View.read_writes_apply_of_pieces v g G _ ?_ y (hc y)
  intro p hp
  rcases List.mem_cons.mp hp with rfl | hp
  · exact h0
  rcases List.mem_cons.mp hp with rfl | hp
  · exact h1
  rcases List.mem_cons.mp hp with rfl | hp
  · exact h2
  rcases List.mem_cons.mp hp with rfl | hp
  · exact h3
  rcases List.mem_cons.mp hp with rfl | hp
  · exact h4
  rcases List.mem_cons.mp hp with rfl | hp
  · exact h5
  rcases List.mem_cons.mp hp with rfl | hp
  · exact h6
  rcases List.mem_cons.mp hp with rfl | hp
  · exact h7
  rcases List.mem_cons.mp hp with rfl | hp
  · exact h8
  rcases List.mem_cons.mp hp with rfl | hp
  · exact h9
  rcases List.mem_cons.mp hp with rfl | hp
  · exact h10
  rcases List.mem_cons.mp hp with rfl | hp
  · exact h11
  exact absurd hp List.not_mem_nil

theorem sc_cover (w0 w1 w2 w3 w4 w5 w6 w7 w8 w9 w10 w11 : S8x128.Idx → F .f32) (y : S96x128.Idx) :
    ∃ p ∈ ([⟨Rect.unit ![88, 0] S8x128.size inb_S96x128_S8x128_88_0, w0⟩, ⟨Rect.unit ![80, 0] S8x128.size inb_S96x128_S8x128_80_0, w1⟩, ⟨Rect.unit ![72, 0] S8x128.size inb_S96x128_S8x128_72_0, w2⟩, ⟨Rect.unit ![64, 0] S8x128.size inb_S96x128_S8x128_64_0, w3⟩, ⟨Rect.unit ![56, 0] S8x128.size inb_S96x128_S8x128_56_0, w4⟩, ⟨Rect.unit ![48, 0] S8x128.size inb_S96x128_S8x128_48_0, w5⟩, ⟨Rect.unit ![40, 0] S8x128.size inb_S96x128_S8x128_40_0, w6⟩, ⟨Rect.unit ![32, 0] S8x128.size inb_S96x128_S8x128_32_0, w7⟩, ⟨Rect.unit ![24, 0] S8x128.size inb_S96x128_S8x128_24_0, w8⟩, ⟨Rect.unit ![16, 0] S8x128.size inb_S96x128_S8x128_16_0, w9⟩, ⟨Rect.unit ![8, 0] S8x128.size inb_S96x128_S8x128_8_0, w10⟩, ⟨Rect.unit ![0, 0] S8x128.size inb_S96x128_S8x128_0_0, w11⟩] :
      List (View.Piece (Elt F) S96x128 .f32)), y ∈ p.1.set := by
  have h0 : (y 0).val < 96 := (y 0).isLt
  have h1 : (y 1).val < 128 := (y 1).isLt
  have key : ∀ g : Fin 12, (y 0).val / 8 = g.val → ∃ p ∈ ([⟨Rect.unit ![88, 0] S8x128.size inb_S96x128_S8x128_88_0, w0⟩, ⟨Rect.unit ![80, 0] S8x128.size inb_S96x128_S8x128_80_0, w1⟩, ⟨Rect.unit ![72, 0] S8x128.size inb_S96x128_S8x128_72_0, w2⟩, ⟨Rect.unit ![64, 0] S8x128.size inb_S96x128_S8x128_64_0, w3⟩, ⟨Rect.unit ![56, 0] S8x128.size inb_S96x128_S8x128_56_0, w4⟩, ⟨Rect.unit ![48, 0] S8x128.size inb_S96x128_S8x128_48_0, w5⟩, ⟨Rect.unit ![40, 0] S8x128.size inb_S96x128_S8x128_40_0, w6⟩, ⟨Rect.unit ![32, 0] S8x128.size inb_S96x128_S8x128_32_0, w7⟩, ⟨Rect.unit ![24, 0] S8x128.size inb_S96x128_S8x128_24_0, w8⟩, ⟨Rect.unit ![16, 0] S8x128.size inb_S96x128_S8x128_16_0, w9⟩, ⟨Rect.unit ![8, 0] S8x128.size inb_S96x128_S8x128_8_0, w10⟩, ⟨Rect.unit ![0, 0] S8x128.size inb_S96x128_S8x128_0_0, w11⟩] :
      List (View.Piece (Elt F) S96x128 .f32)), y ∈ p.1.set := by
    intro g hg
    match g with
    | ⟨0, _⟩ =>
      refine ⟨_, List.mem_of_getElem (i := 11) (h := by simp) rfl, (Rect.mem_set_unit (s := S96x128) (inb := inb_S96x128_S8x128_0_0)).mpr fun a => ?_⟩
      match a with
      | ⟨0, _⟩ => show 0 ≤ (y 0).val ∧ (y 0).val < 0 + 8; dsimp only at hg; omega
      | ⟨1, _⟩ => show 0 ≤ (y 1).val ∧ (y 1).val < 0 + 128; omega
    | ⟨1, _⟩ =>
      refine ⟨_, List.mem_of_getElem (i := 10) (h := by simp) rfl, (Rect.mem_set_unit (s := S96x128) (inb := inb_S96x128_S8x128_8_0)).mpr fun a => ?_⟩
      match a with
      | ⟨0, _⟩ => show 8 ≤ (y 0).val ∧ (y 0).val < 8 + 8; dsimp only at hg; omega
      | ⟨1, _⟩ => show 0 ≤ (y 1).val ∧ (y 1).val < 0 + 128; omega
    | ⟨2, _⟩ =>
      refine ⟨_, List.mem_of_getElem (i := 9) (h := by simp) rfl, (Rect.mem_set_unit (s := S96x128) (inb := inb_S96x128_S8x128_16_0)).mpr fun a => ?_⟩
      match a with
      | ⟨0, _⟩ => show 16 ≤ (y 0).val ∧ (y 0).val < 16 + 8; dsimp only at hg; omega
      | ⟨1, _⟩ => show 0 ≤ (y 1).val ∧ (y 1).val < 0 + 128; omega
    | ⟨3, _⟩ =>
      refine ⟨_, List.mem_of_getElem (i := 8) (h := by simp) rfl, (Rect.mem_set_unit (s := S96x128) (inb := inb_S96x128_S8x128_24_0)).mpr fun a => ?_⟩
      match a with
      | ⟨0, _⟩ => show 24 ≤ (y 0).val ∧ (y 0).val < 24 + 8; dsimp only at hg; omega
      | ⟨1, _⟩ => show 0 ≤ (y 1).val ∧ (y 1).val < 0 + 128; omega
    | ⟨4, _⟩ =>
      refine ⟨_, List.mem_of_getElem (i := 7) (h := by simp) rfl, (Rect.mem_set_unit (s := S96x128) (inb := inb_S96x128_S8x128_32_0)).mpr fun a => ?_⟩
      match a with
      | ⟨0, _⟩ => show 32 ≤ (y 0).val ∧ (y 0).val < 32 + 8; dsimp only at hg; omega
      | ⟨1, _⟩ => show 0 ≤ (y 1).val ∧ (y 1).val < 0 + 128; omega
    | ⟨5, _⟩ =>
      refine ⟨_, List.mem_of_getElem (i := 6) (h := by simp) rfl, (Rect.mem_set_unit (s := S96x128) (inb := inb_S96x128_S8x128_40_0)).mpr fun a => ?_⟩
      match a with
      | ⟨0, _⟩ => show 40 ≤ (y 0).val ∧ (y 0).val < 40 + 8; dsimp only at hg; omega
      | ⟨1, _⟩ => show 0 ≤ (y 1).val ∧ (y 1).val < 0 + 128; omega
    | ⟨6, _⟩ =>
      refine ⟨_, List.mem_of_getElem (i := 5) (h := by simp) rfl, (Rect.mem_set_unit (s := S96x128) (inb := inb_S96x128_S8x128_48_0)).mpr fun a => ?_⟩
      match a with
      | ⟨0, _⟩ => show 48 ≤ (y 0).val ∧ (y 0).val < 48 + 8; dsimp only at hg; omega
      | ⟨1, _⟩ => show 0 ≤ (y 1).val ∧ (y 1).val < 0 + 128; omega
    | ⟨7, _⟩ =>
      refine ⟨_, List.mem_of_getElem (i := 4) (h := by simp) rfl, (Rect.mem_set_unit (s := S96x128) (inb := inb_S96x128_S8x128_56_0)).mpr fun a => ?_⟩
      match a with
      | ⟨0, _⟩ => show 56 ≤ (y 0).val ∧ (y 0).val < 56 + 8; dsimp only at hg; omega
      | ⟨1, _⟩ => show 0 ≤ (y 1).val ∧ (y 1).val < 0 + 128; omega
    | ⟨8, _⟩ =>
      refine ⟨_, List.mem_of_getElem (i := 3) (h := by simp) rfl, (Rect.mem_set_unit (s := S96x128) (inb := inb_S96x128_S8x128_64_0)).mpr fun a => ?_⟩
      match a with
      | ⟨0, _⟩ => show 64 ≤ (y 0).val ∧ (y 0).val < 64 + 8; dsimp only at hg; omega
      | ⟨1, _⟩ => show 0 ≤ (y 1).val ∧ (y 1).val < 0 + 128; omega
    | ⟨9, _⟩ =>
      refine ⟨_, List.mem_of_getElem (i := 2) (h := by simp) rfl, (Rect.mem_set_unit (s := S96x128) (inb := inb_S96x128_S8x128_72_0)).mpr fun a => ?_⟩
      match a with
      | ⟨0, _⟩ => show 72 ≤ (y 0).val ∧ (y 0).val < 72 + 8; dsimp only at hg; omega
      | ⟨1, _⟩ => show 0 ≤ (y 1).val ∧ (y 1).val < 0 + 128; omega
    | ⟨10, _⟩ =>
      refine ⟨_, List.mem_of_getElem (i := 1) (h := by simp) rfl, (Rect.mem_set_unit (s := S96x128) (inb := inb_S96x128_S8x128_80_0)).mpr fun a => ?_⟩
      match a with
      | ⟨0, _⟩ => show 80 ≤ (y 0).val ∧ (y 0).val < 80 + 8; dsimp only at hg; omega
      | ⟨1, _⟩ => show 0 ≤ (y 1).val ∧ (y 1).val < 0 + 128; omega
    | ⟨11, _⟩ =>
      refine ⟨_, List.mem_of_getElem (i := 0) (h := by simp) rfl, (Rect.mem_set_unit (s := S96x128) (inb := inb_S96x128_S8x128_88_0)).mpr fun a => ?_⟩
      match a with
      | ⟨0, _⟩ => show 88 ≤ (y 0).val ∧ (y 0).val < 88 + 8; dsimp only at hg; omega
      | ⟨1, _⟩ => show 0 ≤ (y 1).val ∧ (y 1).val < 0 + 128; omega
  exact key ⟨(y 0).val / 8, by omega⟩ rfl

theorem tm_cover (w0 w1 w2 w3 w4 w5 w6 w7 w8 w9 w10 w11 : S256x128.Idx → F .f32) (y : S3072x128.Idx) :
    ∃ p ∈ ([⟨Rect.unit ![2816, 0] S256x128.size inb_S3072x128_S256x128_2816_0, w0⟩, ⟨Rect.unit ![2560, 0] S256x128.size inb_S3072x128_S256x128_2560_0, w1⟩, ⟨Rect.unit ![2304, 0] S256x128.size inb_S3072x128_S256x128_2304_0, w2⟩, ⟨Rect.unit ![2048, 0] S256x128.size inb_S3072x128_S256x128_2048_0, w3⟩, ⟨Rect.unit ![1792, 0] S256x128.size inb_S3072x128_S256x128_1792_0, w4⟩, ⟨Rect.unit ![1536, 0] S256x128.size inb_S3072x128_S256x128_1536_0, w5⟩, ⟨Rect.unit ![1280, 0] S256x128.size inb_S3072x128_S256x128_1280_0, w6⟩, ⟨Rect.unit ![1024, 0] S256x128.size inb_S3072x128_S256x128_1024_0, w7⟩, ⟨Rect.unit ![768, 0] S256x128.size inb_S3072x128_S256x128_768_0, w8⟩, ⟨Rect.unit ![512, 0] S256x128.size inb_S3072x128_S256x128_512_0, w9⟩, ⟨Rect.unit ![256, 0] S256x128.size inb_S3072x128_S256x128_256_0, w10⟩, ⟨Rect.unit ![0, 0] S256x128.size inb_S3072x128_S256x128_0_0, w11⟩] :
      List (View.Piece (Elt F) S3072x128 .f32)), y ∈ p.1.set := by
  have h0 : (y 0).val < 3072 := (y 0).isLt
  have h1 : (y 1).val < 128 := (y 1).isLt
  have key : ∀ g : Fin 12, (y 0).val / 256 = g.val → ∃ p ∈ ([⟨Rect.unit ![2816, 0] S256x128.size inb_S3072x128_S256x128_2816_0, w0⟩, ⟨Rect.unit ![2560, 0] S256x128.size inb_S3072x128_S256x128_2560_0, w1⟩, ⟨Rect.unit ![2304, 0] S256x128.size inb_S3072x128_S256x128_2304_0, w2⟩, ⟨Rect.unit ![2048, 0] S256x128.size inb_S3072x128_S256x128_2048_0, w3⟩, ⟨Rect.unit ![1792, 0] S256x128.size inb_S3072x128_S256x128_1792_0, w4⟩, ⟨Rect.unit ![1536, 0] S256x128.size inb_S3072x128_S256x128_1536_0, w5⟩, ⟨Rect.unit ![1280, 0] S256x128.size inb_S3072x128_S256x128_1280_0, w6⟩, ⟨Rect.unit ![1024, 0] S256x128.size inb_S3072x128_S256x128_1024_0, w7⟩, ⟨Rect.unit ![768, 0] S256x128.size inb_S3072x128_S256x128_768_0, w8⟩, ⟨Rect.unit ![512, 0] S256x128.size inb_S3072x128_S256x128_512_0, w9⟩, ⟨Rect.unit ![256, 0] S256x128.size inb_S3072x128_S256x128_256_0, w10⟩, ⟨Rect.unit ![0, 0] S256x128.size inb_S3072x128_S256x128_0_0, w11⟩] :
      List (View.Piece (Elt F) S3072x128 .f32)), y ∈ p.1.set := by
    intro g hg
    match g with
    | ⟨0, _⟩ =>
      refine ⟨_, List.mem_of_getElem (i := 11) (h := by simp) rfl, (Rect.mem_set_unit (s := S3072x128) (inb := inb_S3072x128_S256x128_0_0)).mpr fun a => ?_⟩
      match a with
      | ⟨0, _⟩ => show 0 ≤ (y 0).val ∧ (y 0).val < 0 + 256; dsimp only at hg; omega
      | ⟨1, _⟩ => show 0 ≤ (y 1).val ∧ (y 1).val < 0 + 128; omega
    | ⟨1, _⟩ =>
      refine ⟨_, List.mem_of_getElem (i := 10) (h := by simp) rfl, (Rect.mem_set_unit (s := S3072x128) (inb := inb_S3072x128_S256x128_256_0)).mpr fun a => ?_⟩
      match a with
      | ⟨0, _⟩ => show 256 ≤ (y 0).val ∧ (y 0).val < 256 + 256; dsimp only at hg; omega
      | ⟨1, _⟩ => show 0 ≤ (y 1).val ∧ (y 1).val < 0 + 128; omega
    | ⟨2, _⟩ =>
      refine ⟨_, List.mem_of_getElem (i := 9) (h := by simp) rfl, (Rect.mem_set_unit (s := S3072x128) (inb := inb_S3072x128_S256x128_512_0)).mpr fun a => ?_⟩
      match a with
      | ⟨0, _⟩ => show 512 ≤ (y 0).val ∧ (y 0).val < 512 + 256; dsimp only at hg; omega
      | ⟨1, _⟩ => show 0 ≤ (y 1).val ∧ (y 1).val < 0 + 128; omega
    | ⟨3, _⟩ =>
      refine ⟨_, List.mem_of_getElem (i := 8) (h := by simp) rfl, (Rect.mem_set_unit (s := S3072x128) (inb := inb_S3072x128_S256x128_768_0)).mpr fun a => ?_⟩
      match a with
      | ⟨0, _⟩ => show 768 ≤ (y 0).val ∧ (y 0).val < 768 + 256; dsimp only at hg; omega
      | ⟨1, _⟩ => show 0 ≤ (y 1).val ∧ (y 1).val < 0 + 128; omega
    | ⟨4, _⟩ =>
      refine ⟨_, List.mem_of_getElem (i := 7) (h := by simp) rfl, (Rect.mem_set_unit (s := S3072x128) (inb := inb_S3072x128_S256x128_1024_0)).mpr fun a => ?_⟩
      match a with
      | ⟨0, _⟩ => show 1024 ≤ (y 0).val ∧ (y 0).val < 1024 + 256; dsimp only at hg; omega
      | ⟨1, _⟩ => show 0 ≤ (y 1).val ∧ (y 1).val < 0 + 128; omega
    | ⟨5, _⟩ =>
      refine ⟨_, List.mem_of_getElem (i := 6) (h := by simp) rfl, (Rect.mem_set_unit (s := S3072x128) (inb := inb_S3072x128_S256x128_1280_0)).mpr fun a => ?_⟩
      match a with
      | ⟨0, _⟩ => show 1280 ≤ (y 0).val ∧ (y 0).val < 1280 + 256; dsimp only at hg; omega
      | ⟨1, _⟩ => show 0 ≤ (y 1).val ∧ (y 1).val < 0 + 128; omega
    | ⟨6, _⟩ =>
      refine ⟨_, List.mem_of_getElem (i := 5) (h := by simp) rfl, (Rect.mem_set_unit (s := S3072x128) (inb := inb_S3072x128_S256x128_1536_0)).mpr fun a => ?_⟩
      match a with
      | ⟨0, _⟩ => show 1536 ≤ (y 0).val ∧ (y 0).val < 1536 + 256; dsimp only at hg; omega
      | ⟨1, _⟩ => show 0 ≤ (y 1).val ∧ (y 1).val < 0 + 128; omega
    | ⟨7, _⟩ =>
      refine ⟨_, List.mem_of_getElem (i := 4) (h := by simp) rfl, (Rect.mem_set_unit (s := S3072x128) (inb := inb_S3072x128_S256x128_1792_0)).mpr fun a => ?_⟩
      match a with
      | ⟨0, _⟩ => show 1792 ≤ (y 0).val ∧ (y 0).val < 1792 + 256; dsimp only at hg; omega
      | ⟨1, _⟩ => show 0 ≤ (y 1).val ∧ (y 1).val < 0 + 128; omega
    | ⟨8, _⟩ =>
      refine ⟨_, List.mem_of_getElem (i := 3) (h := by simp) rfl, (Rect.mem_set_unit (s := S3072x128) (inb := inb_S3072x128_S256x128_2048_0)).mpr fun a => ?_⟩
      match a with
      | ⟨0, _⟩ => show 2048 ≤ (y 0).val ∧ (y 0).val < 2048 + 256; dsimp only at hg; omega
      | ⟨1, _⟩ => show 0 ≤ (y 1).val ∧ (y 1).val < 0 + 128; omega
    | ⟨9, _⟩ =>
      refine ⟨_, List.mem_of_getElem (i := 2) (h := by simp) rfl, (Rect.mem_set_unit (s := S3072x128) (inb := inb_S3072x128_S256x128_2304_0)).mpr fun a => ?_⟩
      match a with
      | ⟨0, _⟩ => show 2304 ≤ (y 0).val ∧ (y 0).val < 2304 + 256; dsimp only at hg; omega
      | ⟨1, _⟩ => show 0 ≤ (y 1).val ∧ (y 1).val < 0 + 128; omega
    | ⟨10, _⟩ =>
      refine ⟨_, List.mem_of_getElem (i := 1) (h := by simp) rfl, (Rect.mem_set_unit (s := S3072x128) (inb := inb_S3072x128_S256x128_2560_0)).mpr fun a => ?_⟩
      match a with
      | ⟨0, _⟩ => show 2560 ≤ (y 0).val ∧ (y 0).val < 2560 + 256; dsimp only at hg; omega
      | ⟨1, _⟩ => show 0 ≤ (y 1).val ∧ (y 1).val < 0 + 128; omega
    | ⟨11, _⟩ =>
      refine ⟨_, List.mem_of_getElem (i := 0) (h := by simp) rfl, (Rect.mem_set_unit (s := S3072x128) (inb := inb_S3072x128_S256x128_2816_0)).mpr fun a => ?_⟩
      match a with
      | ⟨0, _⟩ => show 2816 ≤ (y 0).val ∧ (y 0).val < 2816 + 256; dsimp only at hg; omega
      | ⟨1, _⟩ => show 0 ≤ (y 1).val ∧ (y 1).val < 0 + 128; omega
  exact key ⟨(y 0).val / 256, by omega⟩ rfl

/-- Once the document loop has run, the document scratch reads the widened documents. -/
theorem dw_all (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)  (f3 : BufTy.Contents (Elt F) arg3.view.ty) (x4 : Vec F S180x4x128 .f32) (x5 : Vec F S128x1 .i32) (f11 : BufTy.Contents (Elt F) arg11.view.ty)
    (L12 : List (View.Piece (Elt F) S6x128x128 .f32)) (hL : L12 = dsL x4) (k : ℕ) (hk : k = 179) :
    arg11.view.read (Elt F) (arg11.view.writes (Elt F) f11
      (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5)
          (k0_pay28 (arg12.view.readCov L12 (Rect.unit (s := S6x128x128) ![0, 0, 0] S1x128x128.size inb_S6x128x128_S1x128x128_0_0_0).toLoadRect))
          (iota .tc S128x128 32 [1] iota_S128x128_d1_w32) 32#32 k0_pay29 k0_pay30 1#1 f3
          (arg12.view.writes (Elt F) arg12.view.junk L12)
          (arg11.view.writes (Elt F) f11 [⟨Rect.unit ![0, 0] S128x128.size inb_S23040x128_S128x128_0_0,
            k0_pay31 (k0_pay28 (arg12.view.readCov L12 (Rect.unit (s := S6x128x128) ![0, 0, 0] S1x128x128.size inb_S6x128x128_S1x128x128_0_0_0).toLoadRect))
              (iota .tc S128x128 32 [1] iota_S128x128_d1_w32) 32#32 k0_pay29 k0_pay30 1#1
              (View.readAt (Elt F) arg3.view (Rect.unit (s := S180x128x128) ![0, 0, 0] S1x128x128.size inb_S180x128x128_S1x128x128_0_0_0).toLoadRect f3)⟩]) k
        ++ [⟨Rect.unit ![0, 0] S128x128.size inb_S23040x128_S128x128_0_0,
            k0_pay31 (k0_pay28 (arg12.view.readCov L12 (Rect.unit (s := S6x128x128) ![0, 0, 0] S1x128x128.size inb_S6x128x128_S1x128x128_0_0_0).toLoadRect))
              (iota .tc S128x128 32 [1] iota_S128x128_d1_w32) 32#32 k0_pay29 k0_pay30 1#1
              (View.readAt (Elt F) arg3.view (Rect.unit (s := S180x128x128) ![0, 0, 0] S1x128x128.size inb_S180x128x128_S1x128x128_0_0_0).toLoadRect f3)⟩]))
      = dwS (arg3.view.read (Elt F) f3) x4 x5 := by
  subst hL hk
  funext y
  rw [View.writes_append]
  have hy : (y 0).val < 23040 := (y 0).isLt
  refine pb2_read 𝒱 c bd i arg1 harg1 arg2 harg2 arg3 harg3 arg4 harg4 arg5 harg5 arg6 harg6 arg7 harg7 arg8 harg8 arg9 harg9 arg10 harg10 arg11 harg11 arg12 harg12 arg13 harg13 x4 x5 _ _ _ _ _ _ f3 _ (ds_read _ _ _) _ ?_ 179 le_rfl y (by omega)
  intro y hy
  have h1 : (y 1).val < 128 := (y 1).isLt
  refine (View.read_writes_cons_rows_of_mem arg11.view f11 _ _ _ y (ix2 (n0 := 128) (n1 := 128) ⟨(y 0).val, hy⟩ ⟨(y 1).val, h1⟩) (o := 0) rfl ?_ ?_).trans ?_
  · show (y 0).val = 0 + (y 0).val; omega
  · rfl
  refine (pay31_apply _ _ _ _).trans ?_
  have z1 : (y 0).val / 128 = 0 := by omega
  have z2 : (⟨(y 0).val % 128, by omega⟩ : Fin 128) = ⟨(y 0).val, hy⟩ := Fin.ext (by show (y 0).val % 128 = (y 0).val; omega)
  show _ = dwE _ _ _ ⟨(y 0).val / 128, _⟩ ⟨(y 0).val % 128, _⟩ (y 1)
  unfold dwE
  rw [if_pos z1, z2]
  unfold tokE
  unfold View.readCov
  rw [View.readAt_eq_ld, View.readAt_eq_ld, ds_read]
  refine congrArg₂ wid (congrArg (arg3.view.read (Elt F) f3) ?_) ?_
  · funext a; apply Fin.ext
    match a with
    | ⟨0, _⟩ => rfl
    | ⟨1, _⟩ => show 0 + 1 * (y 0).val = (y 0).val; omega
    | ⟨2, _⟩ => show 0 + 1 * (y 1).val = (y 1).val; omega
  · show dsS x4 _ = _
    unfold dsS
    rw [dif_pos (by show 32 * (0 + 1 * 0) + (0 + 1 * ((y 1).val / 32)) / 4 < 180; omega)]
    refine congrArg x4 (funext fun a => Fin.ext ?_)
    match a with
    | ⟨0, _⟩ => show 32 * (0 + 1 * 0) + (0 + 1 * ((y 1).val / 32)) / 4 = 0; omega
    | ⟨1, _⟩ => show (0 + 1 * ((y 1).val / 32)) % 4 = (y 1).val / 32; omega
    | ⟨2, _⟩ => show 0 + 1 * (y 0).val = (y 0).val; omega

theorem st3_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v50 : IVec S128x128 32) (v52 : FVec F S128x128 .f32) (v53 : IVec S128x128 32) (c32_i32 : BitVec 32) (v55 : IVec S128x128 32) (v62 : IVec S128x128 32) (v63 : BitVec 1) (v97 : Vec F S256x128 .bf16) (X_arg11 : BufTy.Contents (Elt F) arg11.view.ty)  (qw : Vec F S3072x128 .bf16) (dw : Vec F S23040x128 .bf16)
    (hv : v97 = qtileS qw 0) (hX : arg11.view.read (Elt F) X_arg11 = dw) (k : ℕ) (hk : k = 18) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 k = maxS qw dw 0 := by
  subst hv hX hk
  exact st3_eq 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 _ X_arg11 18 le_rfl

theorem st4_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v106 : Vec F S256x128 .bf16) (X_arg11 : BufTy.Contents (Elt F) arg11.view.ty)  (qw : Vec F S3072x128 .bf16) (dw : Vec F S23040x128 .bf16)
    (hv : v106 = qtileS qw 1) (hX : arg11.view.read (Elt F) X_arg11 = dw) (k : ℕ) (hk : k = 18) :
    st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 k = maxS qw dw 1 := by
  subst hv hX hk
  exact st4_eq 𝒱 c bd i arg1 harg1 arg2 harg2 arg3 harg3 arg4 harg4 arg5 harg5 arg6 harg6 arg7 harg7 arg8 harg8 arg9 harg9 arg10 harg10 arg11 harg11 arg12 harg12 arg13 harg13 v100 _ X_arg11 18 le_rfl

theorem st5_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v115 : Vec F S256x128 .bf16) (X_arg11 : BufTy.Contents (Elt F) arg11.view.ty)  (qw : Vec F S3072x128 .bf16) (dw : Vec F S23040x128 .bf16)
    (hv : v115 = qtileS qw 2) (hX : arg11.view.read (Elt F) X_arg11 = dw) (k : ℕ) (hk : k = 18) :
    st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 k = maxS qw dw 2 := by
  subst hv hX hk
  exact st5_eq 𝒱 c bd i arg1 harg1 arg2 harg2 arg3 harg3 arg4 harg4 arg5 harg5 arg6 harg6 arg7 harg7 arg8 harg8 arg9 harg9 arg10 harg10 arg11 harg11 arg12 harg12 arg13 harg13 v100 _ X_arg11 18 le_rfl

theorem st6_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v124 : Vec F S256x128 .bf16) (X_arg11 : BufTy.Contents (Elt F) arg11.view.ty)  (qw : Vec F S3072x128 .bf16) (dw : Vec F S23040x128 .bf16)
    (hv : v124 = qtileS qw 3) (hX : arg11.view.read (Elt F) X_arg11 = dw) (k : ℕ) (hk : k = 18) :
    st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 k = maxS qw dw 3 := by
  subst hv hX hk
  exact st6_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st7_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v133 : Vec F S256x128 .bf16) (X_arg11 : BufTy.Contents (Elt F) arg11.view.ty)  (qw : Vec F S3072x128 .bf16) (dw : Vec F S23040x128 .bf16)
    (hv : v133 = qtileS qw 4) (hX : arg11.view.read (Elt F) X_arg11 = dw) (k : ℕ) (hk : k = 18) :
    st_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 k = maxS qw dw 4 := by
  subst hv hX hk
  exact st7_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st8_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v142 : Vec F S256x128 .bf16) (X_arg11 : BufTy.Contents (Elt F) arg11.view.ty)  (qw : Vec F S3072x128 .bf16) (dw : Vec F S23040x128 .bf16)
    (hv : v142 = qtileS qw 5) (hX : arg11.view.read (Elt F) X_arg11 = dw) (k : ℕ) (hk : k = 18) :
    st_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 k = maxS qw dw 5 := by
  subst hv hX hk
  exact st8_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st9_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v151 : Vec F S256x128 .bf16) (X_arg11 : BufTy.Contents (Elt F) arg11.view.ty)  (qw : Vec F S3072x128 .bf16) (dw : Vec F S23040x128 .bf16)
    (hv : v151 = qtileS qw 6) (hX : arg11.view.read (Elt F) X_arg11 = dw) (k : ℕ) (hk : k = 18) :
    st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 k = maxS qw dw 6 := by
  subst hv hX hk
  exact st9_eq 𝒱 c bd i arg1 harg1 arg2 harg2 arg3 harg3 arg4 harg4 arg5 harg5 arg6 harg6 arg7 harg7 arg8 harg8 arg9 harg9 arg10 harg10 arg11 harg11 arg12 harg12 arg13 harg13 v146 _ X_arg11 18 le_rfl

theorem st10_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v160 : Vec F S256x128 .bf16) (X_arg11 : BufTy.Contents (Elt F) arg11.view.ty)  (qw : Vec F S3072x128 .bf16) (dw : Vec F S23040x128 .bf16)
    (hv : v160 = qtileS qw 7) (hX : arg11.view.read (Elt F) X_arg11 = dw) (k : ℕ) (hk : k = 18) :
    st_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 k = maxS qw dw 7 := by
  subst hv hX hk
  exact st10_eq 𝒱 c bd i arg1 harg1 arg2 harg2 arg3 harg3 arg4 harg4 arg5 harg5 arg6 harg6 arg7 harg7 arg8 harg8 arg9 harg9 arg10 harg10 arg11 harg11 arg12 harg12 arg13 harg13 v146 _ X_arg11 18 le_rfl

theorem st11_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (X_arg11 : BufTy.Contents (Elt F) arg11.view.ty)  (qw : Vec F S3072x128 .bf16) (dw : Vec F S23040x128 .bf16)
    (hv : v169 = qtileS qw 8) (hX : arg11.view.read (Elt F) X_arg11 = dw) (k : ℕ) (hk : k = 18) :
    st_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 k = maxS qw dw 8 := by
  subst hv hX hk
  exact st11_eq 𝒱 c bd i arg1 harg1 arg2 harg2 arg3 harg3 arg4 harg4 arg5 harg5 arg6 harg6 arg7 harg7 arg8 harg8 arg9 harg9 arg10 harg10 arg11 harg11 arg12 harg12 arg13 harg13 _ v170 c0_i32_130 X_arg11 18 le_rfl

theorem st12_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v178 : Vec F S256x128 .bf16) (X_arg11 : BufTy.Contents (Elt F) arg11.view.ty)  (qw : Vec F S3072x128 .bf16) (dw : Vec F S23040x128 .bf16)
    (hv : v178 = qtileS qw 9) (hX : arg11.view.read (Elt F) X_arg11 = dw) (k : ℕ) (hk : k = 18) :
    st_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 k = maxS qw dw 9 := by
  subst hv hX hk
  exact st12_eq 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 _ X_arg11 18 le_rfl

theorem st13_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v187 : Vec F S256x128 .bf16) (X_arg11 : BufTy.Contents (Elt F) arg11.view.ty)  (qw : Vec F S3072x128 .bf16) (dw : Vec F S23040x128 .bf16)
    (hv : v187 = qtileS qw 10) (hX : arg11.view.read (Elt F) X_arg11 = dw) (k : ℕ) (hk : k = 18) :
    st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 k = maxS qw dw 10 := by
  subst hv hX hk
  exact st13_eq 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 _ X_arg11 18 le_rfl

theorem st14_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v196 : Vec F S256x128 .bf16) (X_arg11 : BufTy.Contents (Elt F) arg11.view.ty)  (qw : Vec F S3072x128 .bf16) (dw : Vec F S23040x128 .bf16)
    (hv : v196 = qtileS qw 11) (hX : arg11.view.read (Elt F) X_arg11 = dw) (k : ℕ) (hk : k = 18) :
    st_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 k = maxS qw dw 11 := by
  subst hv hX hk
  exact st14_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem ld_whole5 (X : Vec F S128x1 .i32) :
    View.ld (Val := Elt F) (S := S128x1) (e' := .i32) X (Rect.unit ![0, 0] S128x1.size inb_S128x1_S128x1_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

theorem ld_whole6 (X : Vec F S96x1 .i32) :
    View.ld (Val := Elt F) (S := S96x1) (e' := .i32) X (Rect.unit ![0, 0] S96x1.size inb_S96x1_S96x1_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

theorem ld_whole7 (X : Vec F S96x128 .f32) :
    View.ld (Val := Elt F) (S := S96x128) (e' := .f32) X (Rect.unit ![0, 0] S96x128.size inb_S96x128_S96x128_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

/-- The scores of all the blocks once block `t`'s have been stored. -/
def saS (old : Vec F S48x96x128 .f32) (t : ℕ) (sc : Vec F S96x128 .f32) : Vec F S48x96x128 .f32 := fun y =>
  if (y 0).val = t then sc (ix2 (y 1) (y 2)) else old y

/-- The loss, off the scores of all the blocks. -/
def lossS (x6 : Vec F S96x1 .i32) (sa : Vec F S48x96x128 .f32) : Vec F S96x1 .f32 :=
  k0_pay13 (topS sa 48) (sumS x6 (topS sa 48) sa 48).1 (sumS x6 (topS sa 48) sa 48).2

theorem pay5_apply (v : Vec F S96x128 .f32) (a : Fin 1) (b : Fin 96) (d : Fin 128) :
    k0_pay5 v (ix3 a b d) = v (ix2 b d) := by
  pointwise [k0_pay5]

theorem off17_eq : ∀ i : grid0.Coords, k0_off17 i = ![(i 0).val, 0, 0] := by decide +kernel

/-- Storing a block of scores into the scores of all the blocks. -/
theorem sa_read {κ : Kind} {sp : Space} (v : View sig κ sp S48x96x128 .f32) (f : v.ty.Contents (Elt F)) (i : grid0.Coords) (inb)
    (sc sc' : Vec F S96x128 .f32) (h : sc = sc') :
    v.read (Elt F) (v.writes (Elt F) f [⟨Rect.unit (s := S48x96x128) (k0_off17 i) S1x96x128.size inb, k0_pay5 sc⟩])
      = saS (v.read (Elt F) f) (i 0).val sc' := by
  subst h
  funext y
  unfold saS
  have h1 : (y 1).val < 96 := (y 1).isLt
  have h2 : (y 2).val < 128 := (y 2).isLt
  by_cases hc : (y 0).val = (i 0).val
  · rw [if_pos hc]
    refine (View.read_writes_cons_unit_of_mem v f inb (k0_pay5 sc) [] y (ix3 (n0 := 1) (n1 := 96) (n2 := 128) ⟨0, by omega⟩ ⟨(y 1).val, h1⟩ ⟨(y 2).val, h2⟩) (off17_eq i) ?_).trans ?_
    · intro a
      match a with
      | ⟨0, _⟩ => show (y 0).val = (i 0).val + 0; omega
      | ⟨1, _⟩ => show (y 1).val = 0 + (y 1).val; omega
      | ⟨2, _⟩ => show (y 2).val = 0 + (y 2).val; omega
    · exact pay5_apply sc _ _ _
  · rw [if_neg hc]
    refine (View.read_writes_cons_unit_of_not_mem v f inb (k0_pay5 sc) [] y (off17_eq i) 0 ?_).trans rfl
    show (y 0).val < (i 0).val ∨ (i 0).val + 1 ≤ (y 0).val
    omega

theorem loss_whole {κ : Kind} {sp : Space} (v : View sig κ sp S96x1 .f32) (f : v.ty.Contents (Elt F)) (inb) (x : Vec F S96x1 .f32) :
    v.read (Elt F) (v.writes (Elt F) f [⟨Rect.unit (s := S96x1) ![0, 0] ![96, 1] inb, x⟩]) = x := by
  funext y
  refine View.read_writes_cons_unit_of_mem v f inb x [] y y rfl ?_
  intro a
  match a with
  | ⟨0, _⟩ => show (y 0).val = 0 + (y 0).val; omega
  | ⟨1, _⟩ => show (y 1).val = 0 + (y 1).val; omega

theorem loss_eq (x6 : Vec F S96x1 .i32) (sa : Vec F S48x96x128 .f32) (A) (S : _ × _)
    (hA : A = topS sa 48) (hS : S = sumS x6 (topS sa 48) sa 48) : k0_pay13 A S.1 S.2 = lossS x6 sa := by
  subst hA hS; rfl

theorem st15_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (X_arg13 : BufTy.Contents (Elt F) arg13.view.ty)  (sa) (hX : arg13.view.read (Elt F) X_arg13 = sa) (k : ℕ) (hk : k = 48) :
    st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 k = topS sa 48 := by
  subst hk hX
  exact st15_eq _ _ _ _ _ _ _ _ _ _ _ _ _ _ _ _ _ _ _ _ _ _ _ _ _ _ _ _ _ _ _ _ 48 (le_refl _)

theorem st16_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (v214 : Vec F S96x1 .i32) (v218 : FVec F S96x128 .f32) (X_arg13 : BufTy.Contents (Elt F) arg13.view.ty)  (sa) (hX : arg13.view.read (Elt F) X_arg13 = sa) (x6) (h6 : v214 = x6) (hv : v218 = topS sa 48) (k : ℕ) (hk : k = 48) :
    st_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) k = sumS x6 (topS sa 48) sa 48 := by
  subst hk h6 hX hv
  exact st16_eq _ _ _ _ _ _ _ _ _ _ _ _ _ _ _ _ _ _ _ _ _ _ _ _ _ _ _ _ _ _ _ _ _ _ 48 (le_refl _)

/-- What the loop over the query chunks leaves is all the widened queries. -/
theorem qw_all (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h1 : k0_cond1 i = 1#1) (X_arg1 : BufTy.Contents (Elt F) arg1.view.ty) (X_arg2 : BufTy.Contents (Elt F) arg2.view.ty)  (G : BufTy.Contents (Elt F) arg10.view.ty) (k : ℕ) (hk : k = 24) :
    arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 k)) = qwS (arg1.view.read (Elt F) X_arg1) (arg2.view.read (Elt F) X_arg2) := by
  subst hk
  funext y
  have hy : (y 0).val < 3072 := (y 0).isLt
  exact pb1_read _ _ _ _ _ _ _ _ _ _ _ _ _ _ _ _ _ _ _ _ _ _ _ _ _ _ _ _ _ _ _ _ _ _ 24 (le_refl _) y (by omega)

end Cert.Kernel.Hand
end
-- ==== Proof.RunMid.lean ====
module

public import proofs.«01_k».proof.Proof.Gen.Kernel.Frame
public import proofs.«01_k».proof.Proof.Gen.Kernel.Loops

@[expose] public section

/-! The run of the body at a grid point that is neither the first nor the last: its loops and straight-line stretches put together. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runMid (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg9.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} f8) ∗ (arg9.view.loc (c : Thread nD τ) ↦[arg9.view.set]{fullShare} O.2.1) ∗ (arg10.view.loc (c : Thread nD τ) ↦[arg10.view.set]{fullShare} f10) ∗ (arg11.view.loc (c : Thread nD τ) ↦[arg11.view.set]{fullShare} O.2.2.1) ∗ (arg12.view.loc (c : Thread nD τ) ↦[arg12.view.set]{fullShare} O.2.2.2.1) ∗ (arg13.view.loc (c : Thread nD τ) ↦[arg13.view.set]{fullShare} O.2.2.2.2))) } := by
  refine ⟨(?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.Kernel.Hand

end
-- ==== Proof.ValsMid.lean ====
module

public import proofs.«01_k».proof.Proof.Body
public import proofs.«01_k».proof.Proof.RunMid

@[expose] public section

/-! What the body's run at a grid point that is neither the first nor the last leaves, read through its windows. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem mid_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (arg10.view.read (Elt F) f10) (dwS (arg3.view.read (Elt F) f3) (arg4.view.read (Elt F) f4) (arg5.view.read (Elt F) f5)) := by
  unfold runMid
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem mid_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = tmS (arg10.view.read (Elt F) f10) (dwS (arg3.view.read (Elt F) f3) (arg4.view.read (Elt F) f4) (arg5.view.read (Elt F) f5)) := by
  unfold runMid
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem mid_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2 = saS (arg13.view.read (Elt F) f13) (i 0).val (scS (arg10.view.read (Elt F) f10) (dwS (arg3.view.read (Elt F) f3) (arg4.view.read (Elt F) f4) (arg5.view.read (Elt F) f5))) := by
  unfold runMid
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

end Cert.Kernel.Hand
end
-- ==== Proof.RunFirst.lean ====
module

public import proofs.«01_k».proof.Proof.Gen.Kernel.Frame
public import proofs.«01_k».proof.Proof.Gen.Kernel.Loops

@[expose] public section

/-! The run of the body at a grid point that is the first: its loops and straight-line stretches put together. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runFirst (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg9.view.ty × BufTy.Contents (Elt F) arg10.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} f8) ∗ (arg9.view.loc (c : Thread nD τ) ↦[arg9.view.set]{fullShare} O.2.1) ∗ (arg10.view.loc (c : Thread nD τ) ↦[arg10.view.set]{fullShare} O.2.2.1) ∗ (arg11.view.loc (c : Thread nD τ) ↦[arg11.view.set]{fullShare} O.2.2.2.1) ∗ (arg12.view.loc (c : Thread nD τ) ↦[arg12.view.set]{fullShare} O.2.2.2.2.1) ∗ (arg13.view.loc (c : Thread nD τ) ↦[arg13.view.set]{fullShare} O.2.2.2.2.2))) } := by
  refine ⟨(?_, ?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.Kernel.Hand

end
-- ==== Proof.ValsFirst.lean ====
module

public import proofs.«01_k».proof.Proof.Body
public import proofs.«01_k».proof.Proof.RunFirst

@[expose] public section

/-! What the body's run at the first grid point leaves, read through its windows. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem first_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (qwS (arg1.view.read (Elt F) f1) (arg2.view.read (Elt F) f2)) (dwS (arg3.view.read (Elt F) f3) (arg4.view.read (Elt F) f4) (arg5.view.read (Elt F) f5)) := by
  unfold runFirst
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem first_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = tmS (qwS (arg1.view.read (Elt F) f1) (arg2.view.read (Elt F) f2)) (dwS (arg3.view.read (Elt F) f3) (arg4.view.read (Elt F) f4) (arg5.view.read (Elt F) f5)) := by
  unfold runFirst
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem first_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2.2 = saS (arg13.view.read (Elt F) f13) (i 0).val (scS (qwS (arg1.view.read (Elt F) f1) (arg2.view.read (Elt F) f2)) (dwS (arg3.view.read (Elt F) f3) (arg4.view.read (Elt F) f4) (arg5.view.read (Elt F) f5))) := by
  unfold runFirst
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

theorem first_qw (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg10.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.1 = (qwS (arg1.view.read (Elt F) f1) (arg2.view.read (Elt F) f2)) := by
  unfold runFirst
  dsimp only
  sl_unfold_words
  exact (qw_all _ _ _ _ _ _ _ _ _ _ _ _ _ _ _ _ _ _ _ _ _ _ _ _ _ _ _ _ _ _ _ _ _ _ _ (by decide +kernel))

end Cert.Kernel.Hand
end
-- ==== Proof.RunLast.lean ====
module

public import proofs.«01_k».proof.Proof.Gen.Kernel.Frame
public import proofs.«01_k».proof.Proof.Gen.Kernel.Loops

@[expose] public section

/-! The run of the body at a grid point that is the last: its loops and straight-line stretches put together. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runLast (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg8.view.ty × BufTy.Contents (Elt F) arg9.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} O.2.1) ∗ (arg9.view.loc (c : Thread nD τ) ↦[arg9.view.set]{fullShare} O.2.2.1) ∗ (arg10.view.loc (c : Thread nD τ) ↦[arg10.view.set]{fullShare} f10) ∗ (arg11.view.loc (c : Thread nD τ) ↦[arg11.view.set]{fullShare} O.2.2.2.1) ∗ (arg12.view.loc (c : Thread nD τ) ↦[arg12.view.set]{fullShare} O.2.2.2.2.1) ∗ (arg13.view.loc (c : Thread nD τ) ↦[arg13.view.set]{fullShare} O.2.2.2.2.2))) } := by
  refine ⟨(?_, ?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.Kernel.Hand

end
-- ==== Proof.ValsLast.lean ====
module

public import proofs.«01_k».proof.Proof.Body
public import proofs.«01_k».proof.Proof.RunLast

@[expose] public section

/-! What the body's run at the last grid point leaves, read through its windows. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem last_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (arg10.view.read (Elt F) f10) (dwS (arg3.view.read (Elt F) f3) (arg4.view.read (Elt F) f4) (arg5.view.read (Elt F) f5)) := by
  unfold runLast
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem last_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.1 = tmS (arg10.view.read (Elt F) f10) (dwS (arg3.view.read (Elt F) f3) (arg4.view.read (Elt F) f4) (arg5.view.read (Elt F) f5)) := by
  unfold runLast
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem last_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2.2 = saS (arg13.view.read (Elt F) f13) (i 0).val (scS (arg10.view.read (Elt F) f10) (dwS (arg3.view.read (Elt F) f3) (arg4.view.read (Elt F) f4) (arg5.view.read (Elt F) f5))) := by
  unfold runLast
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

theorem last_loss (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg8.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = lossS (arg6.view.read (Elt F) f6) (saS (arg13.view.read (Elt F) f13) (i 0).val (scS (arg10.view.read (Elt F) f10) (dwS (arg3.view.read (Elt F) f3) (arg4.view.read (Elt F) f4) (arg5.view.read (Elt F) f5)))) := by
  unfold runLast
  dsimp only
  sl_unfold_words
  exact (loss_whole arg8.view f8 inb_S96x1_S96x1_0_0 _).trans (loss_eq (F := F) _ _ _ _
    (st15_max _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (by decide +kernel))
    (st16_max _ _ _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (ld_whole6 _)
     (st15_max _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (by decide +kernel))
      _ (by decide +kernel)))

end Cert.Kernel.Hand
end
-- ==== Proof.Triples.lean ====
module

public import proofs.«01_k».proof.Proof.ValsMid
public import proofs.«01_k».proof.Proof.ValsFirst
public import proofs.«01_k».proof.Proof.ValsLast

@[expose] public section

/-! The body's three runs as triples over the windows' values: what each buffer reads before and after. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- At a grid point that is neither the first nor the last: the block of scores and of per-token maxima is stored, and the scores are kept in the block's row. -/
theorem mid_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS X10 (dwS X3 X4 X5)) ∗ owns (c : Thread nD τ) arg8 fullShare X8 ∗ owns (c : Thread nD τ) arg9 fullShare (tmS X10 (dwS X3 X4 X5)) ∗ owns (c : Thread nD τ) arg10 fullShare X10 ∗ (∃ X, owns (c : Thread nD τ) arg11 fullShare X) ∗ (∃ X, owns (c : Thread nD τ) arg12 fullShare X) ∗ owns (c : Thread nD τ) arg13 fullShare (saS X13 (i 0).val (scS X10 (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact mid_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists g8; isplitr; · ipureintro; exact rfl
      iexact H8
    isplitl [H9]
    · iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact mid_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists g10; isplitr; · ipureintro; exact rfl
      iexact H10
    isplitl [H11]
    · iexists (arg11.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1); iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact rfl
      iexact H11
    isplitl [H12]
    · iexists (arg12.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H12
    iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2; isplitr; · ipureintro; exact mid_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

/-- At the first grid point the queries are widened first. -/
theorem first_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS (qwS X1 X2) (dwS X3 X4 X5)) ∗ owns (c : Thread nD τ) arg8 fullShare X8 ∗ owns (c : Thread nD τ) arg9 fullShare (tmS (qwS X1 X2) (dwS X3 X4 X5)) ∗ owns (c : Thread nD τ) arg10 fullShare (qwS X1 X2) ∗ (∃ X, owns (c : Thread nD τ) arg11 fullShare X) ∗ (∃ X, owns (c : Thread nD τ) arg12 fullShare X) ∗ owns (c : Thread nD τ) arg13 fullShare (saS X13 (i 0).val (scS (qwS X1 X2) (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact first_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists g8; isplitr; · ipureintro; exact rfl
      iexact H8
    isplitl [H9]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact first_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact first_qw (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H10
    isplitl [H11]
    · iexists (arg11.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H11
    isplitl [H12]
    · iexists (arg12.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1); iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1; isplitr; · ipureintro; exact rfl
      iexact H12
    iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.2; isplitr; · ipureintro; exact first_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

/-- At the last grid point the loss is read off the scores of all the blocks. -/
theorem last_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS X10 (dwS X3 X4 X5)) ∗ owns (c : Thread nD τ) arg8 fullShare (lossS X6 (saS X13 (i 0).val (scS X10 (dwS X3 X4 X5)))) ∗ owns (c : Thread nD τ) arg9 fullShare (tmS X10 (dwS X3 X4 X5)) ∗ owns (c : Thread nD τ) arg10 fullShare X10 ∗ (∃ X, owns (c : Thread nD τ) arg11 fullShare X) ∗ (∃ X, owns (c : Thread nD τ) arg12 fullShare X) ∗ owns (c : Thread nD τ) arg13 fullShare (saS X13 (i 0).val (scS X10 (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact last_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact last_loss (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H8
    isplitl [H9]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact last_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists g10; isplitr; · ipureintro; exact rfl
      iexact H10
    isplitl [H11]
    · iexists (arg11.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H11
    isplitl [H12]
    · iexists (arg12.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1); iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1; isplitr; · ipureintro; exact rfl
      iexact H12
    iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.2; isplitr; · ipureintro; exact last_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

end Cert.Kernel.Hand

end
-- ==== Proof.Region.lean ====
module

public import proofs.«01_k».proof.Proof.Triples
public import proofs.«01_k».proof.Proof.Gen.Kernel.Frame
public import Idealize.ShloMosaic.Lib.Claim

@[expose] public section

/-! The region's run: what every window's buffer holds after the body at each grid point, and what the scratch
    buffers carry from point to point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000

variable (m : (ℓ : Loc nD τ sig) → Buf (Elt F) ℓ) (ρ : Dev nD → PrngReg)

/-- The first grid point. -/
abbrev t00 : Fin cfg0.N := ⟨0, by decide⟩

/-- The widened queries. -/
def QW (c : Dev nD) : Vec F S3072x128 .bf16 := qwS (iblk m c 0 t00) (iblk m c 1 t00)
/-- The widened and masked documents of block `t`. -/
def DW (c : Dev nD) (t : Fin cfg0.N) : Vec F S23040x128 .bf16 := dwS (iblk m c 2 t) (iblk m c 3 t) (iblk m c 4 t)
/-- The scores of block `t`. -/
def SC (c : Dev nD) (t : Fin cfg0.N) : Vec F S96x128 .f32 := scS (QW m c) (DW m c t)
/-- The per-token maxima of block `t`. -/
def TM (c : Dev nD) (t : Fin cfg0.N) : Vec F S3072x128 .f32 := tmS (QW m c) (DW m c t)
/-- The scores of all the blocks. -/
def SA (c : Dev nD) : Vec F S48x96x128 .f32 := fun y => SC m c ⟨(y 0).val, (y 0).isLt⟩ (ix2 (y 1) (y 2))
/-- The loss. -/
def LO (c : Dev nD) : Vec F S96x1 .f32 := lossS (iblk m c 5 t00) (SA m c)

/-- The rows before `n` of the kept scores are the scores of those blocks. -/
def rowsTo (c : Dev nD) (n : ℕ) (sa : Vec F S48x96x128 .f32) : Prop :=
  ∀ y : S48x96x128.Idx, (y 0).val < n → sa y = SA m c y

/-- What is held between grid points: before the first, the scratch buffers at anything; after it, the widened queries
    and the rows of scores stored so far. -/
def PhiS (c : Dev nD) (n : ℕ) : sProp 𝕄 :=
  if n = 0 then Pipeline.ΦA spec0 c else
  iprop(owns (c : Thread nD τ) (Memref.whole cc0_scratch0) fullShare (QW m c) ∗ (∃ f, owns (c : Thread nD τ) (Memref.whole cc0_scratch1) fullShare f) ∗ (∃ f, owns (c : Thread nD τ) (Memref.whole cc0_scratch2) fullShare f)
    ∗ (∃ f, ⌜rowsTo m c n f⌝ ∗ owns (c : Thread nD τ) (Memref.whole cc0_scratch3) fullShare f) ∗ ∃ r, prngReg c r)

theorem PhiS_zero (c : Dev nD) (n : ℕ) (h : n = 0) : PhiS m c n = iprop((((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f))) ∗ ∃ r, prngReg c r) := by
  unfold PhiS; rw [if_pos h]; unfold Pipeline.ΦA; rw [scopedRest0_eq]
  simp only [owns_whole]
theorem PhiS_pos (c : Dev nD) (n : ℕ) (h : n ≠ 0) : PhiS m c n =
  iprop(owns (c : Thread nD τ) (Memref.whole cc0_scratch0) fullShare (QW m c) ∗ (∃ f, owns (c : Thread nD τ) (Memref.whole cc0_scratch1) fullShare f) ∗ (∃ f, owns (c : Thread nD τ) (Memref.whole cc0_scratch2) fullShare f)
    ∗ (∃ f, ⌜rowsTo m c n f⌝ ∗ owns (c : Thread nD τ) (Memref.whole cc0_scratch3) fullShare f) ∗ ∃ r, prngReg c r) := by
  unfold PhiS; rw [if_neg h]

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => SC m c t
    | ⟨7, _⟩ => LO m c
    | ⟨8, _⟩ => TM m c t
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = SC m c t := by dsimp only [dats]
theorem after7 (c : Dev nD) (t : Fin cfg0.N) : (dats m 0 c).after 7 t = LO m c := by dsimp only [dats]
theorem after8 (c : Dev nD) (t : Fin cfg0.N) : (dats m 0 c).after 8 t = TM m c t := by dsimp only [dats]

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

theorem coord_eq : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 47 := by decide +kernel

theorem idle7_of_ne (t : Fin cfg0.N) (h : t.val ≠ 47) : cfg0.idle 7 (cfg0.grid.coords t) = true := by
  show (!(k0_cond2 (grid0.coords t) == 1#1)) = true
  have := (cond2_iff t).not.mpr h
  simp [this]
theorem idle7_of_eq (t : Fin cfg0.N) (h : t.val = 47) : cfg0.idle 7 (cfg0.grid.coords t) = false := by
  show (!(k0_cond2 (grid0.coords t) == 1#1)) = false
  have := (cond2_iff t).mpr h
  simp [this]
theorem flush7_of_ne (t : Fin cfg0.N) (h : t.val ≠ 47) : (cfg0.win 7).flush t = false := by
  have h2 := (flush0_7 t).not
  have hN : t.val < 48 := lt_of_lt_of_eq t.isLt N_0
  cases hb : (cfg0.win 7).flush t with
  | false => rfl
  | true => exact absurd ((flush0_7 t).mp hb) (by omega)

/-- The whole-array windows' blocks are the same at every point. -/
theorem iblk0_eq (c : Dev nD) (t : Fin cfg0.N) : (iblk m c 0 t : Vec F S3072x128 .fp8e4m3) = iblk m c 0 t00 := by
  unfold iblk; rfl
theorem iblk1_eq (c : Dev nD) (t : Fin cfg0.N) : (iblk m c 1 t : Vec F S3072x128 .f32) = iblk m c 1 t00 := by
  unfold iblk; rfl
theorem iblk5_eq (c : Dev nD) (t : Fin cfg0.N) : (iblk m c 5 t : Vec F S96x1 .i32) = iblk m c 5 t00 := by
  unfold iblk; rfl

/-- Storing block `t`'s row extends the kept rows by one. -/
theorem rows_step (c : Dev nD) (t : Fin cfg0.N) (sa : Vec F S48x96x128 .f32) (h : rowsTo m c t.val sa) :
    rowsTo m c (t.val + 1) (saS sa (grid0.coords t 0).val (SC m c t)) := by
  intro y hy
  unfold saS
  rw [coord_eq t]
  by_cases hc : (y 0).val = t.val
  · rw [if_pos hc]
    unfold SA
    have : (⟨(y 0).val, (y 0).isLt⟩ : Fin cfg0.N) = t := Fin.ext hc
    rw [this]
  · rw [if_neg hc]; exact h y (by omega)
theorem rows_first (c : Dev nD) (t : Fin cfg0.N) (sa : Vec F S48x96x128 .f32) (h : t.val = 0) :
    rowsTo m c (t.val + 1) (saS sa (grid0.coords t 0).val (SC m c t)) :=
  rows_step m c t sa (fun y hy => by omega)
/-- After the last point every row is stored. -/
theorem rows_all (c : Dev nD) (sa : Vec F S48x96x128 .f32) (h : rowsTo m c 48 sa) : sa = SA m c :=
  funext fun y => h y (y 0).isLt

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

theorem sound_mid (c : Dev nD) (t : Fin cfg0.N) (h0 : t.val ≠ 0) (h47 : t.val ≠ 47) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ (∃ d, owns (c : Thread nD τ) (st0_7 t) fullShare ((dats m 0 c).before 7 t d)) ∗ owns (c : Thread nD τ) (st0_8 t) fullShare (TM m c t))) := by
    have hc1 := (cond1_iff t).not.mpr h0
    have hc2 := (cond2_iff t).not.mpr h47
    rw [PhiS_pos m c t.val (by omega), PhiS_pos m c (t.val + 1) (by omega)]
    simp only [before0, before1, before2, before3, before4, before5]
    unfold bodyAt0
    iintro ⟨⟨HS0, ⟨%fs1, HS1⟩, ⟨%fs2, HS2⟩, ⟨%fs3, %hrow, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (mid_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · first | iexact HS0 | skip
      isplitl [HS1]; · iexists fs1'; iexact HS1
      isplitl [HS2]; · iexists fs2'; iexact HS2
      isplitl [HS3]
      · iexists _; isplitr; swap; · iexact HS3
        ipureintro; exact rows_step m c t _ hrow
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexact H8

theorem sound_first (c : Dev nD) (t : Fin cfg0.N) (h0 : t.val = 0) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ (∃ d, owns (c : Thread nD τ) (st0_7 t) fullShare ((dats m 0 c).before 7 t d)) ∗ owns (c : Thread nD τ) (st0_8 t) fullShare (TM m c t))) := by
    have hc1 := (cond1_iff t).mpr h0
    have hc2 := (cond2_iff t).not.mpr (by omega)
    rw [PhiS_zero m c _ h0, PhiS_pos m c (t.val + 1) (by omega)]
    simp only [before0, before1, before2, before3, before4, before5]
    have hq : QW m c = qwS (iblk m c 0 t) (iblk m c 1 t) := by unfold QW; rw [iblk0_eq m c t, iblk1_eq m c t]
    unfold bodyAt0
    iintro ⟨⟨⟨⟨%fs0, HS0⟩, ⟨%fs1, HS1⟩, ⟨%fs2, HS2⟩, ⟨%fs3, HS3⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (first_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · rw [hq]; iexact HS0
      isplitl [HS1]; · iexists fs1'; iexact HS1
      isplitl [HS2]; · iexists fs2'; iexact HS2
      isplitl [HS3]
      · iexists _; isplitr; swap; · iexact HS3
        ipureintro; exact (by have := rows_first m c t fs3 h0; unfold SC at this; rw [hq] at this; exact this)
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · unfold SC; rw [hq]; iexact H6
    isplitl [H7]; · iexists d7; iexact H7
    unfold TM; rw [hq]; iexact H8

theorem sound_last (c : Dev nD) (t : Fin cfg0.N) (h47 : t.val = 47) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ owns (c : Thread nD τ) (st0_7 t) fullShare (LO m c) ∗ owns (c : Thread nD τ) (st0_8 t) fullShare (TM m c t))) := by
    have hc1 := (cond1_iff t).not.mpr (by omega)
    have hc2 := (cond2_iff t).mpr h47
    rw [PhiS_pos m c t.val (by omega), PhiS_pos m c (t.val + 1) (by omega)]
    simp only [before0, before1, before2, before3, before4, before5]
    have hlo : ∀ sa, rowsTo m c t.val sa → lossS (iblk m c 5 t) (saS sa (grid0.coords t 0).val (SC m c t)) = LO m c := by
      intro sa hsa
      have h := rows_step m c t sa hsa
      have h' : rowsTo m c 48 (saS sa (grid0.coords t 0).val (SC m c t)) := by rw [h47] at h; exact h
      rw [rows_all m c _ h', iblk5_eq m c t]
      rfl
    unfold bodyAt0
    iintro ⟨⟨HS0, ⟨%fs1, HS1⟩, ⟨%fs2, HS2⟩, ⟨%fs3, %hrow, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (last_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · first | iexact HS0 | skip
      isplitl [HS1]; · iexists fs1'; iexact HS1
      isplitl [HS2]; · iexists fs2'; iexact HS2
      isplitl [HS3]
      · iexists _; isplitr; swap; · iexact HS3
        ipureintro; exact rows_step m c t _ hrow
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [← hlo fs3 hrow]; iexact H7
    iexact H8

theorem body_obligation (c : Dev nD) : BodyObligation (dats (F := F) m 0 c) (defs₀ (F := F)) Variants.none () Set.univ := fun t => by
  rw [bigSep_W0, bigSep_W0, defs₀_row, Phi_castSucc, Phi_succ]
  dsimp only
  rw [after0, after1, after2, after3, after4, after5, after6, after7, after8]
  by_cases h47 : t.val = 47
  · have hi : idle0 7 (grid0.coords t) = false := idle7_of_eq t h47
    rw [hi]
    exact sound_last m c t h47
  · have hi : idle0 7 (grid0.coords t) = true := idle7_of_ne t h47
    have hf : (win0 7).flush t = false := flush7_of_ne t h47
    rw [hi, hf]
    by_cases h0 : t.val = 0
    · exact sound_first m c t h0
    · exact sound_mid m c t h0 h47

theorem hin (c : Dev nD) : Pipeline.ΦA spec0 c ⊢ (dats m 0 c).Φ 0 := by
  rw [show (dats m 0 c).Φ 0 = PhiS m c 0 from rfl]
  unfold PhiS; rw [if_pos rfl]
theorem hout (c : Dev nD) : (dats m 0 c).Φ (Fin.last cfg0.N) ⊢ Pipeline.ΦA spec0 c := by
  rw [show (dats m 0 c).Φ (Fin.last cfg0.N) = PhiS m c 48 from rfl, PhiS_pos m c 48 (by decide),
    show Pipeline.ΦA spec0 c = PhiS m c 0 by unfold PhiS; rw [if_pos rfl], PhiS_zero m c 0 rfl]
  iintro ⟨HS0, HS1, HS2, ⟨%f, %hf, HS3⟩, Hg⟩
  isplitr [Hg]
  · isplitl [HS0]; · iexists _; iexact HS0
    isplitl [HS1]; · iexact HS1
    isplitl [HS2]; · iexact HS2
    iexists f; iexact HS3
  iexact Hg

set_option backward.isDefEq.respectTransparency.types false in
/-- The run of the whole program: it ends, the arrays at what the proof data say, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) 0 launch0 defs₀ Variants.none m ρ main
    (hbody := fun c => (body_obligation m c).loose) (hshare := fun c => (dats m 0 c).share_full fun _ => rfl)
    (howed := fun _ _ => rfl) (V0 m) [hostOps1] sfx_sub sfx_fresh sfx_keeps (hmain m Variants.none) (A_eq m)
    (hin m) (hout m)

/-- The program runs, its arguments end unchanged, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Hand

end
-- ==== Proof.WidenIdeal.lean ====
module

public import proofs.«01_k».proof.Proof.Gen.KernelIdeal.Skeleton
public import Idealize.ShloMosaic.Lib.PointwiseCore

@[expose] public section

/-! What the widening payloads compute, one element at a time: a code widened times its scale. -/

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- One code widened by its scale, as the kernel does it: the code exactly widened to bf16, the scale
    rounded to bf16, and their bf16 product. -/
def wid (code : F .fp8e4m3) (scale : F .f32) : F .bf16 :=
  FloatOps.mulf (FloatOps.extf .bf16 bitsLt_fp8e4m3_bf16 code) (FloatOps.truncf .bf16 bitsLt_bf16_f32 scale)

/-- Token `s`, coordinate `l`, of document `j`, widened. -/
def tokE (x3 : Vec F S180x128x128 .fp8e4m3) (x4 : Vec F S180x4x128 .f32) (s : Fin 180) (j l : Fin 128) : F .bf16 :=
  wid (x3 (ix3 s j l)) (x4 (ix3 s ⟨l.val / 32, by omega⟩ j))

/-- The same where token `s` lies inside the document; outside it, the document's token 0. -/
def dwE (x3 : Vec F S180x128x128 .fp8e4m3) (x4 : Vec F S180x4x128 .f32) (x5 : Vec F S128x1 .i32)
    (s : Fin 180) (j l : Fin 128) : F .bf16 :=
  if s.val = 0 then tokE x3 x4 ⟨0, by omega⟩ j l
  else FloatOps.truncf .bf16 bitsLt_bf16_f32
    (Scalar.select (IntOp.cmpi .slt (BitVec.ofNat 32 s.val) (x5 (ix2 j ⟨0, by omega⟩)))
      (FloatOps.extf .f32 bitsLt_bf16_f32 (tokE x3 x4 s j l))
      (FloatOps.extf .f32 bitsLt_bf16_f32 (tokE x3 x4 ⟨0, by omega⟩ j l)))

/-- The widened documents of one block, token-major: row `128 s + j` is token `s` of document `j`. -/
def dwS (x3 : Vec F S180x128x128 .fp8e4m3) (x4 : Vec F S180x4x128 .f32) (x5 : Vec F S128x1 .i32) :
    Vec F S23040x128 .bf16 := fun y =>
  dwE x3 x4 x5 ⟨(y 0).val / 128, by have : (y 0).val < 23040 := (y 0).isLt; omega⟩
    ⟨(y 0).val % 128, by omega⟩ (y 1)

/-- The widened queries. -/
def qwS (x1 : Vec F S3072x128 .fp8e4m3) (x2 : Vec F S3072x128 .f32) : Vec F S3072x128 .bf16 := fun y =>
  wid (x1 y) (x2 (ix2 (y 0) ⟨(y 1).val / 32, by have : (y 1).val < 128 := (y 1).isLt; omega⟩))

/-- The document scales as the kernel lays them out: group `g` of 32 tokens, row `j` a document, lane
    `4 t + b` block `b` of the group's token `t`; zeros past the last token. -/
def dsS (x4 : Vec F S180x4x128 .f32) : Vec F S6x128x128 .f32 := fun y =>
  if h : 32 * (y 0).val + (y 2).val / 4 < 180 then
    x4 (ix3 ⟨32 * (y 0).val + (y 2).val / 4, h⟩ ⟨(y 2).val % 4, by omega⟩ (y 1))
  else Scalar.ofBits .f32 0x00000000#32

theorem pay19_apply (v : Vec F S128x128 .f32) (w : Vec F S128x128 .fp8e4m3) (a b : Fin 128) :
    k0_pay19 (k0_pay14 v w) (ix2 a b) = wid (w (ix2 a b)) (v (ix2 a ⟨b.val / 32, by omega⟩)) := by
  pointwise [k0_pay19, k0_pay14]
  refine congrArg (fun z => FloatOps.mulf _ (FloatOps.truncf .bf16 bitsLt_bf16_f32 (v (ix2 a z)))) (Fin.ext ?_)
  dsimp only
  clear v w a
  revert b
  decide +kernel

theorem pay31_apply (v : Vec F S1x128x128 .f32) (w : Vec F S1x128x128 .fp8e4m3) (a b : Fin 128) :
    k0_pay31 (k0_pay28 v) (iota .tc S128x128 32 [1] iota_S128x128_d1_w32) 32#32 k0_pay29 k0_pay30 1#1 w (ix2 a b)
      = wid (w (ix3 ⟨0, by omega⟩ a b)) (v (ix3 ⟨0, by omega⟩ a ⟨b.val / 32, by omega⟩)) := by
  pointwise [k0_pay31, k0_pay28, k0_pay29, k0_pay30]
  refine congrArg (fun z => FloatOps.mulf _ (FloatOps.truncf .bf16 bitsLt_bf16_f32 (v (ix3 _ a z)))) (Fin.ext ?_)
  dsimp only
  clear v w a
  revert b
  decide +kernel

theorem pay20_apply (v : Vec F S32x4x128 .f32) (a b : Fin 128) :
    k0_pay20 v (ix3 ⟨0, by omega⟩ a b) = v (ix3 ⟨b.val / 4, by omega⟩ ⟨b.val % 4, by omega⟩ a) := by
  pointwise [k0_pay20]
theorem pay21_apply (v : Vec F S32x4x128 .f32) (a b : Fin 128) :
    k0_pay21 v (ix3 ⟨0, by omega⟩ a b) = v (ix3 ⟨b.val / 4, by omega⟩ ⟨b.val % 4, by omega⟩ a) := by
  pointwise [k0_pay21]
theorem pay22_apply (v : Vec F S32x4x128 .f32) (a b : Fin 128) :
    k0_pay22 v (ix3 ⟨0, by omega⟩ a b) = v (ix3 ⟨b.val / 4, by omega⟩ ⟨b.val % 4, by omega⟩ a) := by
  pointwise [k0_pay22]
theorem pay24_apply (v : Vec F S32x4x128 .f32) (a b : Fin 128) :
    k0_pay24 (k0_pay23 v) (ix3 ⟨0, by omega⟩ a b) = v (ix3 ⟨b.val / 4, by omega⟩ ⟨b.val % 4, by omega⟩ a) := by
  pointwise [k0_pay24, k0_pay23]
theorem pay25_apply (v : Vec F S32x4x128 .f32) (a b : Fin 128) :
    k0_pay25 v (ix3 ⟨0, by omega⟩ a b) = v (ix3 ⟨b.val / 4, by omega⟩ ⟨b.val % 4, by omega⟩ a) := by
  pointwise [k0_pay25]
theorem pay26_apply (v : Vec F S20x4x128 .f32) (a b : Fin 128) :
    k0_pay26 v (ix3 ⟨0, by omega⟩ a b) =
      if h : b.val / 4 < 20 then v (ix3 ⟨b.val / 4, h⟩ ⟨b.val % 4, by omega⟩ a) else Scalar.ofBits .f32 0x00000000#32 := by
  pointwise [k0_pay26]
  split <;> rename_i h
  · rw [dif_pos (by omega)]
  · rw [dif_neg (by omega)]
    done

/-- Lane group of token `s`: `4 (s mod 32)` plus the coordinate's block is the lane its scale lies in. -/
theorem pay32_apply (v50 : IVec S128x128 32) (k : Fin k0_t2_loop.trips) (v : Vec F S1x128x128 .f32)
    (w : Vec F S1x128x128 .fp8e4m3) (p : Vec F S128x128 .bf16) (a b : Fin 128) :
    k0_pay32 v50 (Scf.iv 1#32 1#32 k.val) (k0_pay15 v)
      (Scalar.muli (Scalar.select (0#1) (Scalar.addi (Scalar.remsi (Scf.iv 1#32 1#32 k.val) 32#32) 32#32)
                (Scalar.remsi (Scf.iv 1#32 1#32 k.val) 32#32)) 4#32)
      (iota .tc S128x128 32 [1] iota_S128x128_d1_w32) 32#32 k0_pay16 k0_pay17 k0_pay18 w p (ix2 a b)
      = FloatOps.truncf .bf16 bitsLt_bf16_f32
          (Scalar.select (IntOp.cmpi .slt (BitVec.ofNat 32 (k.val + 1)) (v50 (ix2 a b)))
            (FloatOps.extf .f32 bitsLt_bf16_f32 (wid (w (ix3 ⟨0, by omega⟩ a b))
              (v (ix3 ⟨0, by omega⟩ a ⟨4 * ((k.val + 1) % 32) + b.val / 32, by omega⟩))))
            (FloatOps.extf .f32 bitsLt_bf16_f32 (p (ix2 a b)))) := by
  have hiv : Scf.iv 1#32 1#32 k.val = BitVec.ofNat 32 (k.val + 1) := by
    revert k; decide +kernel
  pointwise [k0_pay32, k0_pay15, k0_pay16, k0_pay17, k0_pay18]
  rw [hiv]
  refine congrArg (fun z => FloatOps.truncf .bf16 bitsLt_bf16_f32 (Scalar.select _
    (FloatOps.extf .f32 bitsLt_bf16_f32 (FloatOps.mulf _ (FloatOps.truncf .bf16 bitsLt_bf16_f32 (v (ix3 _ a z))))) _)) (Fin.ext ?_)
  dsimp only
  clear hiv v w a p v50
  revert b
  revert k
  decide +kernel

theorem pay27_apply (v : Vec F S128x1 .i32) (a b : Fin 128) :
    k0_pay27 v (ix2 a b) = v (ix2 a ⟨0, by omega⟩) := by
  pointwise [k0_pay27]

end Cert.KernelIdeal.Hand
-- ==== Proof.TripsIdeal.lean ====
module

public import proofs.«01_k».proof.Proof.Gen.KernelIdeal.Loops
public import proofs.«01_k».proof.Proof.WidenIdeal

@[expose] public section

/-! What the body's loops compute, in closed form over what the buffers read: the twelve maximum loops over the
    document tokens, and the two over the scores of all the blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

/-- Ten tokens' rows of the widened documents: the tile trip `k` of a maximum loop loads. -/
def tileS (dw : Vec F S23040x128 .bf16) (k : ℕ) : Vec F S1280x128 .bf16 := fun y =>
  dw (ix2 ⟨(1280 * k + (y 0).val) % 23040, Nat.mod_lt _ (by norm_num)⟩ (y 1))

/-- The running maximum of a query tile against the documents after `k` trips. -/
def accS (qt : Vec F S256x128 .bf16) (dw : Vec F S23040x128 .bf16) : ℕ → FVec F S128x256 .f32
  | 0 => k0_pay1
  | k + 1 => k0_pay2 qt (accS qt dw k) (tileS dw k)

/-- The scores of block `k` out of all the blocks' scores, as a block of one row. -/
def rowS (sa : Vec F S48x96x128 .f32) (k : ℕ) : Vec F S1x96x128 .f32 := fun y =>
  sa (ix3 ⟨k % 48, Nat.mod_lt _ (by norm_num)⟩ (y 1) (y 2))

/-- The running lane-wise maximum over the blocks. -/
def topS (sa : Vec F S48x96x128 .f32) : ℕ → FVec F S96x128 .f32
  | 0 => k0_pay6
  | k + 1 => k0_pay7 (topS sa k) (rowS sa k)

/-- The running lane-wise sums over the blocks: of the exponentials, and of the score picked out. -/
def sumS (x6 : Vec F S96x1 .i32) (top : FVec F S96x128 .f32) (sa : Vec F S48x96x128 .f32) :
    ℕ → FVec F S96x128 .f32 × FVec F S96x128 .f32
  | 0 => (k0_pay9, k0_pay9)
  | k + 1 =>
    if h : k < k0_t16_loop.trips then
      (k0_pay11 top (sumS x6 top sa k).1 (rowS sa k), k0_pay12 x6 ⟨k, h⟩ (sumS x6 top sa k).2 (rowS sa k))
    else sumS x6 top sa k

theorem ld_tile (X : Vec F S23040x128 .bf16) (off : Fin 2 → ℕ) (inb) (k : ℕ) (hk : k < 18) (h : off = ![1280 * k, 0]) :
    View.ld (Val := Elt F) (S := S23040x128) (e' := .bf16) X (Rect.unit off S1280x128.size inb) = tileS X k := by
  subst h
  funext y
  refine congrArg X (funext fun a => Fin.ext ?_)
  have h0 : (y 0).val < 1280 := (y 0).isLt
  match a with
  | ⟨0, _⟩ => show 1280 * k + 1 * (y 0).val = (1280 * k + (y 0).val) % 23040; omega
  | ⟨1, _⟩ => show 0 + 1 * (y 1).val = (y 1).val; omega

theorem ld_row (X : Vec F S48x96x128 .f32) (off : Fin 3 → ℕ) (inb) (k : ℕ) (hk : k < 48) (h : off = ![k, 0, 0]) :
    View.ld (Val := Elt F) (S := S48x96x128) (e' := .f32) X (Rect.unit off S1x96x128.size inb) = rowS X k := by
  subst h
  funext y
  refine congrArg X (funext fun a => Fin.ext ?_)
  have h0 : (y 0).val < 1 := (y 0).isLt
  match a with
  | ⟨0, _⟩ => show k + 1 * (y 0).val = k % 48; omega
  | ⟨1, _⟩ => show 0 + 1 * (y 1).val = (y 1).val; omega
  | ⟨2, _⟩ => show 0 + 1 * (y 2).val = (y 2).val; omega

theorem off5_eq : ∀ k : Fin k0_t3_loop.trips, k0_off5 k = ![1280 * k.val, 0] := by decide +kernel

theorem st3_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v50 : IVec S128x128 32) (v52 : FVec F S128x128 .f32) (v53 : IVec S128x128 32) (c32_i32 : BitVec 32) (v55 : IVec S128x128 32) (v62 : IVec S128x128 32) (v63 : BitVec 1) (v97 : Vec F S256x128 .bf16) (X_arg11 : BufTy.Contents (Elt F) arg11.view.ty)  :
    ∀ k, k ≤ 18 → st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 k = accS v97 (arg11.view.read (Elt F) X_arg11) k := by
  intro k
  induction k with
  | zero => intro _; rfl
  | succ k ih =>
    intro hk
    have hk' : k < k0_t3_loop.trips := by
      have : k0_t3_loop.trips = 18 := by decide +kernel
      omega
    have h := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 ⟨k, hk'⟩
    refine h.trans ?_
    have ih' := ih (by omega)
    dsimp only
    rw [ih']
    unfold tripR_k0_t3 trip_k0_t3
    dsimp only
    rw [View.readAt_eq_ld]
    exact congrArg (k0_pay34 v97 _) (ld_tile _ _ _ k (by omega) (off5_eq ⟨k, hk'⟩))

theorem off6_eq : ∀ k : Fin k0_t4_loop.trips, k0_off6 k = ![1280 * k.val, 0] := by decide +kernel

theorem st4_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v106 : Vec F S256x128 .bf16) (X_arg11 : BufTy.Contents (Elt F) arg11.view.ty)  :
    ∀ k, k ≤ 18 → st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 k = accS v106 (arg11.view.read (Elt F) X_arg11) k := by
  intro k
  induction k with
  | zero => intro _; rfl
  | succ k ih =>
    intro hk
    have hk' : k < k0_t4_loop.trips := by
      have : k0_t4_loop.trips = 18 := by decide +kernel
      omega
    have h := st_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 ⟨k, hk'⟩
    refine h.trans ?_
    have ih' := ih (by omega)
    dsimp only
    rw [ih']
    unfold tripR_k0_t4 trip_k0_t4
    dsimp only
    rw [View.readAt_eq_ld]
    exact congrArg (k0_pay38 v106 _) (ld_tile _ _ _ k (by omega) (off6_eq ⟨k, hk'⟩))

theorem off7_eq : ∀ k : Fin k0_t5_loop.trips, k0_off7 k = ![1280 * k.val, 0] := by decide +kernel

theorem st5_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v115 : Vec F S256x128 .bf16) (X_arg11 : BufTy.Contents (Elt F) arg11.view.ty)  :
    ∀ k, k ≤ 18 → st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 k = accS v115 (arg11.view.read (Elt F) X_arg11) k := by
  intro k
  induction k with
  | zero => intro _; rfl
  | succ k ih =>
    intro hk
    have hk' : k < k0_t5_loop.trips := by
      have : k0_t5_loop.trips = 18 := by decide +kernel
      omega
    have h := st_k0_t5_succ (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 ⟨k, hk'⟩
    refine h.trans ?_
    have ih' := ih (by omega)
    dsimp only
    rw [ih']
    unfold tripR_k0_t5 trip_k0_t5
    dsimp only
    rw [View.readAt_eq_ld]
    exact congrArg (k0_pay42 v115 _) (ld_tile _ _ _ k (by omega) (off7_eq ⟨k, hk'⟩))

theorem off8_eq : ∀ k : Fin k0_t6_loop.trips, k0_off8 k = ![1280 * k.val, 0] := by decide +kernel

theorem st6_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v124 : Vec F S256x128 .bf16) (X_arg11 : BufTy.Contents (Elt F) arg11.view.ty)  :
    ∀ k, k ≤ 18 → st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 k = accS v124 (arg11.view.read (Elt F) X_arg11) k := by
  intro k
  induction k with
  | zero => intro _; rfl
  | succ k ih =>
    intro hk
    have hk' : k < k0_t6_loop.trips := by
      have : k0_t6_loop.trips = 18 := by decide +kernel
      omega
    have h := st_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 ⟨k, hk'⟩
    refine h.trans ?_
    have ih' := ih (by omega)
    dsimp only
    rw [ih']
    unfold tripR_k0_t6 trip_k0_t6
    dsimp only
    rw [View.readAt_eq_ld]
    exact congrArg (k0_pay46 v124 _) (ld_tile _ _ _ k (by omega) (off8_eq ⟨k, hk'⟩))

theorem off9_eq : ∀ k : Fin k0_t7_loop.trips, k0_off9 k = ![1280 * k.val, 0] := by decide +kernel

theorem st7_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v133 : Vec F S256x128 .bf16) (X_arg11 : BufTy.Contents (Elt F) arg11.view.ty)  :
    ∀ k, k ≤ 18 → st_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 k = accS v133 (arg11.view.read (Elt F) X_arg11) k := by
  intro k
  induction k with
  | zero => intro _; rfl
  | succ k ih =>
    intro hk
    have hk' : k < k0_t7_loop.trips := by
      have : k0_t7_loop.trips = 18 := by decide +kernel
      omega
    have h := st_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 ⟨k, hk'⟩
    refine h.trans ?_
    have ih' := ih (by omega)
    dsimp only
    rw [ih']
    unfold tripR_k0_t7 trip_k0_t7
    dsimp only
    rw [View.readAt_eq_ld]
    exact congrArg (k0_pay50 v133 _) (ld_tile _ _ _ k (by omega) (off9_eq ⟨k, hk'⟩))

theorem off10_eq : ∀ k : Fin k0_t8_loop.trips, k0_off10 k = ![1280 * k.val, 0] := by decide +kernel

theorem st8_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v142 : Vec F S256x128 .bf16) (X_arg11 : BufTy.Contents (Elt F) arg11.view.ty)  :
    ∀ k, k ≤ 18 → st_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 k = accS v142 (arg11.view.read (Elt F) X_arg11) k := by
  intro k
  induction k with
  | zero => intro _; rfl
  | succ k ih =>
    intro hk
    have hk' : k < k0_t8_loop.trips := by
      have : k0_t8_loop.trips = 18 := by decide +kernel
      omega
    have h := st_k0_t8_succ (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 ⟨k, hk'⟩
    refine h.trans ?_
    have ih' := ih (by omega)
    dsimp only
    rw [ih']
    unfold tripR_k0_t8 trip_k0_t8
    dsimp only
    rw [View.readAt_eq_ld]
    exact congrArg (k0_pay54 v142 _) (ld_tile _ _ _ k (by omega) (off10_eq ⟨k, hk'⟩))

theorem off11_eq : ∀ k : Fin k0_t9_loop.trips, k0_off11 k = ![1280 * k.val, 0] := by decide +kernel

theorem st9_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v151 : Vec F S256x128 .bf16) (X_arg11 : BufTy.Contents (Elt F) arg11.view.ty)  :
    ∀ k, k ≤ 18 → st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 k = accS v151 (arg11.view.read (Elt F) X_arg11) k := by
  intro k
  induction k with
  | zero => intro _; rfl
  | succ k ih =>
    intro hk
    have hk' : k < k0_t9_loop.trips := by
      have : k0_t9_loop.trips = 18 := by decide +kernel
      omega
    have h := st_k0_t9_succ (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 ⟨k, hk'⟩
    refine h.trans ?_
    have ih' := ih (by omega)
    dsimp only
    rw [ih']
    unfold tripR_k0_t9 trip_k0_t9
    dsimp only
    rw [View.readAt_eq_ld]
    exact congrArg (k0_pay58 v151 _) (ld_tile _ _ _ k (by omega) (off11_eq ⟨k, hk'⟩))

theorem off12_eq : ∀ k : Fin k0_t10_loop.trips, k0_off12 k = ![1280 * k.val, 0] := by decide +kernel

theorem st10_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v160 : Vec F S256x128 .bf16) (X_arg11 : BufTy.Contents (Elt F) arg11.view.ty)  :
    ∀ k, k ≤ 18 → st_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 k = accS v160 (arg11.view.read (Elt F) X_arg11) k := by
  intro k
  induction k with
  | zero => intro _; rfl
  | succ k ih =>
    intro hk
    have hk' : k < k0_t10_loop.trips := by
      have : k0_t10_loop.trips = 18 := by decide +kernel
      omega
    have h := st_k0_t10_succ (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 ⟨k, hk'⟩
    refine h.trans ?_
    have ih' := ih (by omega)
    dsimp only
    rw [ih']
    unfold tripR_k0_t10 trip_k0_t10
    dsimp only
    rw [View.readAt_eq_ld]
    exact congrArg (k0_pay62 v160 _) (ld_tile _ _ _ k (by omega) (off12_eq ⟨k, hk'⟩))

theorem off13_eq : ∀ k : Fin k0_t11_loop.trips, k0_off13 k = ![1280 * k.val, 0] := by decide +kernel

theorem st11_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (X_arg11 : BufTy.Contents (Elt F) arg11.view.ty)  :
    ∀ k, k ≤ 18 → st_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 k = accS v169 (arg11.view.read (Elt F) X_arg11) k := by
  intro k
  induction k with
  | zero => intro _; rfl
  | succ k ih =>
    intro hk
    have hk' : k < k0_t11_loop.trips := by
      have : k0_t11_loop.trips = 18 := by decide +kernel
      omega
    have h := st_k0_t11_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 ⟨k, hk'⟩
    refine h.trans ?_
    have ih' := ih (by omega)
    dsimp only
    rw [ih']
    unfold tripR_k0_t11 trip_k0_t11
    dsimp only
    rw [View.readAt_eq_ld]
    exact congrArg (k0_pay66 v169 _) (ld_tile _ _ _ k (by omega) (off13_eq ⟨k, hk'⟩))

theorem off14_eq : ∀ k : Fin k0_t12_loop.trips, k0_off14 k = ![1280 * k.val, 0] := by decide +kernel

theorem st12_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v178 : Vec F S256x128 .bf16) (X_arg11 : BufTy.Contents (Elt F) arg11.view.ty)  :
    ∀ k, k ≤ 18 → st_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 k = accS v178 (arg11.view.read (Elt F) X_arg11) k := by
  intro k
  induction k with
  | zero => intro _; rfl
  | succ k ih =>
    intro hk
    have hk' : k < k0_t12_loop.trips := by
      have : k0_t12_loop.trips = 18 := by decide +kernel
      omega
    have h := st_k0_t12_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 ⟨k, hk'⟩
    refine h.trans ?_
    have ih' := ih (by omega)
    dsimp only
    rw [ih']
    unfold tripR_k0_t12 trip_k0_t12
    dsimp only
    rw [View.readAt_eq_ld]
    exact congrArg (k0_pay70 v178 _) (ld_tile _ _ _ k (by omega) (off14_eq ⟨k, hk'⟩))

theorem off15_eq : ∀ k : Fin k0_t13_loop.trips, k0_off15 k = ![1280 * k.val, 0] := by decide +kernel

theorem st13_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v187 : Vec F S256x128 .bf16) (X_arg11 : BufTy.Contents (Elt F) arg11.view.ty)  :
    ∀ k, k ≤ 18 → st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 k = accS v187 (arg11.view.read (Elt F) X_arg11) k := by
  intro k
  induction k with
  | zero => intro _; rfl
  | succ k ih =>
    intro hk
    have hk' : k < k0_t13_loop.trips := by
      have : k0_t13_loop.trips = 18 := by decide +kernel
      omega
    have h := st_k0_t13_succ (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 ⟨k, hk'⟩
    refine h.trans ?_
    have ih' := ih (by omega)
    dsimp only
    rw [ih']
    unfold tripR_k0_t13 trip_k0_t13
    dsimp only
    rw [View.readAt_eq_ld]
    exact congrArg (k0_pay74 v187 _) (ld_tile _ _ _ k (by omega) (off15_eq ⟨k, hk'⟩))

theorem off16_eq : ∀ k : Fin k0_t14_loop.trips, k0_off16 k = ![1280 * k.val, 0] := by decide +kernel

theorem st14_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v196 : Vec F S256x128 .bf16) (X_arg11 : BufTy.Contents (Elt F) arg11.view.ty)  :
    ∀ k, k ≤ 18 → st_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 k = accS v196 (arg11.view.read (Elt F) X_arg11) k := by
  intro k
  induction k with
  | zero => intro _; rfl
  | succ k ih =>
    intro hk
    have hk' : k < k0_t14_loop.trips := by
      have : k0_t14_loop.trips = 18 := by decide +kernel
      omega
    have h := st_k0_t14_succ (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 ⟨k, hk'⟩
    refine h.trans ?_
    have ih' := ih (by omega)
    dsimp only
    rw [ih']
    unfold tripR_k0_t14 trip_k0_t14
    dsimp only
    rw [View.readAt_eq_ld]
    exact congrArg (k0_pay2 v196 _) (ld_tile _ _ _ k (by omega) (off16_eq ⟨k, hk'⟩))

theorem off18_eq : ∀ k : Fin k0_t15_loop.trips, k0_off18 k = ![k.val, 0, 0] := by decide +kernel
theorem off19_eq : ∀ k : Fin k0_t16_loop.trips, k0_off19 k = ![k.val, 0, 0] := by decide +kernel

theorem st15_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (X_arg13 : BufTy.Contents (Elt F) arg13.view.ty)  :
    ∀ k, k ≤ 48 → st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 k = topS (arg13.view.read (Elt F) X_arg13) k := by
  intro k
  induction k with
  | zero => intro _; rfl
  | succ k ih =>
    intro hk
    have hk' : k < k0_t15_loop.trips := by
      have : k0_t15_loop.trips = 48 := by decide +kernel
      omega
    have h := st_k0_t15_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 ⟨k, hk'⟩
    refine h.trans ?_
    have ih' := ih (by omega)
    dsimp only
    rw [ih']
    unfold tripR_k0_t15 trip_k0_t15
    dsimp only
    rw [View.readAt_eq_ld]
    exact congrArg (k0_pay7 _) (ld_row _ _ _ k (by omega) (off18_eq ⟨k, hk'⟩))

theorem st16_eq (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (v214 : Vec F S96x1 .i32) (v218 : FVec F S96x128 .f32) (X_arg13 : BufTy.Contents (Elt F) arg13.view.ty)  :
    ∀ k, k ≤ 48 → st_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) k
      = sumS v214 v218 (arg13.view.read (Elt F) X_arg13) k := by
  intro k
  induction k with
  | zero => intro _; rfl
  | succ k ih =>
    intro hk
    have hk' : k < k0_t16_loop.trips := by
      have : k0_t16_loop.trips = 48 := by decide +kernel
      omega
    have h := st_k0_t16_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) ⟨k, hk'⟩
    refine h.trans ?_
    have ih' := ih (by omega)
    dsimp only
    rw [ih']
    unfold tripR_k0_t16 trip_k0_t16
    dsimp only
    rw [View.readAt_eq_ld]
    have e := ld_row (arg13.view.read (Elt F) X_arg13) _ (k0_off19_inb i ⟨k, hk'⟩ k0_h2) k (by omega) (off19_eq ⟨k, hk'⟩)
    refine (congrArg (fun z => (k0_pay11 v218 _ z, k0_pay12 v214 ⟨k, hk'⟩ _ z)) e).trans ?_
    rw [sumS, dif_pos hk']

end Cert.KernelIdeal.Hand
end
-- ==== Proof.ReadsIdeal.lean ====
module

public import proofs.«01_k».proof.Proof.TripsIdeal
public import Idealize.ShloMosaic.Lib.WritesUnit

@[expose] public section

/-! What the scratch buffers read once the widening loops have run: the widened queries, the document scales laid
    out by groups of tokens, the widened documents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

local instance instNonemptyElt (e : EltTy) : Nonempty (Elt F e) := inferInstance

/-- The six stores that lay out the document scales. -/
def dsL (x4 : Vec F S180x4x128 .f32) : List (View.Piece (Elt F) S6x128x128 .f32) :=
  [⟨Rect.unit ![5,0,0] S1x128x128.size inb_S6x128x128_S1x128x128_5_0_0, k0_pay26 (View.ld (Val := Elt F) (S := S180x4x128) (e' := .f32) x4 (Rect.unit ![160,0,0] S20x4x128.size inb_S180x4x128_S20x4x128_160_0_0))⟩,
    ⟨Rect.unit ![4,0,0] S1x128x128.size inb_S6x128x128_S1x128x128_4_0_0, k0_pay25 (View.ld (Val := Elt F) (S := S180x4x128) (e' := .f32) x4 (Rect.unit ![128,0,0] S32x4x128.size inb_S180x4x128_S32x4x128_128_0_0))⟩,
    ⟨Rect.unit ![3,0,0] S1x128x128.size inb_S6x128x128_S1x128x128_3_0_0, k0_pay24 (k0_pay23 (View.ld (Val := Elt F) (S := S180x4x128) (e' := .f32) x4 (Rect.unit ![96,0,0] S32x4x128.size inb_S180x4x128_S32x4x128_96_0_0)))⟩,
    ⟨Rect.unit ![2,0,0] S1x128x128.size inb_S6x128x128_S1x128x128_2_0_0, k0_pay22 (View.ld (Val := Elt F) (S := S180x4x128) (e' := .f32) x4 (Rect.unit ![64,0,0] S32x4x128.size inb_S180x4x128_S32x4x128_64_0_0))⟩,
    ⟨Rect.unit ![1,0,0] S1x128x128.size inb_S6x128x128_S1x128x128_1_0_0, k0_pay21 (View.ld (Val := Elt F) (S := S180x4x128) (e' := .f32) x4 (Rect.unit ![32,0,0] S32x4x128.size inb_S180x4x128_S32x4x128_32_0_0))⟩,
    ⟨Rect.unit ![0,0,0] S1x128x128.size inb_S6x128x128_S1x128x128_0_0_0, k0_pay20 (View.ld (Val := Elt F) (S := S180x4x128) (e' := .f32) x4 (Rect.unit ![0,0,0] S32x4x128.size inb_S180x4x128_S32x4x128_0_0_0))⟩]

/-- The last store: 20 tokens' scales, and zeros after them. -/
theorem ds_piece5 (x4 : Vec F S180x4x128 .f32) (x : S1x128x128.Idx) :
    k0_pay26 (View.ld (Val := Elt F) (S := S180x4x128) (e' := .f32) x4 (Rect.unit ![160,0,0] S20x4x128.size inb_S180x4x128_S20x4x128_160_0_0)) x
      = dsS x4 ((Rect.unit (s := S6x128x128) ![5,0,0] S1x128x128.size inb_S6x128x128_S1x128x128_5_0_0).emb x) := by
  obtain ⟨x0, x1, x2, rfl⟩ : ∃ (x0 : Fin 1) (x1 x2 : Fin 128), x = ix3 x0 x1 x2 := ⟨x 0, x 1, x 2, eq_ix3 x⟩
  obtain rfl : x0 = ⟨0, by omega⟩ := Fin.ext (by omega)
  refine (pay26_apply _ x1 x2).trans ?_
  unfold dsS
  by_cases h : x2.val / 4 < 20
  · rw [dif_pos h, dif_pos (by show 32 * (5 + 1 * 0) + (0 + 1 * x2.val) / 4 < 180; omega)]
    refine congrArg x4 (funext fun a => Fin.ext ?_)
    match a with
    | ⟨0, _⟩ => show 160 + 1 * (x2.val / 4) = 32 * (5 + 1 * 0) + (0 + 1 * x2.val) / 4; omega
    | ⟨1, _⟩ => show 0 + 1 * (x2.val % 4) = (0 + 1 * x2.val) % 4; omega
    | ⟨2, _⟩ => show 0 + 1 * x1.val = 0 + 1 * x1.val; rfl
  · rw [dif_neg h, dif_neg (by show ¬ 32 * (5 + 1 * 0) + (0 + 1 * x2.val) / 4 < 180; omega)]

/-- A store of 32 whole tokens' scales is that group of the layout. -/
theorem ds_group (p : Vec F S32x4x128 .f32 → Vec F S1x128x128 .f32)
    (hp : ∀ v (a b : Fin 128), p v (ix3 ⟨0, by omega⟩ a b) = v (ix3 ⟨b.val / 4, by omega⟩ ⟨b.val % 4, by omega⟩ a))
    (k n : ℕ) (hk : k < 5) (hn : n = 32 * k) (h4 : ∀ a, ![n,0,0] a + S32x4x128.size a ≤ S180x4x128.size a) (h6 : ∀ a, ![k,0,0] a + S1x128x128.size a ≤ S6x128x128.size a)
    (x4 : Vec F S180x4x128 .f32) (x : S1x128x128.Idx) :
    p (View.ld (Val := Elt F) (S := S180x4x128) (e' := .f32) x4 (Rect.unit ![n,0,0] S32x4x128.size h4)) x
      = dsS x4 ((Rect.unit (s := S6x128x128) ![k,0,0] S1x128x128.size h6).emb x) := by
  subst hn
  obtain ⟨x0, x1, x2, rfl⟩ : ∃ (x0 : Fin 1) (x1 x2 : Fin 128), x = ix3 x0 x1 x2 := ⟨x 0, x 1, x 2, eq_ix3 x⟩
  obtain rfl : x0 = ⟨0, by omega⟩ := Fin.ext (by omega)
  refine (hp _ x1 x2).trans ?_
  unfold dsS
  rw [dif_pos (by show 32 * (k + 1 * 0) + (0 + 1 * x2.val) / 4 < 180; omega)]
  refine congrArg x4 (funext fun a => Fin.ext ?_)
  match a with
  | ⟨0, _⟩ => show 32 * k + 1 * (x2.val / 4) = 32 * (k + 1 * 0) + (0 + 1 * x2.val) / 4; omega
  | ⟨1, _⟩ => show 0 + 1 * (x2.val % 4) = (0 + 1 * x2.val) % 4; omega
  | ⟨2, _⟩ => show 0 + 1 * x1.val = 0 + 1 * x1.val; rfl

/-- The six stores together are the layout. -/
theorem ds_read {κ : Kind} {sp : Space} (v : View sig κ sp S6x128x128 .f32) (g : v.ty.Contents (Elt F))
    (x4 : Vec F S180x4x128 .f32) : v.read (Elt F) (v.writes (Elt F) g (dsL x4)) = dsS x4 := by
  funext y
  refine View.read_writes_apply_of_pieces v g (dsS x4) (dsL x4) ?_ y ?_
  · intro p hp
    unfold dsL at hp
    rcases List.mem_cons.mp hp with rfl | hp
    · exact ds_piece5 x4
    rcases List.mem_cons.mp hp with rfl | hp
    · exact ds_group k0_pay25 pay25_apply 4 128 (by omega) rfl inb_S180x4x128_S32x4x128_128_0_0 inb_S6x128x128_S1x128x128_4_0_0 x4
    rcases List.mem_cons.mp hp with rfl | hp
    · exact ds_group (fun v => k0_pay24 (k0_pay23 v)) pay24_apply 3 96 (by omega) rfl inb_S180x4x128_S32x4x128_96_0_0 inb_S6x128x128_S1x128x128_3_0_0 x4
    rcases List.mem_cons.mp hp with rfl | hp
    · exact ds_group k0_pay22 pay22_apply 2 64 (by omega) rfl inb_S180x4x128_S32x4x128_64_0_0 inb_S6x128x128_S1x128x128_2_0_0 x4
    rcases List.mem_cons.mp hp with rfl | hp
    · exact ds_group k0_pay21 pay21_apply 1 32 (by omega) rfl inb_S180x4x128_S32x4x128_32_0_0 inb_S6x128x128_S1x128x128_1_0_0 x4
    rcases List.mem_cons.mp hp with rfl | hp
    · exact ds_group k0_pay20 pay20_apply 0 0 (by omega) rfl inb_S180x4x128_S32x4x128_0_0_0 inb_S6x128x128_S1x128x128_0_0_0 x4
    exact absurd hp List.not_mem_nil
  · have key : ∀ g : Fin 6, (y 0).val = g.val → ∃ p ∈ dsL x4, y ∈ p.1.set := by
      intro g hg
      have h1 : (y 1).val < 128 := (y 1).isLt
      have h2 : (y 2).val < 128 := (y 2).isLt
      unfold dsL
      match g with
      | ⟨0, _⟩ =>
        refine ⟨_, List.mem_of_getElem (i := 5) (h := by simp) rfl, (Rect.mem_set_unit (s := S6x128x128) (inb := inb_S6x128x128_S1x128x128_0_0_0)).mpr fun a => ?_⟩
        match a with
        | ⟨0, _⟩ => show 0 ≤ (y 0).val ∧ (y 0).val < 0 + 1; dsimp only at hg; omega
        | ⟨1, _⟩ => show 0 ≤ (y 1).val ∧ (y 1).val < 0 + 128; omega
        | ⟨2, _⟩ => show 0 ≤ (y 2).val ∧ (y 2).val < 0 + 128; omega
      | ⟨1, _⟩ =>
        refine ⟨_, List.mem_of_getElem (i := 4) (h := by simp) rfl, (Rect.mem_set_unit (s := S6x128x128) (inb := inb_S6x128x128_S1x128x128_1_0_0)).mpr fun a => ?_⟩
        match a with
        | ⟨0, _⟩ => show 1 ≤ (y 0).val ∧ (y 0).val < 1 + 1; dsimp only at hg; omega
        | ⟨1, _⟩ => show 0 ≤ (y 1).val ∧ (y 1).val < 0 + 128; omega
        | ⟨2, _⟩ => show 0 ≤ (y 2).val ∧ (y 2).val < 0 + 128; omega
      | ⟨2, _⟩ =>
        refine ⟨_, List.mem_of_getElem (i := 3) (h := by simp) rfl, (Rect.mem_set_unit (s := S6x128x128) (inb := inb_S6x128x128_S1x128x128_2_0_0)).mpr fun a => ?_⟩
        match a with
        | ⟨0, _⟩ => show 2 ≤ (y 0).val ∧ (y 0).val < 2 + 1; dsimp only at hg; omega
        | ⟨1, _⟩ => show 0 ≤ (y 1).val ∧ (y 1).val < 0 + 128; omega
        | ⟨2, _⟩ => show 0 ≤ (y 2).val ∧ (y 2).val < 0 + 128; omega
      | ⟨3, _⟩ =>
        refine ⟨_, List.mem_of_getElem (i := 2) (h := by simp) rfl, (Rect.mem_set_unit (s := S6x128x128) (inb := inb_S6x128x128_S1x128x128_3_0_0)).mpr fun a => ?_⟩
        match a with
        | ⟨0, _⟩ => show 3 ≤ (y 0).val ∧ (y 0).val < 3 + 1; dsimp only at hg; omega
        | ⟨1, _⟩ => show 0 ≤ (y 1).val ∧ (y 1).val < 0 + 128; omega
        | ⟨2, _⟩ => show 0 ≤ (y 2).val ∧ (y 2).val < 0 + 128; omega
      | ⟨4, _⟩ =>
        refine ⟨_, List.mem_of_getElem (i := 1) (h := by simp) rfl, (Rect.mem_set_unit (s := S6x128x128) (inb := inb_S6x128x128_S1x128x128_4_0_0)).mpr fun a => ?_⟩
        match a with
        | ⟨0, _⟩ => show 4 ≤ (y 0).val ∧ (y 0).val < 4 + 1; dsimp only at hg; omega
        | ⟨1, _⟩ => show 0 ≤ (y 1).val ∧ (y 1).val < 0 + 128; omega
        | ⟨2, _⟩ => show 0 ≤ (y 2).val ∧ (y 2).val < 0 + 128; omega
      | ⟨5, _⟩ =>
        refine ⟨_, List.mem_of_getElem (i := 0) (h := by simp) rfl, (Rect.mem_set_unit (s := S6x128x128) (inb := inb_S6x128x128_S1x128x128_5_0_0)).mpr fun a => ?_⟩
        match a with
        | ⟨0, _⟩ => show 5 ≤ (y 0).val ∧ (y 0).val < 5 + 1; dsimp only at hg; omega
        | ⟨1, _⟩ => show 0 ≤ (y 1).val ∧ (y 1).val < 0 + 128; omega
        | ⟨2, _⟩ => show 0 ≤ (y 2).val ∧ (y 2).val < 0 + 128; omega
    have h0 : (y 0).val < 6 := (y 0).isLt
    exact key ⟨(y 0).val, h0⟩ rfl

theorem off1_eq : ∀ k : Fin k0_t1_loop.trips, k0_off1 k = ![128 * k.val, 0] := by decide +kernel

theorem pb1_read (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h1 : k0_cond1 i = 1#1) (X_arg1 : BufTy.Contents (Elt F) arg1.view.ty) (X_arg2 : BufTy.Contents (Elt F) arg2.view.ty)  (G : BufTy.Contents (Elt F) arg10.view.ty) :
    ∀ k, k ≤ 24 → ∀ y : S3072x128.Idx, (y 0).val < 128 * k →
      arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 k)) y
        = qwS (arg1.view.read (Elt F) X_arg1) (arg2.view.read (Elt F) X_arg2) y := by
  intro k
  induction k with
  | zero => intro _ y hy; omega
  | succ k ih =>
    intro hk y hy
    have hk' : k < k0_t1_loop.trips := by
      have : k0_t1_loop.trips = 24 := by decide +kernel
      omega
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 ⟨k, hk'⟩
    refine (congrArg (fun L => arg10.view.read (Elt F) (arg10.view.writes (Elt F) G L) y) h).trans ?_
    unfold tripL_k0_t1 trip_k0_t1
    dsimp only
    have h0 : (y 0).val < 3072 := (y 0).isLt
    have h1 : (y 1).val < 128 := (y 1).isLt
    by_cases hc : (y 0).val < 128 * k
    · refine (View.read_writes_cons_rows_of_not_mem arg10.view G _ _ _ y (off1_eq ⟨k, hk'⟩) (W := 128) rfl (Or.inl hc)).trans ?_
      exact ih (by omega) y hc
    · refine (View.read_writes_cons_rows_of_mem arg10.view G _ _ _ y (ix2 (n0 := 128) (n1 := 128) ⟨(y 0).val - 128 * k, by omega⟩ ⟨(y 1).val, h1⟩)
        (off1_eq ⟨k, hk'⟩) ?_ ?_).trans ?_
      · show (y 0).val = 128 * k + ((y 0).val - 128 * k); omega
      · rfl
      · refine (pay19_apply _ _ _ _).trans ?_
        unfold qwS
        rw [View.readAt_eq_ld, View.readAt_eq_ld]
        have ho0 : k0_off1 ⟨k, hk'⟩ 0 = 128 * k := by rw [off1_eq]; rfl
        have ho1 : k0_off1 ⟨k, hk'⟩ 1 = 0 := by rw [off1_eq]; rfl
        refine congrArg₂ wid (congrArg (arg1.view.read (Elt F) X_arg1) ?_) (congrArg (arg2.view.read (Elt F) X_arg2) ?_)
        · funext a; apply Fin.ext
          match a with
          | ⟨0, _⟩ => show k0_off1 ⟨k, hk'⟩ 0 + 1 * ((y 0).val - 128 * k) = (y 0).val; omega
          | ⟨1, _⟩ => show k0_off1 ⟨k, hk'⟩ 1 + 1 * (y 1).val = (y 1).val; omega
        · funext a; apply Fin.ext
          match a with
          | ⟨0, _⟩ => show k0_off1 ⟨k, hk'⟩ 0 + 1 * ((y 0).val - 128 * k) = (y 0).val; omega
          | ⟨1, _⟩ => show k0_off1 ⟨k, hk'⟩ 1 + 1 * ((y 1).val / 32) = (y 1).val / 32; omega

theorem off2_eq : ∀ k : Fin k0_t2_loop.trips, k0_off2 k = ![(k.val + 1) / 32, 0, 0] := by decide +kernel
theorem off3_eq : ∀ k : Fin k0_t2_loop.trips, k0_off3 k = ![k.val + 1, 0, 0] := by decide +kernel
theorem off4_eq : ∀ k : Fin k0_t2_loop.trips, k0_off4 k = ![128 * (k.val + 1), 0] := by decide +kernel

/-- Token `k + 1` of every document, as trip `k` of the document loop finds its scales. -/
theorem ds_token (x4 : Vec F S180x4x128 .f32) (k : ℕ) (hk : k < 179) (off : Fin 3 → ℕ) (inb) (h : off = ![(k + 1) / 32, 0, 0]) (a b : Fin 128) :
    View.ld (Val := Elt F) (S := S6x128x128) (e' := .f32) (dsS x4) (Rect.unit off S1x128x128.size inb)
        (ix3 (n0 := 1) (n1 := 128) (n2 := 128) ⟨0, by omega⟩ a ⟨4 * ((k + 1) % 32) + b.val / 32, by omega⟩)
      = x4 (ix3 ⟨k + 1, by omega⟩ ⟨b.val / 32, by omega⟩ a) := by
  subst h
  show dsS x4 _ = _
  unfold dsS
  rw [dif_pos (by show 32 * ((k + 1) / 32 + 1 * 0) + (0 + 1 * (4 * ((k + 1) % 32) + b.val / 32)) / 4 < 180; omega)]
  refine congrArg x4 (funext fun c => Fin.ext ?_)
  match c with
  | ⟨0, _⟩ => show 32 * ((k + 1) / 32 + 1 * 0) + (0 + 1 * (4 * ((k + 1) % 32) + b.val / 32)) / 4 = k + 1; omega
  | ⟨1, _⟩ => show (0 + 1 * (4 * ((k + 1) % 32) + b.val / 32)) % 4 = b.val / 32; omega
  | ⟨2, _⟩ => show 0 + 1 * a.val = a.val; omega

theorem pb2_read (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)  (x4 : Vec F S180x4x128 .f32) (x5 : Vec F S128x1 .i32) (v52 : FVec F S128x128 .f32) (v53 : IVec S128x128 32) (c32_i32 : BitVec 32) (v55 : IVec S128x128 32) (v62 : IVec S128x128 32) (v63 : BitVec 1) (X_arg3 : BufTy.Contents (Elt F) arg3.view.ty) (X_arg12 : BufTy.Contents (Elt F) arg12.view.ty)
    (h12 : arg12.view.read (Elt F) X_arg12 = dsS x4) (G : BufTy.Contents (Elt F) arg11.view.ty)
    (hG : ∀ y : S23040x128.Idx, (y 0).val < 128 → arg11.view.read (Elt F) G y = dwS (arg3.view.read (Elt F) X_arg3) x4 x5 y) :
    ∀ k, k ≤ 179 → ∀ y : S23040x128.Idx, (y 0).val < 128 * (k + 1) →
      arg11.view.read (Elt F) (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5) v52 v53 c32_i32 v55 v62 v63 X_arg3 X_arg12 G k)) y
        = dwS (arg3.view.read (Elt F) X_arg3) x4 x5 y := by
  intro k
  induction k with
  | zero => intro _ y hy; exact hG y (by omega)
  | succ k ih =>
    intro hk y hy
    have hk' : k < k0_t2_loop.trips := by
      have : k0_t2_loop.trips = 179 := by decide +kernel
      omega
    have h := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5) v52 v53 c32_i32 v55 v62 v63 X_arg3 X_arg12 G ⟨k, hk'⟩
    refine (congrArg (fun L => arg11.view.read (Elt F) (arg11.view.writes (Elt F) G L) y) h).trans ?_
    unfold tripL_k0_t2 trip_k0_t2
    dsimp only
    have h0 : (y 0).val < 23040 := (y 0).isLt
    have h1 : (y 1).val < 128 := (y 1).isLt
    by_cases hc : (y 0).val < 128 * (k + 1)
    · refine (View.read_writes_cons_rows_of_not_mem arg11.view G _ _ _ y (off4_eq ⟨k, hk'⟩) (W := 128) rfl (Or.inl hc)).trans ?_
      exact ih (by omega) y hc
    · refine (View.read_writes_cons_rows_of_mem arg11.view G _ _ _ y (ix2 (n0 := 128) (n1 := 128) ⟨(y 0).val - 128 * (k + 1), by omega⟩ ⟨(y 1).val, h1⟩)
        (off4_eq ⟨k, hk'⟩) ?_ ?_).trans ?_
      · show (y 0).val = 128 * (k + 1) + ((y 0).val - 128 * (k + 1)); omega
      · rfl
      · refine (pay32_apply (k0_pay27 x5) ⟨k, hk'⟩ _ _ _ _ _).trans ?_
        rw [View.readAt_eq_ld, View.readAt_eq_ld, View.readAt_eq_ld, h12, pay27_apply]
        have e1 := ds_token x4 k (by omega) _ (k0_off2_inb ⟨k, hk'⟩) (off2_eq ⟨k, hk'⟩) ⟨(y 0).val - 128 * (k + 1), by omega⟩ ⟨(y 1).val, h1⟩
        have ho0 : k0_off3 ⟨k, hk'⟩ 0 = k + 1 := by rw [off3_eq]; rfl
        have ho1 : k0_off3 ⟨k, hk'⟩ 1 = 0 := by rw [off3_eq]; rfl
        have ho2 : k0_off3 ⟨k, hk'⟩ 2 = 0 := by rw [off3_eq]; rfl
        have hdiv : (y 0).val / 128 = k + 1 := by omega
        have hmod : (y 0).val % 128 = (y 0).val - 128 * (k + 1) := by omega
        have hf : (⟨(y 0).val / 128, by omega⟩ : Fin 180) = ⟨k + 1, by omega⟩ := Fin.ext hdiv
        have hj : (⟨(y 0).val % 128, by omega⟩ : Fin 128) = ⟨(y 0).val - 128 * (k + 1), by omega⟩ := Fin.ext hmod
        have hrow := ih (by omega) (ix2 (n0 := 23040) (n1 := 128) ⟨(y 0).val - 128 * (k + 1), by omega⟩ ⟨(y 1).val, h1⟩) (by show (y 0).val - 128 * (k + 1) < _; omega)
        have hz : dwS (arg3.view.read (Elt F) X_arg3) x4 x5 (ix2 (n0 := 23040) (n1 := 128) ⟨(y 0).val - 128 * (k + 1), by omega⟩ ⟨(y 1).val, h1⟩)
            = tokE (arg3.view.read (Elt F) X_arg3) x4 ⟨0, by omega⟩ ⟨(y 0).val - 128 * (k + 1), by omega⟩ ⟨(y 1).val, h1⟩ := by
          have z1 : ((y 0).val - 128 * (k + 1)) / 128 = 0 := by omega
          have z2 : ((y 0).val - 128 * (k + 1)) % 128 = (y 0).val - 128 * (k + 1) := by omega
          have z3 : (⟨((y 0).val - 128 * (k + 1)) % 128, by omega⟩ : Fin 128) = ⟨(y 0).val - 128 * (k + 1), by omega⟩ := Fin.ext z2
          show dwE _ _ _ ⟨((y 0).val - 128 * (k + 1)) / 128, _⟩ ⟨((y 0).val - 128 * (k + 1)) % 128, _⟩ ⟨(y 1).val, h1⟩ = _
          unfold dwE
          rw [if_pos z1, z3]
        have hR : dwS (arg3.view.read (Elt F) X_arg3) x4 x5 y
            = dwE (arg3.view.read (Elt F) X_arg3) x4 x5 ⟨k + 1, by omega⟩ ⟨(y 0).val - 128 * (k + 1), by omega⟩ ⟨(y 1).val, h1⟩ := by
          show dwE _ _ _ ⟨(y 0).val / 128, _⟩ ⟨(y 0).val % 128, _⟩ (y 1) = _
          rw [hf, hj]
          rfl
        rw [hR]
        unfold dwE
        rw [if_neg (by show ¬ k + 1 = 0; omega)]
        refine congrArg (FloatOps.truncf .bf16 bitsLt_bf16_f32) (congrArg₂ (Scalar.select _) ?_ ?_)
        · refine congrArg (FloatOps.extf .f32 bitsLt_bf16_f32) (congrArg₂ wid (congrArg (arg3.view.read (Elt F) X_arg3) ?_) e1)
          funext a; apply Fin.ext
          match a with
          | ⟨0, _⟩ => show k0_off3 ⟨k, hk'⟩ 0 + 1 * 0 = k + 1; omega
          | ⟨1, _⟩ => show k0_off3 ⟨k, hk'⟩ 1 + 1 * ((y 0).val - 128 * (k + 1)) = (y 0).val - 128 * (k + 1); omega
          | ⟨2, _⟩ => show k0_off3 ⟨k, hk'⟩ 2 + 1 * (y 1).val = (y 1).val; omega
        · refine congrArg (FloatOps.extf .f32 bitsLt_bf16_f32) (Eq.trans ?_ (hrow.trans hz))
          refine congrArg (arg11.view.read (Elt F) _) ?_
          funext a; apply Fin.ext
          match a with
          | ⟨0, _⟩ => show 0 + 1 * ((y 0).val - 128 * (k + 1)) = (y 0).val - 128 * (k + 1); omega
          | ⟨1, _⟩ => show 0 + 1 * (y 1).val = (y 1).val; omega

end Cert.KernelIdeal.Hand
end
-- ==== Proof.BodyIdeal.lean ====
module

public import proofs.«01_k».proof.Proof.ReadsIdeal
public import Idealize.ShloMosaic.Lib.PointwiseCore

@[expose] public section

/-! What one grid point leaves in its blocks, over what the buffers read: the scores and the per-token maxima of
    one block of documents, piece by piece. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic

/-- Query tile `t`: eight queries' 32 rows each. -/
def qtileS (qw : Vec F S3072x128 .bf16) (t : ℕ) : Vec F S256x128 .bf16 := fun y =>
  qw (ix2 ⟨(256 * t + (y 0).val) % 3072, Nat.mod_lt _ (by norm_num)⟩ (y 1))

/-- The maxima over the tokens, query tile `t`. -/
def maxS (qw : Vec F S3072x128 .bf16) (dw : Vec F S23040x128 .bf16) (t : ℕ) : FVec F S128x256 .f32 :=
  accS (qtileS qw t) dw 18

/-- The block of scores a point writes. -/
def scS (qw : Vec F S3072x128 .bf16) (dw : Vec F S23040x128 .bf16) : Vec F S96x128 .f32 := fun y =>
  k0_pay4 (maxS qw dw ((y 0).val / 8)) (ix2 ⟨(y 0).val % 8, by omega⟩ (y 1))

/-- The block of per-token maxima a point writes. -/
def tmS (qw : Vec F S3072x128 .bf16) (dw : Vec F S23040x128 .bf16) : Vec F S3072x128 .f32 := fun y =>
  k0_pay3 (maxS qw dw ((y 0).val / 256)) (ix2 ⟨(y 0).val % 256, by omega⟩ (y 1))

theorem ld_qtile (X : Vec F S3072x128 .bf16) (o : ℕ) (inb) (t : ℕ) (ht : t < 12) (h : o = 256 * t) :
    View.ld (Val := Elt F) (S := S3072x128) (e' := .bf16) X (Rect.unit ![o, 0] S256x128.size inb) = qtileS X t := by
  subst h
  funext y
  refine congrArg X (funext fun a => Fin.ext ?_)
  have h0 : (y 0).val < 256 := (y 0).isLt
  match a with
  | ⟨0, _⟩ => show 256 * t + 1 * (y 0).val = (256 * t + (y 0).val) % 3072; omega
  | ⟨1, _⟩ => show 0 + 1 * (y 1).val = (y 1).val; omega

theorem sc_piece (qw : Vec F S3072x128 .bf16) (dw : Vec F S23040x128 .bf16) (t o : ℕ) (A : FVec F S128x256 .f32)
    (hA : A = maxS qw dw t) (ho : o = 8 * t) (inb) (x : (Rect.unit (s := S96x128) ![o, 0] S8x128.size inb).shape.Idx) :
    k0_pay4 A x = scS qw dw ((Rect.unit (s := S96x128) ![o, 0] S8x128.size inb).emb x) := by
  subst hA ho
  have h0 : (x 0).val < 8 := (x 0).isLt
  have e0 : (((Rect.unit (s := S96x128) ![8 * t, 0] S8x128.size inb).emb x) 0).val = 8 * t + 1 * (x 0).val := rfl
  unfold scS
  rw [show (((Rect.unit (s := S96x128) ![8 * t, 0] S8x128.size inb).emb x) 0).val / 8 = t by rw [e0]; omega]
  refine congrArg (k0_pay4 _) (funext fun a => Fin.ext ?_)
  match a with
  | ⟨0, _⟩ => show (x 0).val = (8 * t + 1 * (x 0).val) % 8; omega
  | ⟨1, _⟩ => show (x 1).val = 0 + 1 * (x 1).val; omega

theorem tm_piece (qw : Vec F S3072x128 .bf16) (dw : Vec F S23040x128 .bf16) (t o : ℕ) (A : FVec F S128x256 .f32)
    (hA : A = maxS qw dw t) (ho : o = 256 * t) (inb) (x : (Rect.unit (s := S3072x128) ![o, 0] S256x128.size inb).shape.Idx) :
    k0_pay3 A x = tmS qw dw ((Rect.unit (s := S3072x128) ![o, 0] S256x128.size inb).emb x) := by
  subst hA ho
  have h0 : (x 0).val < 256 := (x 0).isLt
  have e0 : (((Rect.unit (s := S3072x128) ![256 * t, 0] S256x128.size inb).emb x) 0).val = 256 * t + 1 * (x 0).val := rfl
  unfold tmS
  rw [show (((Rect.unit (s := S3072x128) ![256 * t, 0] S256x128.size inb).emb x) 0).val / 256 = t by rw [e0]; omega]
  refine congrArg (k0_pay3 _) (funext fun a => Fin.ext ?_)
  match a with
  | ⟨0, _⟩ => show (x 0).val = (256 * t + 1 * (x 0).val) % 256; omega
  | ⟨1, _⟩ => show (x 1).val = 0 + 1 * (x 1).val; omega

/-- Twelve stores of whole rows, each what `G` is there, read `G`. -/
theorem read_pieces {κ : Kind} {sp : Space} {s : Shape} {e : EltTy} (v : View sig κ sp s e) (g : v.ty.Contents (Elt F))
    (G : s.Idx → Elt F e) (p0 p1 p2 p3 p4 p5 p6 p7 p8 p9 p10 p11 : View.Piece (Elt F) s e)
    (h0 : ∀ x : p0.1.shape.Idx, p0.2 x = G (p0.1.emb x))
    (h1 : ∀ x : p1.1.shape.Idx, p1.2 x = G (p1.1.emb x))
    (h2 : ∀ x : p2.1.shape.Idx, p2.2 x = G (p2.1.emb x))
    (h3 : ∀ x : p3.1.shape.Idx, p3.2 x = G (p3.1.emb x))
    (h4 : ∀ x : p4.1.shape.Idx, p4.2 x = G (p4.1.emb x))
    (h5 : ∀ x : p5.1.shape.Idx, p5.2 x = G (p5.1.emb x))
    (h6 : ∀ x : p6.1.shape.Idx, p6.2 x = G (p6.1.emb x))
    (h7 : ∀ x : p7.1.shape.Idx, p7.2 x = G (p7.1.emb x))
    (h8 : ∀ x : p8.1.shape.Idx, p8.2 x = G (p8.1.emb x))
    (h9 : ∀ x : p9.1.shape.Idx, p9.2 x = G (p9.1.emb x))
    (h10 : ∀ x : p10.1.shape.Idx, p10.2 x = G (p10.1.emb x))
    (h11 : ∀ x : p11.1.shape.Idx, p11.2 x = G (p11.1.emb x))
    (hc : ∀ y, ∃ p ∈ [p0, p1, p2, p3, p4, p5, p6, p7, p8, p9, p10, p11], y ∈ p.1.set) :
    v.read (Elt F) (v.writes (Elt F) g [p0, p1, p2, p3, p4, p5, p6, p7, p8, p9, p10, p11]) = G := by
  funext y
  refine View.read_writes_apply_of_pieces v g G _ ?_ y (hc y)
  intro p hp
  rcases List.mem_cons.mp hp with rfl | hp
  · exact h0
  rcases List.mem_cons.mp hp with rfl | hp
  · exact h1
  rcases List.mem_cons.mp hp with rfl | hp
  · exact h2
  rcases List.mem_cons.mp hp with rfl | hp
  · exact h3
  rcases List.mem_cons.mp hp with rfl | hp
  · exact h4
  rcases List.mem_cons.mp hp with rfl | hp
  · exact h5
  rcases List.mem_cons.mp hp with rfl | hp
  · exact h6
  rcases List.mem_cons.mp hp with rfl | hp
  · exact h7
  rcases List.mem_cons.mp hp with rfl | hp
  · exact h8
  rcases List.mem_cons.mp hp with rfl | hp
  · exact h9
  rcases List.mem_cons.mp hp with rfl | hp
  · exact h10
  rcases List.mem_cons.mp hp with rfl | hp
  · exact h11
  exact absurd hp List.not_mem_nil

theorem sc_cover (w0 w1 w2 w3 w4 w5 w6 w7 w8 w9 w10 w11 : S8x128.Idx → F .f32) (y : S96x128.Idx) :
    ∃ p ∈ ([⟨Rect.unit ![88, 0] S8x128.size inb_S96x128_S8x128_88_0, w0⟩, ⟨Rect.unit ![80, 0] S8x128.size inb_S96x128_S8x128_80_0, w1⟩, ⟨Rect.unit ![72, 0] S8x128.size inb_S96x128_S8x128_72_0, w2⟩, ⟨Rect.unit ![64, 0] S8x128.size inb_S96x128_S8x128_64_0, w3⟩, ⟨Rect.unit ![56, 0] S8x128.size inb_S96x128_S8x128_56_0, w4⟩, ⟨Rect.unit ![48, 0] S8x128.size inb_S96x128_S8x128_48_0, w5⟩, ⟨Rect.unit ![40, 0] S8x128.size inb_S96x128_S8x128_40_0, w6⟩, ⟨Rect.unit ![32, 0] S8x128.size inb_S96x128_S8x128_32_0, w7⟩, ⟨Rect.unit ![24, 0] S8x128.size inb_S96x128_S8x128_24_0, w8⟩, ⟨Rect.unit ![16, 0] S8x128.size inb_S96x128_S8x128_16_0, w9⟩, ⟨Rect.unit ![8, 0] S8x128.size inb_S96x128_S8x128_8_0, w10⟩, ⟨Rect.unit ![0, 0] S8x128.size inb_S96x128_S8x128_0_0, w11⟩] :
      List (View.Piece (Elt F) S96x128 .f32)), y ∈ p.1.set := by
  have h0 : (y 0).val < 96 := (y 0).isLt
  have h1 : (y 1).val < 128 := (y 1).isLt
  have key : ∀ g : Fin 12, (y 0).val / 8 = g.val → ∃ p ∈ ([⟨Rect.unit ![88, 0] S8x128.size inb_S96x128_S8x128_88_0, w0⟩, ⟨Rect.unit ![80, 0] S8x128.size inb_S96x128_S8x128_80_0, w1⟩, ⟨Rect.unit ![72, 0] S8x128.size inb_S96x128_S8x128_72_0, w2⟩, ⟨Rect.unit ![64, 0] S8x128.size inb_S96x128_S8x128_64_0, w3⟩, ⟨Rect.unit ![56, 0] S8x128.size inb_S96x128_S8x128_56_0, w4⟩, ⟨Rect.unit ![48, 0] S8x128.size inb_S96x128_S8x128_48_0, w5⟩, ⟨Rect.unit ![40, 0] S8x128.size inb_S96x128_S8x128_40_0, w6⟩, ⟨Rect.unit ![32, 0] S8x128.size inb_S96x128_S8x128_32_0, w7⟩, ⟨Rect.unit ![24, 0] S8x128.size inb_S96x128_S8x128_24_0, w8⟩, ⟨Rect.unit ![16, 0] S8x128.size inb_S96x128_S8x128_16_0, w9⟩, ⟨Rect.unit ![8, 0] S8x128.size inb_S96x128_S8x128_8_0, w10⟩, ⟨Rect.unit ![0, 0] S8x128.size inb_S96x128_S8x128_0_0, w11⟩] :
      List (View.Piece (Elt F) S96x128 .f32)), y ∈ p.1.set := by
    intro g hg
    match g with
    | ⟨0, _⟩ =>
      refine ⟨_, List.mem_of_getElem (i := 11) (h := by simp) rfl, (Rect.mem_set_unit (s := S96x128) (inb := inb_S96x128_S8x128_0_0)).mpr fun a => ?_⟩
      match a with
      | ⟨0, _⟩ => show 0 ≤ (y 0).val ∧ (y 0).val < 0 + 8; dsimp only at hg; omega
      | ⟨1, _⟩ => show 0 ≤ (y 1).val ∧ (y 1).val < 0 + 128; omega
    | ⟨1, _⟩ =>
      refine ⟨_, List.mem_of_getElem (i := 10) (h := by simp) rfl, (Rect.mem_set_unit (s := S96x128) (inb := inb_S96x128_S8x128_8_0)).mpr fun a => ?_⟩
      match a with
      | ⟨0, _⟩ => show 8 ≤ (y 0).val ∧ (y 0).val < 8 + 8; dsimp only at hg; omega
      | ⟨1, _⟩ => show 0 ≤ (y 1).val ∧ (y 1).val < 0 + 128; omega
    | ⟨2, _⟩ =>
      refine ⟨_, List.mem_of_getElem (i := 9) (h := by simp) rfl, (Rect.mem_set_unit (s := S96x128) (inb := inb_S96x128_S8x128_16_0)).mpr fun a => ?_⟩
      match a with
      | ⟨0, _⟩ => show 16 ≤ (y 0).val ∧ (y 0).val < 16 + 8; dsimp only at hg; omega
      | ⟨1, _⟩ => show 0 ≤ (y 1).val ∧ (y 1).val < 0 + 128; omega
    | ⟨3, _⟩ =>
      refine ⟨_, List.mem_of_getElem (i := 8) (h := by simp) rfl, (Rect.mem_set_unit (s := S96x128) (inb := inb_S96x128_S8x128_24_0)).mpr fun a => ?_⟩
      match a with
      | ⟨0, _⟩ => show 24 ≤ (y 0).val ∧ (y 0).val < 24 + 8; dsimp only at hg; omega
      | ⟨1, _⟩ => show 0 ≤ (y 1).val ∧ (y 1).val < 0 + 128; omega
    | ⟨4, _⟩ =>
      refine ⟨_, List.mem_of_getElem (i := 7) (h := by simp) rfl, (Rect.mem_set_unit (s := S96x128) (inb := inb_S96x128_S8x128_32_0)).mpr fun a => ?_⟩
      match a with
      | ⟨0, _⟩ => show 32 ≤ (y 0).val ∧ (y 0).val < 32 + 8; dsimp only at hg; omega
      | ⟨1, _⟩ => show 0 ≤ (y 1).val ∧ (y 1).val < 0 + 128; omega
    | ⟨5, _⟩ =>
      refine ⟨_, List.mem_of_getElem (i := 6) (h := by simp) rfl, (Rect.mem_set_unit (s := S96x128) (inb := inb_S96x128_S8x128_40_0)).mpr fun a => ?_⟩
      match a with
      | ⟨0, _⟩ => show 40 ≤ (y 0).val ∧ (y 0).val < 40 + 8; dsimp only at hg; omega
      | ⟨1, _⟩ => show 0 ≤ (y 1).val ∧ (y 1).val < 0 + 128; omega
    | ⟨6, _⟩ =>
      refine ⟨_, List.mem_of_getElem (i := 5) (h := by simp) rfl, (Rect.mem_set_unit (s := S96x128) (inb := inb_S96x128_S8x128_48_0)).mpr fun a => ?_⟩
      match a with
      | ⟨0, _⟩ => show 48 ≤ (y 0).val ∧ (y 0).val < 48 + 8; dsimp only at hg; omega
      | ⟨1, _⟩ => show 0 ≤ (y 1).val ∧ (y 1).val < 0 + 128; omega
    | ⟨7, _⟩ =>
      refine ⟨_, List.mem_of_getElem (i := 4) (h := by simp) rfl, (Rect.mem_set_unit (s := S96x128) (inb := inb_S96x128_S8x128_56_0)).mpr fun a => ?_⟩
      match a with
      | ⟨0, _⟩ => show 56 ≤ (y 0).val ∧ (y 0).val < 56 + 8; dsimp only at hg; omega
      | ⟨1, _⟩ => show 0 ≤ (y 1).val ∧ (y 1).val < 0 + 128; omega
    | ⟨8, _⟩ =>
      refine ⟨_, List.mem_of_getElem (i := 3) (h := by simp) rfl, (Rect.mem_set_unit (s := S96x128) (inb := inb_S96x128_S8x128_64_0)).mpr fun a => ?_⟩
      match a with
      | ⟨0, _⟩ => show 64 ≤ (y 0).val ∧ (y 0).val < 64 + 8; dsimp only at hg; omega
      | ⟨1, _⟩ => show 0 ≤ (y 1).val ∧ (y 1).val < 0 + 128; omega
    | ⟨9, _⟩ =>
      refine ⟨_, List.mem_of_getElem (i := 2) (h := by simp) rfl, (Rect.mem_set_unit (s := S96x128) (inb := inb_S96x128_S8x128_72_0)).mpr fun a => ?_⟩
      match a with
      | ⟨0, _⟩ => show 72 ≤ (y 0).val ∧ (y 0).val < 72 + 8; dsimp only at hg; omega
      | ⟨1, _⟩ => show 0 ≤ (y 1).val ∧ (y 1).val < 0 + 128; omega
    | ⟨10, _⟩ =>
      refine ⟨_, List.mem_of_getElem (i := 1) (h := by simp) rfl, (Rect.mem_set_unit (s := S96x128) (inb := inb_S96x128_S8x128_80_0)).mpr fun a => ?_⟩
      match a with
      | ⟨0, _⟩ => show 80 ≤ (y 0).val ∧ (y 0).val < 80 + 8; dsimp only at hg; omega
      | ⟨1, _⟩ => show 0 ≤ (y 1).val ∧ (y 1).val < 0 + 128; omega
    | ⟨11, _⟩ =>
      refine ⟨_, List.mem_of_getElem (i := 0) (h := by simp) rfl, (Rect.mem_set_unit (s := S96x128) (inb := inb_S96x128_S8x128_88_0)).mpr fun a => ?_⟩
      match a with
      | ⟨0, _⟩ => show 88 ≤ (y 0).val ∧ (y 0).val < 88 + 8; dsimp only at hg; omega
      | ⟨1, _⟩ => show 0 ≤ (y 1).val ∧ (y 1).val < 0 + 128; omega
  exact key ⟨(y 0).val / 8, by omega⟩ rfl

theorem tm_cover (w0 w1 w2 w3 w4 w5 w6 w7 w8 w9 w10 w11 : S256x128.Idx → F .f32) (y : S3072x128.Idx) :
    ∃ p ∈ ([⟨Rect.unit ![2816, 0] S256x128.size inb_S3072x128_S256x128_2816_0, w0⟩, ⟨Rect.unit ![2560, 0] S256x128.size inb_S3072x128_S256x128_2560_0, w1⟩, ⟨Rect.unit ![2304, 0] S256x128.size inb_S3072x128_S256x128_2304_0, w2⟩, ⟨Rect.unit ![2048, 0] S256x128.size inb_S3072x128_S256x128_2048_0, w3⟩, ⟨Rect.unit ![1792, 0] S256x128.size inb_S3072x128_S256x128_1792_0, w4⟩, ⟨Rect.unit ![1536, 0] S256x128.size inb_S3072x128_S256x128_1536_0, w5⟩, ⟨Rect.unit ![1280, 0] S256x128.size inb_S3072x128_S256x128_1280_0, w6⟩, ⟨Rect.unit ![1024, 0] S256x128.size inb_S3072x128_S256x128_1024_0, w7⟩, ⟨Rect.unit ![768, 0] S256x128.size inb_S3072x128_S256x128_768_0, w8⟩, ⟨Rect.unit ![512, 0] S256x128.size inb_S3072x128_S256x128_512_0, w9⟩, ⟨Rect.unit ![256, 0] S256x128.size inb_S3072x128_S256x128_256_0, w10⟩, ⟨Rect.unit ![0, 0] S256x128.size inb_S3072x128_S256x128_0_0, w11⟩] :
      List (View.Piece (Elt F) S3072x128 .f32)), y ∈ p.1.set := by
  have h0 : (y 0).val < 3072 := (y 0).isLt
  have h1 : (y 1).val < 128 := (y 1).isLt
  have key : ∀ g : Fin 12, (y 0).val / 256 = g.val → ∃ p ∈ ([⟨Rect.unit ![2816, 0] S256x128.size inb_S3072x128_S256x128_2816_0, w0⟩, ⟨Rect.unit ![2560, 0] S256x128.size inb_S3072x128_S256x128_2560_0, w1⟩, ⟨Rect.unit ![2304, 0] S256x128.size inb_S3072x128_S256x128_2304_0, w2⟩, ⟨Rect.unit ![2048, 0] S256x128.size inb_S3072x128_S256x128_2048_0, w3⟩, ⟨Rect.unit ![1792, 0] S256x128.size inb_S3072x128_S256x128_1792_0, w4⟩, ⟨Rect.unit ![1536, 0] S256x128.size inb_S3072x128_S256x128_1536_0, w5⟩, ⟨Rect.unit ![1280, 0] S256x128.size inb_S3072x128_S256x128_1280_0, w6⟩, ⟨Rect.unit ![1024, 0] S256x128.size inb_S3072x128_S256x128_1024_0, w7⟩, ⟨Rect.unit ![768, 0] S256x128.size inb_S3072x128_S256x128_768_0, w8⟩, ⟨Rect.unit ![512, 0] S256x128.size inb_S3072x128_S256x128_512_0, w9⟩, ⟨Rect.unit ![256, 0] S256x128.size inb_S3072x128_S256x128_256_0, w10⟩, ⟨Rect.unit ![0, 0] S256x128.size inb_S3072x128_S256x128_0_0, w11⟩] :
      List (View.Piece (Elt F) S3072x128 .f32)), y ∈ p.1.set := by
    intro g hg
    match g with
    | ⟨0, _⟩ =>
      refine ⟨_, List.mem_of_getElem (i := 11) (h := by simp) rfl, (Rect.mem_set_unit (s := S3072x128) (inb := inb_S3072x128_S256x128_0_0)).mpr fun a => ?_⟩
      match a with
      | ⟨0, _⟩ => show 0 ≤ (y 0).val ∧ (y 0).val < 0 + 256; dsimp only at hg; omega
      | ⟨1, _⟩ => show 0 ≤ (y 1).val ∧ (y 1).val < 0 + 128; omega
    | ⟨1, _⟩ =>
      refine ⟨_, List.mem_of_getElem (i := 10) (h := by simp) rfl, (Rect.mem_set_unit (s := S3072x128) (inb := inb_S3072x128_S256x128_256_0)).mpr fun a => ?_⟩
      match a with
      | ⟨0, _⟩ => show 256 ≤ (y 0).val ∧ (y 0).val < 256 + 256; dsimp only at hg; omega
      | ⟨1, _⟩ => show 0 ≤ (y 1).val ∧ (y 1).val < 0 + 128; omega
    | ⟨2, _⟩ =>
      refine ⟨_, List.mem_of_getElem (i := 9) (h := by simp) rfl, (Rect.mem_set_unit (s := S3072x128) (inb := inb_S3072x128_S256x128_512_0)).mpr fun a => ?_⟩
      match a with
      | ⟨0, _⟩ => show 512 ≤ (y 0).val ∧ (y 0).val < 512 + 256; dsimp only at hg; omega
      | ⟨1, _⟩ => show 0 ≤ (y 1).val ∧ (y 1).val < 0 + 128; omega
    | ⟨3, _⟩ =>
      refine ⟨_, List.mem_of_getElem (i := 8) (h := by simp) rfl, (Rect.mem_set_unit (s := S3072x128) (inb := inb_S3072x128_S256x128_768_0)).mpr fun a => ?_⟩
      match a with
      | ⟨0, _⟩ => show 768 ≤ (y 0).val ∧ (y 0).val < 768 + 256; dsimp only at hg; omega
      | ⟨1, _⟩ => show 0 ≤ (y 1).val ∧ (y 1).val < 0 + 128; omega
    | ⟨4, _⟩ =>
      refine ⟨_, List.mem_of_getElem (i := 7) (h := by simp) rfl, (Rect.mem_set_unit (s := S3072x128) (inb := inb_S3072x128_S256x128_1024_0)).mpr fun a => ?_⟩
      match a with
      | ⟨0, _⟩ => show 1024 ≤ (y 0).val ∧ (y 0).val < 1024 + 256; dsimp only at hg; omega
      | ⟨1, _⟩ => show 0 ≤ (y 1).val ∧ (y 1).val < 0 + 128; omega
    | ⟨5, _⟩ =>
      refine ⟨_, List.mem_of_getElem (i := 6) (h := by simp) rfl, (Rect.mem_set_unit (s := S3072x128) (inb := inb_S3072x128_S256x128_1280_0)).mpr fun a => ?_⟩
      match a with
      | ⟨0, _⟩ => show 1280 ≤ (y 0).val ∧ (y 0).val < 1280 + 256; dsimp only at hg; omega
      | ⟨1, _⟩ => show 0 ≤ (y 1).val ∧ (y 1).val < 0 + 128; omega
    | ⟨6, _⟩ =>
      refine ⟨_, List.mem_of_getElem (i := 5) (h := by simp) rfl, (Rect.mem_set_unit (s := S3072x128) (inb := inb_S3072x128_S256x128_1536_0)).mpr fun a => ?_⟩
      match a with
      | ⟨0, _⟩ => show 1536 ≤ (y 0).val ∧ (y 0).val < 1536 + 256; dsimp only at hg; omega
      | ⟨1, _⟩ => show 0 ≤ (y 1).val ∧ (y 1).val < 0 + 128; omega
    | ⟨7, _⟩ =>
      refine ⟨_, List.mem_of_getElem (i := 4) (h := by simp) rfl, (Rect.mem_set_unit (s := S3072x128) (inb := inb_S3072x128_S256x128_1792_0)).mpr fun a => ?_⟩
      match a with
      | ⟨0, _⟩ => show 1792 ≤ (y 0).val ∧ (y 0).val < 1792 + 256; dsimp only at hg; omega
      | ⟨1, _⟩ => show 0 ≤ (y 1).val ∧ (y 1).val < 0 + 128; omega
    | ⟨8, _⟩ =>
      refine ⟨_, List.mem_of_getElem (i := 3) (h := by simp) rfl, (Rect.mem_set_unit (s := S3072x128) (inb := inb_S3072x128_S256x128_2048_0)).mpr fun a => ?_⟩
      match a with
      | ⟨0, _⟩ => show 2048 ≤ (y 0).val ∧ (y 0).val < 2048 + 256; dsimp only at hg; omega
      | ⟨1, _⟩ => show 0 ≤ (y 1).val ∧ (y 1).val < 0 + 128; omega
    | ⟨9, _⟩ =>
      refine ⟨_, List.mem_of_getElem (i := 2) (h := by simp) rfl, (Rect.mem_set_unit (s := S3072x128) (inb := inb_S3072x128_S256x128_2304_0)).mpr fun a => ?_⟩
      match a with
      | ⟨0, _⟩ => show 2304 ≤ (y 0).val ∧ (y 0).val < 2304 + 256; dsimp only at hg; omega
      | ⟨1, _⟩ => show 0 ≤ (y 1).val ∧ (y 1).val < 0 + 128; omega
    | ⟨10, _⟩ =>
      refine ⟨_, List.mem_of_getElem (i := 1) (h := by simp) rfl, (Rect.mem_set_unit (s := S3072x128) (inb := inb_S3072x128_S256x128_2560_0)).mpr fun a => ?_⟩
      match a with
      | ⟨0, _⟩ => show 2560 ≤ (y 0).val ∧ (y 0).val < 2560 + 256; dsimp only at hg; omega
      | ⟨1, _⟩ => show 0 ≤ (y 1).val ∧ (y 1).val < 0 + 128; omega
    | ⟨11, _⟩ =>
      refine ⟨_, List.mem_of_getElem (i := 0) (h := by simp) rfl, (Rect.mem_set_unit (s := S3072x128) (inb := inb_S3072x128_S256x128_2816_0)).mpr fun a => ?_⟩
      match a with
      | ⟨0, _⟩ => show 2816 ≤ (y 0).val ∧ (y 0).val < 2816 + 256; dsimp only at hg; omega
      | ⟨1, _⟩ => show 0 ≤ (y 1).val ∧ (y 1).val < 0 + 128; omega
  exact key ⟨(y 0).val / 256, by omega⟩ rfl

/-- Once the document loop has run, the document scratch reads the widened documents. -/
theorem dw_all (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)  (f3 : BufTy.Contents (Elt F) arg3.view.ty) (x4 : Vec F S180x4x128 .f32) (x5 : Vec F S128x1 .i32) (f11 : BufTy.Contents (Elt F) arg11.view.ty)
    (L12 : List (View.Piece (Elt F) S6x128x128 .f32)) (hL : L12 = dsL x4) (k : ℕ) (hk : k = 179) :
    arg11.view.read (Elt F) (arg11.view.writes (Elt F) f11
      (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 (k0_pay27 x5)
          (k0_pay28 (arg12.view.readCov L12 (Rect.unit (s := S6x128x128) ![0, 0, 0] S1x128x128.size inb_S6x128x128_S1x128x128_0_0_0).toLoadRect))
          (iota .tc S128x128 32 [1] iota_S128x128_d1_w32) 32#32 k0_pay29 k0_pay30 1#1 f3
          (arg12.view.writes (Elt F) arg12.view.junk L12)
          (arg11.view.writes (Elt F) f11 [⟨Rect.unit ![0, 0] S128x128.size inb_S23040x128_S128x128_0_0,
            k0_pay31 (k0_pay28 (arg12.view.readCov L12 (Rect.unit (s := S6x128x128) ![0, 0, 0] S1x128x128.size inb_S6x128x128_S1x128x128_0_0_0).toLoadRect))
              (iota .tc S128x128 32 [1] iota_S128x128_d1_w32) 32#32 k0_pay29 k0_pay30 1#1
              (View.readAt (Elt F) arg3.view (Rect.unit (s := S180x128x128) ![0, 0, 0] S1x128x128.size inb_S180x128x128_S1x128x128_0_0_0).toLoadRect f3)⟩]) k
        ++ [⟨Rect.unit ![0, 0] S128x128.size inb_S23040x128_S128x128_0_0,
            k0_pay31 (k0_pay28 (arg12.view.readCov L12 (Rect.unit (s := S6x128x128) ![0, 0, 0] S1x128x128.size inb_S6x128x128_S1x128x128_0_0_0).toLoadRect))
              (iota .tc S128x128 32 [1] iota_S128x128_d1_w32) 32#32 k0_pay29 k0_pay30 1#1
              (View.readAt (Elt F) arg3.view (Rect.unit (s := S180x128x128) ![0, 0, 0] S1x128x128.size inb_S180x128x128_S1x128x128_0_0_0).toLoadRect f3)⟩]))
      = dwS (arg3.view.read (Elt F) f3) x4 x5 := by
  subst hL hk
  funext y
  rw [View.writes_append]
  have hy : (y 0).val < 23040 := (y 0).isLt
  refine pb2_read 𝒱 c bd i arg1 harg1 arg2 harg2 arg3 harg3 arg4 harg4 arg5 harg5 arg6 harg6 arg7 harg7 arg8 harg8 arg9 harg9 arg10 harg10 arg11 harg11 arg12 harg12 arg13 harg13 x4 x5 _ _ _ _ _ _ f3 _ (ds_read _ _ _) _ ?_ 179 le_rfl y (by omega)
  intro y hy
  have h1 : (y 1).val < 128 := (y 1).isLt
  refine (View.read_writes_cons_rows_of_mem arg11.view f11 _ _ _ y (ix2 (n0 := 128) (n1 := 128) ⟨(y 0).val, hy⟩ ⟨(y 1).val, h1⟩) (o := 0) rfl ?_ ?_).trans ?_
  · show (y 0).val = 0 + (y 0).val; omega
  · rfl
  refine (pay31_apply _ _ _ _).trans ?_
  have z1 : (y 0).val / 128 = 0 := by omega
  have z2 : (⟨(y 0).val % 128, by omega⟩ : Fin 128) = ⟨(y 0).val, hy⟩ := Fin.ext (by show (y 0).val % 128 = (y 0).val; omega)
  show _ = dwE _ _ _ ⟨(y 0).val / 128, _⟩ ⟨(y 0).val % 128, _⟩ (y 1)
  unfold dwE
  rw [if_pos z1, z2]
  unfold tokE
  unfold View.readCov
  rw [View.readAt_eq_ld, View.readAt_eq_ld, ds_read]
  refine congrArg₂ wid (congrArg (arg3.view.read (Elt F) f3) ?_) ?_
  · funext a; apply Fin.ext
    match a with
    | ⟨0, _⟩ => rfl
    | ⟨1, _⟩ => show 0 + 1 * (y 0).val = (y 0).val; omega
    | ⟨2, _⟩ => show 0 + 1 * (y 1).val = (y 1).val; omega
  · show dsS x4 _ = _
    unfold dsS
    rw [dif_pos (by show 32 * (0 + 1 * 0) + (0 + 1 * ((y 1).val / 32)) / 4 < 180; omega)]
    refine congrArg x4 (funext fun a => Fin.ext ?_)
    match a with
    | ⟨0, _⟩ => show 32 * (0 + 1 * 0) + (0 + 1 * ((y 1).val / 32)) / 4 = 0; omega
    | ⟨1, _⟩ => show (0 + 1 * ((y 1).val / 32)) % 4 = (y 1).val / 32; omega
    | ⟨2, _⟩ => show 0 + 1 * (y 0).val = (y 0).val; omega

theorem st3_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v50 : IVec S128x128 32) (v52 : FVec F S128x128 .f32) (v53 : IVec S128x128 32) (c32_i32 : BitVec 32) (v55 : IVec S128x128 32) (v62 : IVec S128x128 32) (v63 : BitVec 1) (v97 : Vec F S256x128 .bf16) (X_arg11 : BufTy.Contents (Elt F) arg11.view.ty)  (qw : Vec F S3072x128 .bf16) (dw : Vec F S23040x128 .bf16)
    (hv : v97 = qtileS qw 0) (hX : arg11.view.read (Elt F) X_arg11 = dw) (k : ℕ) (hk : k = 18) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 v97 X_arg11 k0_pay33 k = maxS qw dw 0 := by
  subst hv hX hk
  exact st3_eq 𝒱 c bd i arg1 harg1 arg2 harg2 arg3 harg3 arg4 harg4 arg5 harg5 arg6 harg6 arg7 harg7 arg8 harg8 arg9 harg9 arg10 harg10 arg11 harg11 arg12 harg12 arg13 harg13 v50 v52 v53 c32_i32 v55 v62 v63 _ X_arg11 18 le_rfl

theorem st4_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v106 : Vec F S256x128 .bf16) (X_arg11 : BufTy.Contents (Elt F) arg11.view.ty)  (qw : Vec F S3072x128 .bf16) (dw : Vec F S23040x128 .bf16)
    (hv : v106 = qtileS qw 1) (hX : arg11.view.read (Elt F) X_arg11 = dw) (k : ℕ) (hk : k = 18) :
    st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 v100 v106 X_arg11 k0_pay37 k = maxS qw dw 1 := by
  subst hv hX hk
  exact st4_eq 𝒱 c bd i arg1 harg1 arg2 harg2 arg3 harg3 arg4 harg4 arg5 harg5 arg6 harg6 arg7 harg7 arg8 harg8 arg9 harg9 arg10 harg10 arg11 harg11 arg12 harg12 arg13 harg13 v100 _ X_arg11 18 le_rfl

theorem st5_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v100 : FVec F S128x256 .f32) (v115 : Vec F S256x128 .bf16) (X_arg11 : BufTy.Contents (Elt F) arg11.view.ty)  (qw : Vec F S3072x128 .bf16) (dw : Vec F S23040x128 .bf16)
    (hv : v115 = qtileS qw 2) (hX : arg11.view.read (Elt F) X_arg11 = dw) (k : ℕ) (hk : k = 18) :
    st_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v100 v115 X_arg11 k0_pay41 k = maxS qw dw 2 := by
  subst hv hX hk
  exact st5_eq 𝒱 c bd i arg1 harg1 arg2 harg2 arg3 harg3 arg4 harg4 arg5 harg5 arg6 harg6 arg7 harg7 arg8 harg8 arg9 harg9 arg10 harg10 arg11 harg11 arg12 harg12 arg13 harg13 v100 _ X_arg11 18 le_rfl

theorem st6_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v124 : Vec F S256x128 .bf16) (X_arg11 : BufTy.Contents (Elt F) arg11.view.ty)  (qw : Vec F S3072x128 .bf16) (dw : Vec F S23040x128 .bf16)
    (hv : v124 = qtileS qw 3) (hX : arg11.view.read (Elt F) X_arg11 = dw) (k : ℕ) (hk : k = 18) :
    st_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 v124 X_arg11 k0_pay45 k = maxS qw dw 3 := by
  subst hv hX hk
  exact st6_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st7_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v133 : Vec F S256x128 .bf16) (X_arg11 : BufTy.Contents (Elt F) arg11.view.ty)  (qw : Vec F S3072x128 .bf16) (dw : Vec F S23040x128 .bf16)
    (hv : v133 = qtileS qw 4) (hX : arg11.view.read (Elt F) X_arg11 = dw) (k : ℕ) (hk : k = 18) :
    st_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 v133 X_arg11 k0_pay49 k = maxS qw dw 4 := by
  subst hv hX hk
  exact st7_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st8_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v142 : Vec F S256x128 .bf16) (X_arg11 : BufTy.Contents (Elt F) arg11.view.ty)  (qw : Vec F S3072x128 .bf16) (dw : Vec F S23040x128 .bf16)
    (hv : v142 = qtileS qw 5) (hX : arg11.view.read (Elt F) X_arg11 = dw) (k : ℕ) (hk : k = 18) :
    st_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 v142 X_arg11 k0_pay53 k = maxS qw dw 5 := by
  subst hv hX hk
  exact st8_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem st9_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v151 : Vec F S256x128 .bf16) (X_arg11 : BufTy.Contents (Elt F) arg11.view.ty)  (qw : Vec F S3072x128 .bf16) (dw : Vec F S23040x128 .bf16)
    (hv : v151 = qtileS qw 6) (hX : arg11.view.read (Elt F) X_arg11 = dw) (k : ℕ) (hk : k = 18) :
    st_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 v146 v151 X_arg11 k0_pay57 k = maxS qw dw 6 := by
  subst hv hX hk
  exact st9_eq 𝒱 c bd i arg1 harg1 arg2 harg2 arg3 harg3 arg4 harg4 arg5 harg5 arg6 harg6 arg7 harg7 arg8 harg8 arg9 harg9 arg10 harg10 arg11 harg11 arg12 harg12 arg13 harg13 v146 _ X_arg11 18 le_rfl

theorem st10_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v146 : FVec F S256x128 .f32) (v160 : Vec F S256x128 .bf16) (X_arg11 : BufTy.Contents (Elt F) arg11.view.ty)  (qw : Vec F S3072x128 .bf16) (dw : Vec F S23040x128 .bf16)
    (hv : v160 = qtileS qw 7) (hX : arg11.view.read (Elt F) X_arg11 = dw) (k : ℕ) (hk : k = 18) :
    st_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 v146 v160 X_arg11 k0_pay61 k = maxS qw dw 7 := by
  subst hv hX hk
  exact st10_eq 𝒱 c bd i arg1 harg1 arg2 harg2 arg3 harg3 arg4 harg4 arg5 harg5 arg6 harg6 arg7 harg7 arg8 harg8 arg9 harg9 arg10 harg10 arg11 harg11 arg12 harg12 arg13 harg13 v146 _ X_arg11 18 le_rfl

theorem st11_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (X_arg11 : BufTy.Contents (Elt F) arg11.view.ty)  (qw : Vec F S3072x128 .bf16) (dw : Vec F S23040x128 .bf16)
    (hv : v169 = qtileS qw 8) (hX : arg11.view.read (Elt F) X_arg11 = dw) (k : ℕ) (hk : k = 18) :
    st_k0_t11 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 X_arg11 k0_pay65 k = maxS qw dw 8 := by
  subst hv hX hk
  exact st11_eq 𝒱 c bd i arg1 harg1 arg2 harg2 arg3 harg3 arg4 harg4 arg5 harg5 arg6 harg6 arg7 harg7 arg8 harg8 arg9 harg9 arg10 harg10 arg11 harg11 arg12 harg12 arg13 harg13 _ v170 c0_i32_130 X_arg11 18 le_rfl

theorem st12_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v178 : Vec F S256x128 .bf16) (X_arg11 : BufTy.Contents (Elt F) arg11.view.ty)  (qw : Vec F S3072x128 .bf16) (dw : Vec F S23040x128 .bf16)
    (hv : v178 = qtileS qw 9) (hX : arg11.view.read (Elt F) X_arg11 = dw) (k : ℕ) (hk : k = 18) :
    st_k0_t12 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v178 X_arg11 k0_pay69 k = maxS qw dw 9 := by
  subst hv hX hk
  exact st12_eq 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 _ X_arg11 18 le_rfl

theorem st13_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v169 : Vec F S256x128 .bf16) (v170 : FVec F S128x256 .f32) (c0_i32_130 : BitVec 32) (v187 : Vec F S256x128 .bf16) (X_arg11 : BufTy.Contents (Elt F) arg11.view.ty)  (qw : Vec F S3072x128 .bf16) (dw : Vec F S23040x128 .bf16)
    (hv : v187 = qtileS qw 10) (hX : arg11.view.read (Elt F) X_arg11 = dw) (k : ℕ) (hk : k = 18) :
    st_k0_t13 (F := F) 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 v187 X_arg11 k0_pay73 k = maxS qw dw 10 := by
  subst hv hX hk
  exact st13_eq 𝒱 c bd i arg1 harg1 arg2 harg2 arg3 harg3 arg4 harg4 arg5 harg5 arg6 harg6 arg7 harg7 arg8 harg8 arg9 harg9 arg10 harg10 arg11 harg11 arg12 harg12 arg13 harg13 v169 v170 c0_i32_130 _ X_arg11 18 le_rfl

theorem st14_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (v196 : Vec F S256x128 .bf16) (X_arg11 : BufTy.Contents (Elt F) arg11.view.ty)  (qw : Vec F S3072x128 .bf16) (dw : Vec F S23040x128 .bf16)
    (hv : v196 = qtileS qw 11) (hX : arg11.view.read (Elt F) X_arg11 = dw) (k : ℕ) (hk : k = 18) :
    st_k0_t14 (F := F) 𝒱 c bd i arg1 harg1 arg2 harg2 arg3 harg3 arg4 harg4 arg5 harg5 arg6 harg6 arg7 harg7 arg8 harg8 arg9 harg9 arg10 harg10 arg11 harg11 arg12 harg12 arg13 harg13 v196 X_arg11 k0_pay1 k = maxS qw dw 11 := by
  subst hv hX hk
  exact st14_eq 𝒱 c bd i arg1 harg1 arg2 harg2 arg3 harg3 arg4 harg4 arg5 harg5 arg6 harg6 arg7 harg7 arg8 harg8 arg9 harg9 arg10 harg10 arg11 harg11 arg12 harg12 arg13 harg13 _ X_arg11 18 le_rfl

theorem ld_whole5 (X : Vec F S128x1 .i32) :
    View.ld (Val := Elt F) (S := S128x1) (e' := .i32) X (Rect.unit ![0, 0] S128x1.size inb_S128x1_S128x1_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

theorem ld_whole6 (X : Vec F S96x1 .i32) :
    View.ld (Val := Elt F) (S := S96x1) (e' := .i32) X (Rect.unit ![0, 0] S96x1.size inb_S96x1_S96x1_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

theorem ld_whole7 (X : Vec F S96x128 .f32) :
    View.ld (Val := Elt F) (S := S96x128) (e' := .f32) X (Rect.unit ![0, 0] S96x128.size inb_S96x128_S96x128_0_0) = X := by
  funext y
  refine congrArg X (funext fun a => Fin.ext ?_)
  match a with
  | ⟨0, _⟩ => show 0 + 1 * (y 0).val = (y 0).val; omega
  | ⟨1, _⟩ => show 0 + 1 * (y 1).val = (y 1).val; omega

/-- The scores of all the blocks once block `t`'s have been stored. -/
def saS (old : Vec F S48x96x128 .f32) (t : ℕ) (sc : Vec F S96x128 .f32) : Vec F S48x96x128 .f32 := fun y =>
  if (y 0).val = t then sc (ix2 (y 1) (y 2)) else old y

/-- The loss, off the scores of all the blocks. -/
def lossS (x6 : Vec F S96x1 .i32) (sa : Vec F S48x96x128 .f32) : Vec F S96x1 .f32 :=
  k0_pay13 (topS sa 48) (sumS x6 (topS sa 48) sa 48).1 (sumS x6 (topS sa 48) sa 48).2

theorem pay5_apply (v : Vec F S96x128 .f32) (a : Fin 1) (b : Fin 96) (d : Fin 128) :
    k0_pay5 v (ix3 a b d) = v (ix2 b d) := by
  pointwise [k0_pay5]

theorem off17_eq : ∀ i : grid0.Coords, k0_off17 i = ![(i 0).val, 0, 0] := by decide +kernel

/-- Storing a block of scores into the scores of all the blocks. -/
theorem sa_read {κ : Kind} {sp : Space} (v : View sig κ sp S48x96x128 .f32) (f : v.ty.Contents (Elt F)) (i : grid0.Coords) (inb)
    (sc sc' : Vec F S96x128 .f32) (h : sc = sc') :
    v.read (Elt F) (v.writes (Elt F) f [⟨Rect.unit (s := S48x96x128) (k0_off17 i) S1x96x128.size inb, k0_pay5 sc⟩])
      = saS (v.read (Elt F) f) (i 0).val sc' := by
  subst h
  funext y
  unfold saS
  have h1 : (y 1).val < 96 := (y 1).isLt
  have h2 : (y 2).val < 128 := (y 2).isLt
  by_cases hc : (y 0).val = (i 0).val
  · rw [if_pos hc]
    refine (View.read_writes_cons_unit_of_mem v f inb (k0_pay5 sc) [] y (ix3 (n0 := 1) (n1 := 96) (n2 := 128) ⟨0, by omega⟩ ⟨(y 1).val, h1⟩ ⟨(y 2).val, h2⟩) (off17_eq i) ?_).trans ?_
    · intro a
      match a with
      | ⟨0, _⟩ => show (y 0).val = (i 0).val + 0; omega
      | ⟨1, _⟩ => show (y 1).val = 0 + (y 1).val; omega
      | ⟨2, _⟩ => show (y 2).val = 0 + (y 2).val; omega
    · exact pay5_apply sc _ _ _
  · rw [if_neg hc]
    refine (View.read_writes_cons_unit_of_not_mem v f inb (k0_pay5 sc) [] y (off17_eq i) 0 ?_).trans rfl
    show (y 0).val < (i 0).val ∨ (i 0).val + 1 ≤ (y 0).val
    omega

theorem loss_whole {κ : Kind} {sp : Space} (v : View sig κ sp S96x1 .f32) (f : v.ty.Contents (Elt F)) (inb) (x : Vec F S96x1 .f32) :
    v.read (Elt F) (v.writes (Elt F) f [⟨Rect.unit (s := S96x1) ![0, 0] ![96, 1] inb, x⟩]) = x := by
  funext y
  refine View.read_writes_cons_unit_of_mem v f inb x [] y y rfl ?_
  intro a
  match a with
  | ⟨0, _⟩ => show (y 0).val = 0 + (y 0).val; omega
  | ⟨1, _⟩ => show (y 1).val = 0 + (y 1).val; omega

theorem loss_eq (x6 : Vec F S96x1 .i32) (sa : Vec F S48x96x128 .f32) (A) (S : _ × _)
    (hA : A = topS sa 48) (hS : S = sumS x6 (topS sa 48) sa 48) : k0_pay13 A S.1 S.2 = lossS x6 sa := by
  subst hA hS; rfl

theorem st15_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (X_arg13 : BufTy.Contents (Elt F) arg13.view.ty)  (sa) (hX : arg13.view.read (Elt F) X_arg13 = sa) (k : ℕ) (hk : k = 48) :
    st_k0_t15 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 X_arg13 k0_pay6 k = topS sa 48 := by
  subst hk hX
  exact st15_eq _ _ _ _ _ _ _ _ _ _ _ _ _ _ _ _ _ _ _ _ _ _ _ _ _ _ _ _ _ _ _ _ 48 (le_refl _)

theorem st16_max (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h2 : k0_cond2 i = 1#1) (v214 : Vec F S96x1 .i32) (v218 : FVec F S96x128 .f32) (X_arg13 : BufTy.Contents (Elt F) arg13.view.ty)  (sa) (hX : arg13.view.read (Elt F) X_arg13 = sa) (x6) (h6 : v214 = x6) (hv : v218 = topS sa 48) (k : ℕ) (hk : k = 48) :
    st_k0_t16 (F := F) 𝒱 c bd i arg1 harg1 arg2 harg2 arg3 harg3 arg4 harg4 arg5 harg5 arg6 harg6 arg7 harg7 arg8 harg8 arg9 harg9 arg10 harg10 arg11 harg11 arg12 harg12 arg13 harg13 k0_h2 v214 v218 X_arg13 (k0_pay9, k0_pay9) k = sumS x6 (topS sa 48) sa 48 := by
  subst hk h6 hX hv
  exact st16_eq _ _ _ _ _ _ _ _ _ _ _ _ _ _ _ _ _ _ _ _ _ _ _ _ _ _ _ _ _ _ _ _ _ _ 48 (le_refl _)

/-- What the loop over the query chunks leaves is all the widened queries. -/
theorem qw_all (𝒱 : Variants) (c : Dev nD) (bd : Option 𝒱.V) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole) (k0_h1 : k0_cond1 i = 1#1) (X_arg1 : BufTy.Contents (Elt F) arg1.view.ty) (X_arg2 : BufTy.Contents (Elt F) arg2.view.ty)  (G : BufTy.Contents (Elt F) arg10.view.ty) (k : ℕ) (hk : k = 24) :
    arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 k)) = qwS (arg1.view.read (Elt F) X_arg1) (arg2.view.read (Elt F) X_arg2) := by
  subst hk
  funext y
  have hy : (y 0).val < 3072 := (y 0).isLt
  exact pb1_read _ _ _ _ _ _ _ _ _ _ _ _ _ _ _ _ _ _ _ _ _ _ _ _ _ _ _ _ _ _ _ _ _ _ 24 (le_refl _) y (by omega)

end Cert.KernelIdeal.Hand
end
-- ==== Proof.RunMidIdeal.lean ====
module

public import proofs.«01_k».proof.Proof.Gen.KernelIdeal.Frame
public import proofs.«01_k».proof.Proof.Gen.KernelIdeal.Loops

@[expose] public section

/-! The run of the body at a grid point that is neither the first nor the last: its loops and straight-line stretches put together. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runMid (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg9.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} f8) ∗ (arg9.view.loc (c : Thread nD τ) ↦[arg9.view.set]{fullShare} O.2.1) ∗ (arg10.view.loc (c : Thread nD τ) ↦[arg10.view.set]{fullShare} f10) ∗ (arg11.view.loc (c : Thread nD τ) ↦[arg11.view.set]{fullShare} O.2.2.1) ∗ (arg12.view.loc (c : Thread nD τ) ↦[arg12.view.set]{fullShare} O.2.2.2.1) ∗ (arg13.view.loc (c : Thread nD τ) ↦[arg13.view.set]{fullShare} O.2.2.2.2))) } := by
  refine ⟨(?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.KernelIdeal.Hand

end
-- ==== Proof.ValsMidIdeal.lean ====
module

public import proofs.«01_k».proof.Proof.BodyIdeal
public import proofs.«01_k».proof.Proof.RunMidIdeal

@[expose] public section

/-! What the body's run at a grid point that is neither the first nor the last leaves, read through its windows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem mid_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (arg10.view.read (Elt F) f10) (dwS (arg3.view.read (Elt F) f3) (arg4.view.read (Elt F) f4) (arg5.view.read (Elt F) f5)) := by
  unfold runMid
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem mid_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = tmS (arg10.view.read (Elt F) f10) (dwS (arg3.view.read (Elt F) f3) (arg4.view.read (Elt F) f4) (arg5.view.read (Elt F) f5)) := by
  unfold runMid
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem mid_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2 = saS (arg13.view.read (Elt F) f13) (i 0).val (scS (arg10.view.read (Elt F) f10) (dwS (arg3.view.read (Elt F) f3) (arg4.view.read (Elt F) f4) (arg5.view.read (Elt F) f5))) := by
  unfold runMid
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

end Cert.KernelIdeal.Hand
end
-- ==== Proof.RunFirstIdeal.lean ====
module

public import proofs.«01_k».proof.Proof.Gen.KernelIdeal.Frame
public import proofs.«01_k».proof.Proof.Gen.KernelIdeal.Loops

@[expose] public section

/-! The run of the body at a grid point that is the first: its loops and straight-line stretches put together. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runFirst (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg9.view.ty × BufTy.Contents (Elt F) arg10.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} f8) ∗ (arg9.view.loc (c : Thread nD τ) ↦[arg9.view.set]{fullShare} O.2.1) ∗ (arg10.view.loc (c : Thread nD τ) ↦[arg10.view.set]{fullShare} O.2.2.1) ∗ (arg11.view.loc (c : Thread nD τ) ↦[arg11.view.set]{fullShare} O.2.2.2.1) ∗ (arg12.view.loc (c : Thread nD τ) ↦[arg12.view.set]{fullShare} O.2.2.2.2.1) ∗ (arg13.view.loc (c : Thread nD τ) ↦[arg13.view.set]{fullShare} O.2.2.2.2.2))) } := by
  refine ⟨(?_, ?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.KernelIdeal.Hand

end
-- ==== Proof.ValsFirstIdeal.lean ====
module

public import proofs.«01_k».proof.Proof.BodyIdeal
public import proofs.«01_k».proof.Proof.RunFirstIdeal

@[expose] public section

/-! What the body's run at the first grid point leaves, read through its windows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem first_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (qwS (arg1.view.read (Elt F) f1) (arg2.view.read (Elt F) f2)) (dwS (arg3.view.read (Elt F) f3) (arg4.view.read (Elt F) f4) (arg5.view.read (Elt F) f5)) := by
  unfold runFirst
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem first_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = tmS (qwS (arg1.view.read (Elt F) f1) (arg2.view.read (Elt F) f2)) (dwS (arg3.view.read (Elt F) f3) (arg4.view.read (Elt F) f4) (arg5.view.read (Elt F) f5)) := by
  unfold runFirst
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem first_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2.2 = saS (arg13.view.read (Elt F) f13) (i 0).val (scS (qwS (arg1.view.read (Elt F) f1) (arg2.view.read (Elt F) f2)) (dwS (arg3.view.read (Elt F) f3) (arg4.view.read (Elt F) f4) (arg5.view.read (Elt F) f5))) := by
  unfold runFirst
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ ((ld_qtile _ 2816 _ 11 (by omega) rfl).trans (congrArg (fun z => qtileS z 11) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ ((ld_qtile _ 2560 _ 10 (by omega) rfl).trans (congrArg (fun z => qtileS z 10) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ ((ld_qtile _ 2304 _ 9 (by omega) rfl).trans (congrArg (fun z => qtileS z 9) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ ((ld_qtile _ 2048 _ 8 (by omega) rfl).trans (congrArg (fun z => qtileS z 8) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ ((ld_qtile _ 1792 _ 7 (by omega) rfl).trans (congrArg (fun z => qtileS z 7) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ ((ld_qtile _ 1536 _ 6 (by omega) rfl).trans (congrArg (fun z => qtileS z 6) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ ((ld_qtile _ 1280 _ 5 (by omega) rfl).trans (congrArg (fun z => qtileS z 5) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ ((ld_qtile _ 1024 _ 4 (by omega) rfl).trans (congrArg (fun z => qtileS z 4) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ ((ld_qtile _ 768 _ 3 (by omega) rfl).trans (congrArg (fun z => qtileS z 3) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ ((ld_qtile _ 512 _ 2 (by omega) rfl).trans (congrArg (fun z => qtileS z 2) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ ((ld_qtile _ 256 _ 1 (by omega) rfl).trans (congrArg (fun z => qtileS z 1) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ ((ld_qtile _ 0 _ 0 (by omega) rfl).trans (congrArg (fun z => qtileS z 0) (qw_all _ _ _ _ _ _ _ _ _ _ _ _ _ _ _ _ _ _ _ _ _ _ _ _ _ _ _ _ _ _ _ _ _ _ _ (by decide +kernel)))) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

theorem first_qw (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg10.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.1 = (qwS (arg1.view.read (Elt F) f1) (arg2.view.read (Elt F) f2)) := by
  unfold runFirst
  dsimp only
  sl_unfold_words
  exact (qw_all _ _ _ _ _ _ _ _ _ _ _ _ _ _ _ _ _ _ _ _ _ _ _ _ _ _ _ _ _ _ _ _ _ _ _ (by decide +kernel))

end Cert.KernelIdeal.Hand
end
-- ==== Proof.RunLastIdeal.lean ====
module

public import proofs.«01_k».proof.Proof.Gen.KernelIdeal.Frame
public import proofs.«01_k».proof.Proof.Gen.KernelIdeal.Loops

@[expose] public section

/-! The run of the body at a grid point that is the last: its loops and straight-line stretches put together. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- What the body's run establishes from the contents of its buffers, found by running it. -/
@[irreducible] def runLast (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    { O : BufTy.Contents (Elt F) arg7.view.ty × BufTy.Contents (Elt F) arg8.view.ty × BufTy.Contents (Elt F) arg9.view.ty × BufTy.Contents (Elt F) arg11.view.ty × BufTy.Contents (Elt F) arg12.view.ty × BufTy.Contents (Elt F) arg13.view.ty //
      ∀ E : Set ℕ, (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} O.1) ∗ (arg8.view.loc (c : Thread nD τ) ↦[arg8.view.set]{fullShare} O.2.1) ∗ (arg9.view.loc (c : Thread nD τ) ↦[arg9.view.set]{fullShare} O.2.2.1) ∗ (arg10.view.loc (c : Thread nD τ) ↦[arg10.view.set]{fullShare} f10) ∗ (arg11.view.loc (c : Thread nD τ) ↦[arg11.view.set]{fullShare} O.2.2.2.1) ∗ (arg12.view.loc (c : Thread nD τ) ↦[arg12.view.set]{fullShare} O.2.2.2.2.1) ∗ (arg13.view.loc (c : Thread nD τ) ↦[arg13.view.set]{fullShare} O.2.2.2.2.2))) } := by
  refine ⟨(?_, ?_, ?_, ?_, ?_, ?_), fun E => ?run⟩
  case run =>
    sl_unfold [cc0__body]
    iintro ⟨H1, H2, H3, H4, H5, H6, H7, H8, H9, H10, H11, H12, H13⟩
    dsimp only
    sl_exec (disch := first | sl_exact hc1 | sl_exact hc2)
    sl_step
    sl_close

end Cert.KernelIdeal.Hand

end
-- ==== Proof.ValsLastIdeal.lean ====
module

public import proofs.«01_k».proof.Proof.BodyIdeal
public import proofs.«01_k».proof.Proof.RunLastIdeal

@[expose] public section

/-! What the body's run at the last grid point leaves, read through its windows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000
open Idealize.ShloMosaic

theorem last_sc (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg7.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.1 = scS (arg10.view.read (Elt F) f10) (dwS (arg3.view.read (Elt F) f3) (arg4.view.read (Elt F) f4) (arg5.view.read (Elt F) f5)) := by
  unfold runLast
  dsimp only
  sl_unfold_words
  exact read_pieces _ _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)

theorem last_tm (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.1 = tmS (arg10.view.read (Elt F) f10) (dwS (arg3.view.read (Elt F) f3) (arg4.view.read (Elt F) f4) (arg5.view.read (Elt F) f5)) := by
  unfold runLast
  dsimp only
  sl_unfold_words
  exact read_pieces _ _ _ _ _ _ _ _ _ _ _ _ _ _ _
    (fun x => tm_piece _ _ 11 2816 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2816_0 x)
    (fun x => tm_piece _ _ 10 2560 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2560_0 x)
    (fun x => tm_piece _ _ 9 2304 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2304_0 x)
    (fun x => tm_piece _ _ 8 2048 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_2048_0 x)
    (fun x => tm_piece _ _ 7 1792 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1792_0 x)
    (fun x => tm_piece _ _ 6 1536 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1536_0 x)
    (fun x => tm_piece _ _ 5 1280 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1280_0 x)
    (fun x => tm_piece _ _ 4 1024 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_1024_0 x)
    (fun x => tm_piece _ _ 3 768 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_768_0 x)
    (fun x => tm_piece _ _ 2 512 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_512_0 x)
    (fun x => tm_piece _ _ 1 256 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_256_0 x)
    (fun x => tm_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S3072x128_S256x128_0_0 x)
    (fun y => tm_cover _ _ _ _ _ _ _ _ _ _ _ _ y)

theorem last_sa (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.2.2.2.2 = saS (arg13.view.read (Elt F) f13) (i 0).val (scS (arg10.view.read (Elt F) f10) (dwS (arg3.view.read (Elt F) f3) (arg4.view.read (Elt F) f4) (arg5.view.read (Elt F) f5))) := by
  unfold runLast
  dsimp only
  sl_unfold_words
  exact sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))

theorem last_loss (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg8.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 f1 f2 f3 f4 f5 f6 f7 f8 f9 f10 f11 f12 f13).1.2.1 = lossS (arg6.view.read (Elt F) f6) (saS (arg13.view.read (Elt F) f13) (i 0).val (scS (arg10.view.read (Elt F) f10) (dwS (arg3.view.read (Elt F) f3) (arg4.view.read (Elt F) f4) (arg5.view.read (Elt F) f5)))) := by
  unfold runLast
  dsimp only
  sl_unfold_words
  exact (loss_whole arg8.view f8 inb_S96x1_S96x1_0_0 _).trans (loss_eq (F := F) _ _ _ _
    (st15_max _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (by decide +kernel))
    (st16_max _ _ _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (ld_whole6 _)
     (st15_max _ _ _ _ _ _ _ _ _ _ _ _ _ _ _ _ _ _ _ _ _ _ _ _ _ _ _ _ _ _ _ _ _
      (sa_read arg13.view f13 i (k0_off17_inb i) _ _ ((ld_whole7 _).trans (read_pieces arg7.view _ _ _ _ _ _ _ _ _ _ _ _ _ _
    (fun x => sc_piece _ _ 11 88 _ (st14_max _ _ _ _ _ _ _ _ _ _ _ _ _ _ _ _ _ _ _ _ _ _ _ _ _ _ _ _ _ _ _ _ _ _ (ld_qtile _ 2816 _ 11 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_88_0 x)
    (fun x => sc_piece _ _ 10 80 _ (st13_max _ _ _ _ _ _ _ _ _ _ _ _ _ _ _ _ _ _ _ _ _ _ _ _ _ _ _ _ _ _ _ _ _ _ _ _ _ (ld_qtile _ 2560 _ 10 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_80_0 x)
    (fun x => sc_piece _ _ 9 72 _ (st12_max _ _ _ _ _ _ _ _ _ _ _ _ _ _ _ _ _ _ _ _ _ _ _ _ _ _ _ _ _ _ _ _ _ _ _ _ _ (ld_qtile _ 2304 _ 9 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_72_0 x)
    (fun x => sc_piece _ _ 8 64 _ (st11_max _ _ _ _ _ _ _ _ _ _ _ _ _ _ _ _ _ _ _ _ _ _ _ _ _ _ _ _ _ _ _ _ _ _ _ _ (ld_qtile _ 2048 _ 8 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_64_0 x)
    (fun x => sc_piece _ _ 7 56 _ (st10_max _ _ _ _ _ _ _ _ _ _ _ _ _ _ _ _ _ _ _ _ _ _ _ _ _ _ _ _ _ _ _ _ _ _ _ (ld_qtile _ 1792 _ 7 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_56_0 x)
    (fun x => sc_piece _ _ 6 48 _ (st9_max _ _ _ _ _ _ _ _ _ _ _ _ _ _ _ _ _ _ _ _ _ _ _ _ _ _ _ _ _ _ _ _ _ _ _ (ld_qtile _ 1536 _ 6 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_48_0 x)
    (fun x => sc_piece _ _ 5 40 _ (st8_max _ _ _ _ _ _ _ _ _ _ _ _ _ _ _ _ _ _ _ _ _ _ _ _ _ _ _ _ _ _ _ _ _ _ (ld_qtile _ 1280 _ 5 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_40_0 x)
    (fun x => sc_piece _ _ 4 32 _ (st7_max _ _ _ _ _ _ _ _ _ _ _ _ _ _ _ _ _ _ _ _ _ _ _ _ _ _ _ _ _ _ _ _ _ _ (ld_qtile _ 1024 _ 4 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_32_0 x)
    (fun x => sc_piece _ _ 3 24 _ (st6_max _ _ _ _ _ _ _ _ _ _ _ _ _ _ _ _ _ _ _ _ _ _ _ _ _ _ _ _ _ _ _ _ _ _ (ld_qtile _ 768 _ 3 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_24_0 x)
    (fun x => sc_piece _ _ 2 16 _ (st5_max _ _ _ _ _ _ _ _ _ _ _ _ _ _ _ _ _ _ _ _ _ _ _ _ _ _ _ _ _ _ _ _ _ _ _ (ld_qtile _ 512 _ 2 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_16_0 x)
    (fun x => sc_piece _ _ 1 8 _ (st4_max _ _ _ _ _ _ _ _ _ _ _ _ _ _ _ _ _ _ _ _ _ _ _ _ _ _ _ _ _ _ _ _ _ _ _ (ld_qtile _ 256 _ 1 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_8_0 x)
    (fun x => sc_piece _ _ 0 0 _ (st3_max _ _ _ _ _ _ _ _ _ _ _ _ _ _ _ _ _ _ _ _ _ _ _ _ _ _ _ _ _ _ _ _ _ _ _ _ _ _ _ _ _ (ld_qtile _ 0 _ 0 (by omega) rfl) ((dw_all _ _ _ _ _ _ _ _ _ _ _ _ _ _ _ _ _ _ _ _ _ _ _ _ _ _ _ _ _ _ _ (arg4.view.read (Elt F) f4) _ _ _ rfl _ (by decide +kernel)).trans (congrArg (dwS _ _) (ld_whole5 _))) _ (by decide +kernel)) rfl inb_S96x128_S8x128_0_0 x)
    (fun y => sc_cover _ _ _ _ _ _ _ _ _ _ _ _ y)))) _ (by decide +kernel))
      _ (by decide +kernel)))

end Cert.KernelIdeal.Hand
end
-- ==== Proof.TriplesIdeal.lean ====
module

public import proofs.«01_k».proof.Proof.ValsMidIdeal
public import proofs.«01_k».proof.Proof.ValsFirstIdeal
public import proofs.«01_k».proof.Proof.ValsLastIdeal

@[expose] public section

/-! The body's three runs as triples over the windows' values: what each buffer reads before and after. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
set_option maxHeartbeats 4000000

/-- At a grid point that is neither the first nor the last: the block of scores and of per-token maxima is stored, and the scores are kept in the block's row. -/
theorem mid_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : ¬ k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS X10 (dwS X3 X4 X5)) ∗ owns (c : Thread nD τ) arg8 fullShare X8 ∗ owns (c : Thread nD τ) arg9 fullShare (tmS X10 (dwS X3 X4 X5)) ∗ owns (c : Thread nD τ) arg10 fullShare X10 ∗ (∃ X, owns (c : Thread nD τ) arg11 fullShare X) ∗ (∃ X, owns (c : Thread nD τ) arg12 fullShare X) ∗ owns (c : Thread nD τ) arg13 fullShare (saS X13 (i 0).val (scS X10 (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact mid_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists g8; isplitr; · ipureintro; exact rfl
      iexact H8
    isplitl [H9]
    · iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact mid_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists g10; isplitr; · ipureintro; exact rfl
      iexact H10
    isplitl [H11]
    · iexists (arg11.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1); iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact rfl
      iexact H11
    isplitl [H12]
    · iexists (arg12.view.read (Elt F) (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H12
    iexists (runMid (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2; isplitr; · ipureintro; exact mid_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

/-- At the first grid point the queries are widened first. -/
theorem first_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : k0_cond1 i = 1#1) (hc2 : ¬ k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS (qwS X1 X2) (dwS X3 X4 X5)) ∗ owns (c : Thread nD τ) arg8 fullShare X8 ∗ owns (c : Thread nD τ) arg9 fullShare (tmS (qwS X1 X2) (dwS X3 X4 X5)) ∗ owns (c : Thread nD τ) arg10 fullShare (qwS X1 X2) ∗ (∃ X, owns (c : Thread nD τ) arg11 fullShare X) ∗ (∃ X, owns (c : Thread nD τ) arg12 fullShare X) ∗ owns (c : Thread nD τ) arg13 fullShare (saS X13 (i 0).val (scS (qwS X1 X2) (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact first_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists g8; isplitr; · ipureintro; exact rfl
      iexact H8
    isplitl [H9]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact first_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact first_qw (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H10
    isplitl [H11]
    · iexists (arg11.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H11
    isplitl [H12]
    · iexists (arg12.view.read (Elt F) (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1); iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1; isplitr; · ipureintro; exact rfl
      iexact H12
    iexists (runFirst (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.2; isplitr; · ipureintro; exact first_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

/-- At the last grid point the loss is read off the scores of all the blocks. -/
theorem last_triple (c : Dev nD) (i : grid0.Coords) (arg1 : Memref sig .tc .vmem S3072x128 .fp8e4m3) (harg1 : arg1.IsWhole) (arg2 : Memref sig .tc .vmem S3072x128 .f32) (harg2 : arg2.IsWhole) (arg3 : Memref sig .tc .vmem S180x128x128 .fp8e4m3) (harg3 : arg3.IsWhole) (arg4 : Memref sig .tc .vmem S180x4x128 .f32) (harg4 : arg4.IsWhole) (arg5 : Memref sig .tc .vmem S128x1 .i32) (harg5 : arg5.IsWhole) (arg6 : Memref sig .tc .vmem S96x1 .i32) (harg6 : arg6.IsWhole) (arg7 : Memref sig .tc .vmem S96x128 .f32) (harg7 : arg7.IsWhole) (arg8 : Memref sig .tc .vmem S96x1 .f32) (harg8 : arg8.IsWhole) (arg9 : Memref sig .tc .vmem S3072x128 .f32) (harg9 : arg9.IsWhole) (arg10 : Memref sig .tc .vmem S3072x128 .bf16) (harg10 : arg10.IsWhole) (arg11 : Memref sig .tc .vmem S23040x128 .bf16) (harg11 : arg11.IsWhole) (arg12 : Memref sig .tc .vmem S6x128x128 .f32) (harg12 : arg12.IsWhole) (arg13 : Memref sig .tc .vmem S48x96x128 .f32) (harg13 : arg13.IsWhole)
    (hc1 : ¬ k0_cond1 i = 1#1) (hc2 : k0_cond2 i = 1#1) (X1 : Vec F S3072x128 .fp8e4m3) (X2 : Vec F S3072x128 .f32) (X3 : Vec F S180x128x128 .fp8e4m3) (X4 : Vec F S180x4x128 .f32) (X5 : Vec F S128x1 .i32) (X6 : Vec F S96x1 .i32) (X7 : Vec F S96x128 .f32) (X8 : Vec F S96x1 .f32) (X9 : Vec F S3072x128 .f32) (X10 : Vec F S3072x128 .bf16) (X11 : Vec F S23040x128 .bf16) (X12 : Vec F S6x128x128 .f32) (X13 : Vec F S48x96x128 .f32) :
    (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13) : sProp 𝕄)
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (scS X10 (dwS X3 X4 X5)) ∗ owns (c : Thread nD τ) arg8 fullShare (lossS X6 (saS X13 (i 0).val (scS X10 (dwS X3 X4 X5)))) ∗ owns (c : Thread nD τ) arg9 fullShare (tmS X10 (dwS X3 X4 X5)) ∗ owns (c : Thread nD τ) arg10 fullShare X10 ∗ (∃ X, owns (c : Thread nD τ) arg11 fullShare X) ∗ (∃ X, owns (c : Thread nD τ) arg12 fullShare X) ∗ owns (c : Thread nD τ) arg13 fullShare (saS X13 (i 0).val (scS X10 (dwS X3 X4 X5))))) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩, ⟨%g13, %h13, H13⟩⟩
  subst h1 h2 h3 h4 h5 h6 h7 h8 h9 h10 h11 h12 h13
  iapply (wp_wand_r frame _ Set.univ)
  isplitl [H1 H2 H3 H4 H5 H6 H7 H8 H9 H10 H11 H12 H13]
  · iapply ((runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).2 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H1, H2, H3, H4, H5, H6, H7, H8, H9, H10, H11, H12, H13⟩
    isplitl [H1]
    · iexists g1; isplitr; · ipureintro; exact rfl
      iexact H1
    isplitl [H2]
    · iexists g2; isplitr; · ipureintro; exact rfl
      iexact H2
    isplitl [H3]
    · iexists g3; isplitr; · ipureintro; exact rfl
      iexact H3
    isplitl [H4]
    · iexists g4; isplitr; · ipureintro; exact rfl
      iexact H4
    isplitl [H5]
    · iexists g5; isplitr; · ipureintro; exact rfl
      iexact H5
    isplitl [H6]
    · iexists g6; isplitr; · ipureintro; exact rfl
      iexact H6
    isplitl [H7]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.1; isplitr; · ipureintro; exact last_sc (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H7
    isplitl [H8]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.1; isplitr; · ipureintro; exact last_loss (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H8
    isplitl [H9]
    · iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.1; isplitr; · ipureintro; exact last_tm (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
      iexact H9
    isplitl [H10]
    · iexists g10; isplitr; · ipureintro; exact rfl
      iexact H10
    isplitl [H11]
    · iexists (arg11.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1); iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.1; isplitr; · ipureintro; exact rfl
      iexact H11
    isplitl [H12]
    · iexists (arg12.view.read (Elt F) (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1); iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.1; isplitr; · ipureintro; exact rfl
      iexact H12
    iexists (runLast (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13).1.2.2.2.2.2; isplitr; · ipureintro; exact last_sa (F := F) c i arg1 harg1 arg2 harg2 arg3 harg3 arg4 harg4 arg5 harg5 arg6 harg6 arg7 harg7 arg8 harg8 arg9 harg9 arg10 harg10 arg11 harg11 arg12 harg12 arg13 harg13 hc1 hc2 g1 g2 g3 g4 g5 g6 g7 g8 g9 g10 g11 g12 g13
    iexact H13

end Cert.KernelIdeal.Hand

end
-- ==== Proof.RegionIdeal.lean ====
module

public import proofs.«01_k».proof.Proof.TriplesIdeal
public import proofs.«01_k».proof.Proof.Gen.KernelIdeal.Frame
public import Idealize.ShloMosaic.Lib.Claim

@[expose] public section

/-! The region's run: what every window's buffer holds after the body at each grid point, and what the scratch
    buffers carry from point to point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000

variable (m : (ℓ : Loc nD τ sig) → Buf (Elt F) ℓ) (ρ : Dev nD → PrngReg)

/-- The first grid point. -/
abbrev t00 : Fin cfg0.N := ⟨0, by decide⟩

/-- The widened queries. -/
def QW (c : Dev nD) : Vec F S3072x128 .bf16 := qwS (iblk m c 0 t00) (iblk m c 1 t00)
/-- The widened and masked documents of block `t`. -/
def DW (c : Dev nD) (t : Fin cfg0.N) : Vec F S23040x128 .bf16 := dwS (iblk m c 2 t) (iblk m c 3 t) (iblk m c 4 t)
/-- The scores of block `t`. -/
def SC (c : Dev nD) (t : Fin cfg0.N) : Vec F S96x128 .f32 := scS (QW m c) (DW m c t)
/-- The per-token maxima of block `t`. -/
def TM (c : Dev nD) (t : Fin cfg0.N) : Vec F S3072x128 .f32 := tmS (QW m c) (DW m c t)
/-- The scores of all the blocks. -/
def SA (c : Dev nD) : Vec F S48x96x128 .f32 := fun y => SC m c ⟨(y 0).val, (y 0).isLt⟩ (ix2 (y 1) (y 2))
/-- The loss. -/
def LO (c : Dev nD) : Vec F S96x1 .f32 := lossS (iblk m c 5 t00) (SA m c)

/-- The rows before `n` of the kept scores are the scores of those blocks. -/
def rowsTo (c : Dev nD) (n : ℕ) (sa : Vec F S48x96x128 .f32) : Prop :=
  ∀ y : S48x96x128.Idx, (y 0).val < n → sa y = SA m c y

/-- What is held between grid points: before the first, the scratch buffers at anything; after it, the widened queries
    and the rows of scores stored so far. -/
def PhiS (c : Dev nD) (n : ℕ) : sProp 𝕄 :=
  if n = 0 then Pipeline.ΦA spec0 c else
  iprop(owns (c : Thread nD τ) (Memref.whole cc0_scratch0) fullShare (QW m c) ∗ (∃ f, owns (c : Thread nD τ) (Memref.whole cc0_scratch1) fullShare f) ∗ (∃ f, owns (c : Thread nD τ) (Memref.whole cc0_scratch2) fullShare f)
    ∗ (∃ f, ⌜rowsTo m c n f⌝ ∗ owns (c : Thread nD τ) (Memref.whole cc0_scratch3) fullShare f) ∗ ∃ r, prngReg c r)

theorem PhiS_zero (c : Dev nD) (n : ℕ) (h : n = 0) : PhiS m c n = iprop((((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f))) ∗ ∃ r, prngReg c r) := by
  unfold PhiS; rw [if_pos h]; unfold Pipeline.ΦA; rw [scopedRest0_eq]
  simp only [owns_whole]
theorem PhiS_pos (c : Dev nD) (n : ℕ) (h : n ≠ 0) : PhiS m c n =
  iprop(owns (c : Thread nD τ) (Memref.whole cc0_scratch0) fullShare (QW m c) ∗ (∃ f, owns (c : Thread nD τ) (Memref.whole cc0_scratch1) fullShare f) ∗ (∃ f, owns (c : Thread nD τ) (Memref.whole cc0_scratch2) fullShare f)
    ∗ (∃ f, ⌜rowsTo m c n f⌝ ∗ owns (c : Thread nD τ) (Memref.whole cc0_scratch3) fullShare f) ∗ ∃ r, prngReg c r) := by
  unfold PhiS; rw [if_neg h]

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => SC m c t
    | ⟨7, _⟩ => LO m c
    | ⟨8, _⟩ => TM m c t
  Φ t := PhiS m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = SC m c t := by dsimp only [dats]
theorem after7 (c : Dev nD) (t : Fin cfg0.N) : (dats m 0 c).after 7 t = LO m c := by dsimp only [dats]
theorem after8 (c : Dev nD) (t : Fin cfg0.N) : (dats m 0 c).after 8 t = TM m c t := by dsimp only [dats]

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

theorem coord_eq : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 47 := by decide +kernel

theorem idle7_of_ne (t : Fin cfg0.N) (h : t.val ≠ 47) : cfg0.idle 7 (cfg0.grid.coords t) = true := by
  show (!(k0_cond2 (grid0.coords t) == 1#1)) = true
  have := (cond2_iff t).not.mpr h
  simp [this]
theorem idle7_of_eq (t : Fin cfg0.N) (h : t.val = 47) : cfg0.idle 7 (cfg0.grid.coords t) = false := by
  show (!(k0_cond2 (grid0.coords t) == 1#1)) = false
  have := (cond2_iff t).mpr h
  simp [this]
theorem flush7_of_ne (t : Fin cfg0.N) (h : t.val ≠ 47) : (cfg0.win 7).flush t = false := by
  have h2 := (flush0_7 t).not
  have hN : t.val < 48 := lt_of_lt_of_eq t.isLt N_0
  cases hb : (cfg0.win 7).flush t with
  | false => rfl
  | true => exact absurd ((flush0_7 t).mp hb) (by omega)

/-- The whole-array windows' blocks are the same at every point. -/
theorem iblk0_eq (c : Dev nD) (t : Fin cfg0.N) : (iblk m c 0 t : Vec F S3072x128 .fp8e4m3) = iblk m c 0 t00 := by
  unfold iblk; rfl
theorem iblk1_eq (c : Dev nD) (t : Fin cfg0.N) : (iblk m c 1 t : Vec F S3072x128 .f32) = iblk m c 1 t00 := by
  unfold iblk; rfl
theorem iblk5_eq (c : Dev nD) (t : Fin cfg0.N) : (iblk m c 5 t : Vec F S96x1 .i32) = iblk m c 5 t00 := by
  unfold iblk; rfl

/-- Storing block `t`'s row extends the kept rows by one. -/
theorem rows_step (c : Dev nD) (t : Fin cfg0.N) (sa : Vec F S48x96x128 .f32) (h : rowsTo m c t.val sa) :
    rowsTo m c (t.val + 1) (saS sa (grid0.coords t 0).val (SC m c t)) := by
  intro y hy
  unfold saS
  rw [coord_eq t]
  by_cases hc : (y 0).val = t.val
  · rw [if_pos hc]
    unfold SA
    have : (⟨(y 0).val, (y 0).isLt⟩ : Fin cfg0.N) = t := Fin.ext hc
    rw [this]
  · rw [if_neg hc]; exact h y (by omega)
theorem rows_first (c : Dev nD) (t : Fin cfg0.N) (sa : Vec F S48x96x128 .f32) (h : t.val = 0) :
    rowsTo m c (t.val + 1) (saS sa (grid0.coords t 0).val (SC m c t)) :=
  rows_step m c t sa (fun y hy => by omega)
/-- After the last point every row is stored. -/
theorem rows_all (c : Dev nD) (sa : Vec F S48x96x128 .f32) (h : rowsTo m c 48 sa) : sa = SA m c :=
  funext fun y => h y (y 0).isLt

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

theorem sound_mid (c : Dev nD) (t : Fin cfg0.N) (h0 : t.val ≠ 0) (h47 : t.val ≠ 47) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ (∃ d, owns (c : Thread nD τ) (st0_7 t) fullShare ((dats m 0 c).before 7 t d)) ∗ owns (c : Thread nD τ) (st0_8 t) fullShare (TM m c t))) := by
    have hc1 := (cond1_iff t).not.mpr h0
    have hc2 := (cond2_iff t).not.mpr h47
    rw [PhiS_pos m c t.val (by omega), PhiS_pos m c (t.val + 1) (by omega)]
    simp only [before0, before1, before2, before3, before4, before5]
    unfold bodyAt0
    iintro ⟨⟨HS0, ⟨%fs1, HS1⟩, ⟨%fs2, HS2⟩, ⟨%fs3, %hrow, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (mid_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · first | iexact HS0 | skip
      isplitl [HS1]; · iexists fs1'; iexact HS1
      isplitl [HS2]; · iexists fs2'; iexact HS2
      isplitl [HS3]
      · iexists _; isplitr; swap; · iexact HS3
        ipureintro; exact rows_step m c t _ hrow
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexact H8

theorem sound_first (c : Dev nD) (t : Fin cfg0.N) (h0 : t.val = 0) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ (∃ d, owns (c : Thread nD τ) (st0_7 t) fullShare ((dats m 0 c).before 7 t d)) ∗ owns (c : Thread nD τ) (st0_8 t) fullShare (TM m c t))) := by
    have hc1 := (cond1_iff t).mpr h0
    have hc2 := (cond2_iff t).not.mpr (by omega)
    rw [PhiS_zero m c _ h0, PhiS_pos m c (t.val + 1) (by omega)]
    simp only [before0, before1, before2, before3, before4, before5]
    have hq : QW m c = qwS (iblk m c 0 t) (iblk m c 1 t) := by unfold QW; rw [iblk0_eq m c t, iblk1_eq m c t]
    unfold bodyAt0
    iintro ⟨⟨⟨⟨%fs0, HS0⟩, ⟨%fs1, HS1⟩, ⟨%fs2, HS2⟩, ⟨%fs3, HS3⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (first_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · rw [hq]; iexact HS0
      isplitl [HS1]; · iexists fs1'; iexact HS1
      isplitl [HS2]; · iexists fs2'; iexact HS2
      isplitl [HS3]
      · iexists _; isplitr; swap; · iexact HS3
        ipureintro; exact (by have := rows_first m c t fs3 h0; unfold SC at this; rw [hq] at this; exact this)
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · unfold SC; rw [hq]; iexact H6
    isplitl [H7]; · iexists d7; iexact H7
    unfold TM; rw [hq]; iexact H8

theorem sound_last (c : Dev nD) (t : Fin cfg0.N) (h47 : t.val = 47) :
    (iprop(PhiS m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))) : sProp 𝕄)
      ⊢ wp frame (wpE (defs₀ (F := F)) Variants.none (c : Thread nD τ) none) Set.univ (bodyAt0 t) (fun _ =>
        iprop(PhiS m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (SC m c t) ∗ owns (c : Thread nD τ) (st0_7 t) fullShare (LO m c) ∗ owns (c : Thread nD τ) (st0_8 t) fullShare (TM m c t))) := by
    have hc1 := (cond1_iff t).not.mpr (by omega)
    have hc2 := (cond2_iff t).mpr h47
    rw [PhiS_pos m c t.val (by omega), PhiS_pos m c (t.val + 1) (by omega)]
    simp only [before0, before1, before2, before3, before4, before5]
    have hlo : ∀ sa, rowsTo m c t.val sa → lossS (iblk m c 5 t) (saS sa (grid0.coords t 0).val (SC m c t)) = LO m c := by
      intro sa hsa
      have h := rows_step m c t sa hsa
      have h' : rowsTo m c 48 (saS sa (grid0.coords t 0).val (SC m c t)) := by rw [h47] at h; exact h
      rw [rows_all m c _ h', iblk5_eq m c t]
      rfl
    unfold bodyAt0
    iintro ⟨⟨HS0, ⟨%fs1, HS1⟩, ⟨%fs2, HS2⟩, ⟨%fs3, %hrow, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 HS0 HS1 HS2 HS3]
    · iapply (last_triple c (grid0.coords t) _ _ _ _ _ _ _ _ _ _ _ _ _ _ _ _ _ _ _ _ _ _ _ _ _ _ hc1 hc2 _ _ _ _ _ _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    iintro %u ⟨H0, H1, H2, H3, H4, H5, H6, H7, H8, HS0, ⟨%fs1', HS1⟩, ⟨%fs2', HS2⟩, HS3⟩
    isplitl [HS0 HS1 HS2 HS3 Hg]
    · isplitl [HS0]; · first | iexact HS0 | skip
      isplitl [HS1]; · iexists fs1'; iexact HS1
      isplitl [HS2]; · iexists fs2'; iexact HS2
      isplitl [HS3]
      · iexists _; isplitr; swap; · iexact HS3
        ipureintro; exact rows_step m c t _ hrow
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [← hlo fs3 hrow]; iexact H7
    iexact H8

theorem body_obligation (c : Dev nD) : BodyObligation (dats (F := F) m 0 c) (defs₀ (F := F)) Variants.none () Set.univ := fun t => by
  rw [bigSep_W0, bigSep_W0, defs₀_row, Phi_castSucc, Phi_succ]
  dsimp only
  rw [after0, after1, after2, after3, after4, after5, after6, after7, after8]
  by_cases h47 : t.val = 47
  · have hi : idle0 7 (grid0.coords t) = false := idle7_of_eq t h47
    rw [hi]
    exact sound_last m c t h47
  · have hi : idle0 7 (grid0.coords t) = true := idle7_of_ne t h47
    have hf : (win0 7).flush t = false := flush7_of_ne t h47
    rw [hi, hf]
    by_cases h0 : t.val = 0
    · exact sound_first m c t h0
    · exact sound_mid m c t h0 h47

theorem hin (c : Dev nD) : Pipeline.ΦA spec0 c ⊢ (dats m 0 c).Φ 0 := by
  rw [show (dats m 0 c).Φ 0 = PhiS m c 0 from rfl]
  unfold PhiS; rw [if_pos rfl]
theorem hout (c : Dev nD) : (dats m 0 c).Φ (Fin.last cfg0.N) ⊢ Pipeline.ΦA spec0 c := by
  rw [show (dats m 0 c).Φ (Fin.last cfg0.N) = PhiS m c 48 from rfl, PhiS_pos m c 48 (by decide),
    show Pipeline.ΦA spec0 c = PhiS m c 0 by unfold PhiS; rw [if_pos rfl], PhiS_zero m c 0 rfl]
  iintro ⟨HS0, HS1, HS2, ⟨%f, %hf, HS3⟩, Hg⟩
  isplitr [Hg]
  · isplitl [HS0]; · iexists _; iexact HS0
    isplitl [HS1]; · iexact HS1
    isplitl [HS2]; · iexact HS2
    iexists f; iexact HS3
  iexact Hg

set_option backward.isDefEq.respectTransparency.types false in
/-- The run of the whole program: it ends, the arrays at what the proof data say, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) 0 launch0 defs₀ Variants.none m ρ main
    (hbody := fun c => (body_obligation m c).loose) (hshare := fun c => (dats m 0 c).share_full fun _ => rfl)
    (howed := fun _ _ => rfl) (V0 m) [hostOps1] sfx_sub sfx_fresh sfx_keeps (hmain m Variants.none) (A_eq m)
    (hin m) (hout m)

/-- The program runs, its arguments end unchanged, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.PaysIdeal.lean ====
module

public import proofs.«01_k».proof.Proof.Gen.KernelIdeal.Skeleton
public import Idealize.ShloMosaic.Lib.Pointwise
public import Idealize.ShloMosaic.PureOps.Ideal
public import Idealize.ShloMosaic.PureOps.Ideal.Laws
public import Idealize.ShloMosaic.Lib.IdealHost

@[expose] public section

/-! What the kernel body's arithmetic computes, element by element, over the extended reals. -/

set_option maxRecDepth 16384

noncomputable section

namespace Cert.KernelIdeal.Hand

open Cert.KernelIdeal Cert.KernelIdeal.Gen
open Idealize.ShloMosaic

/-- The fold of `max` from `-∞` is the supremum. -/
theorem fold_max_bot {α : Type} (s : Finset α) (f : α → EReal) : s.fold max ⊥ f = s.sup f := rfl

/-- The f32 word of `-∞` is `⊥`. -/
theorem ofBits_bot : Ideal.ofBits .f32 0xFF800000#32 = ⊥ := by simp [Ideal.ofBits, Ideal.ieee]

/-- A running maximum starts at `-∞`. -/
theorem pay1_apply (a : Fin 128) (b : Fin 256) : k0_pay1 (F := Ideal) (ix2 a b) = ⊥ := by
  pointwise [k0_pay1]
  exact ofBits_bot

/-- One trip of a maximum loop: the old maximum against the ten tokens' products. -/
theorem pay2_apply (qt : Vec Ideal S256x128 .bf16) (acc : FVec Ideal S128x256 .f32) (dt : Vec Ideal S1280x128 .bf16) (a : Fin 128) (b : Fin 256) :
    k0_pay2 qt acc dt (ix2 a b)
      = max (acc (ix2 a b)) (Finset.univ.sup fun s : Fin 10 => ∑ l : Fin 128,
          (dt (ix2 ⟨s.val * 128 + a.val, by omega⟩ l) : EReal) * (qt (ix2 b l) : EReal)) := by
  pointwise [k0_pay2]
  rw [ofBits_bot]; rfl

/-- The transposed block of maxima. -/
theorem pay3_apply (v : FVec Ideal S128x256 .f32) (a : Fin 256) (b : Fin 128) : k0_pay3 v (ix2 a b) = v (ix2 b a) := by
  pointwise [k0_pay3]

/-- The block of scores: the sum of the 32 tokens' maxima. -/
theorem pay4_apply (v : FVec Ideal S128x256 .f32) (a : Fin 8) (b : Fin 128) :
    k0_pay4 v (ix2 a b) = ∑ t : Fin 32, (v (ix2 b ⟨a.val * 32 + t.val, by omega⟩) : EReal) := by
  pointwise [k0_pay4, k0_pay3]

/-- The running maximum starts at minus infinity. -/
theorem pay6_apply (a : Fin 96) (b : Fin 128) : k0_pay6 (F := Ideal) (ix2 a b) = ⊥ := by
  pointwise [k0_pay6]
  exact ofBits_bot

/-- One step of the running maximum over the blocks of scores. -/
theorem pay7_apply (acc : FVec Ideal S96x128 .f32) (v : Vec Ideal S1x96x128 .f32) (a : Fin 96) (b : Fin 128) :
    k0_pay7 acc v (ix2 a b) = max (acc (ix2 a b)) (v (ix3 ⟨0, by omega⟩ a b)) := by
  pointwise [k0_pay7]

/-- The maximum over the lanes. -/
theorem pay8_apply (v : FVec Ideal S96x128 .f32) (a : Fin 96) (b : Fin 1) :
    k0_pay8 v (ix2 a b) = Finset.univ.sup fun l : Fin 128 => (v (ix2 a l) : EReal) := by
  pointwise [k0_pay8]
  rw [ofBits_bot]; rfl

/-- The running sums start at zero. -/
theorem pay9_apply (a : Fin 96) (b : Fin 128) : k0_pay9 (F := Ideal) (ix2 a b) = 0 := by
  pointwise [k0_pay9]

/-- One step of the sum of exponentials. -/
theorem pay11_apply (top acc : FVec Ideal S96x128 .f32) (v : Vec Ideal S1x96x128 .f32) (a : Fin 96) (b : Fin 128) :
    k0_pay11 top acc v (ix2 a b)
      = acc (ix2 a b) + Ideal.exp (v (ix3 ⟨0, by omega⟩ a b) - k0_pay8 top (ix2 a ⟨0, by omega⟩)) := by
  pointwise [k0_pay11, k0_pay10]

/-- One step of the sum that picks out the score at the positive document. -/
theorem pay12_apply (pos : Vec Ideal S96x1 .i32) (k : Fin k0_t16_loop.trips) (acc : FVec Ideal S96x128 .f32) (v : Vec Ideal S1x96x128 .f32) (a : Fin 96) (b : Fin 128) :
    k0_pay12 pos k acc v (ix2 a b)
      = acc (ix2 a b) + if BitVec.ofNat 32 (128 * k.val + b.val) = pos (ix2 a ⟨0, by omega⟩) then v (ix3 ⟨0, by omega⟩ a b) else 0 := by
  have hk : k.val < 48 := k.isLt
  pointwise [k0_pay12, k0_pay10]
  have e : IntOp.addi (BitVec.ofNat 32 b.val) (Scalar.muli (Scf.iv 0#32 1#32 k.val) 128#32) = BitVec.ofNat 32 (128 * k.val + b.val) := by
    apply BitVec.eq_of_toNat_eq
    have := b.isLt
    simp [IntOp.addi, Scalar.muli, IntOp.muli, Scf.iv]
    omega
  rw [e]
  congr 1
  by_cases h : BitVec.ofNat 32 (128 * k.val + b.val) = pos (ix2 a 0)
  · simp [Scalar.select, IntOp.cmpi, h]
  · rw [if_neg h, show IntOp.cmpi .eq (BitVec.ofNat 32 (128 * k.val + b.val)) (pos (ix2 a 0)) = 0#1 by
      simp only [IntOp.cmpi]; rw [beq_eq_false_iff_ne.mpr h]; rfl]
    rfl

/-- The loss off the final lane-wise sums. -/
theorem pay13_apply (top s1 s2 : FVec Ideal S96x128 .f32) (a : Fin 96) (b : Fin 1) :
    k0_pay13 top s1 s2 (ix2 a b)
      = Ideal.log (∑ l : Fin 128, (s1 (ix2 a l) : EReal)) + k0_pay8 top (ix2 a ⟨0, by omega⟩) - ∑ l : Fin 128, (s2 (ix2 a l) : EReal) := by
  pointwise [k0_pay13]
  rw [Subsingleton.elim b 0]

end Cert.KernelIdeal.Hand

end
-- ==== Proof.Spec.lean ====
module

public import Idealize.ShloMosaic.PureOps.Ideal

@[expose] public section

/-! What both programs compute, over the extended reals, as plain functions of the six arguments. -/

noncomputable section

namespace Cert.Spec

open Idealize.ShloMosaic

/-- The product of document token `s` of document `j` with token `t` of query `b`, each code times its
    block's scale. -/
def dot (qc : Fin 96 → Fin 32 → Fin 128 → EReal) (qs : Fin 96 → Fin 32 → Fin 4 → EReal)
    (dc : Fin 6144 → Fin 180 → Fin 128 → EReal) (ds : Fin 6144 → Fin 180 → Fin 4 → EReal)
    (b : Fin 96) (j : Fin 6144) (t : Fin 32) (s : Fin 180) : EReal :=
  ∑ l : Fin 128, dc j s l * ds j s ⟨l.val / 32, by omega⟩ * (qc b t l * qs b t ⟨l.val / 32, by omega⟩)

/-- The best product over the tokens that the document has. -/
def best (qc : Fin 96 → Fin 32 → Fin 128 → EReal) (qs : Fin 96 → Fin 32 → Fin 4 → EReal)
    (dc : Fin 6144 → Fin 180 → Fin 128 → EReal) (ds : Fin 6144 → Fin 180 → Fin 4 → EReal)
    (len : Fin 6144 → BitVec 32) (b : Fin 96) (j : Fin 6144) (t : Fin 32) : EReal :=
  Finset.univ.sup fun s : Fin 180 => if (BitVec.ofNat 32 s.val).slt (len j) then dot qc qs dc ds b j t s else ⊥

/-- The score of document `j` for query `b`: the sum over the query's tokens of the best products. -/
def score (qc : Fin 96 → Fin 32 → Fin 128 → EReal) (qs : Fin 96 → Fin 32 → Fin 4 → EReal)
    (dc : Fin 6144 → Fin 180 → Fin 128 → EReal) (ds : Fin 6144 → Fin 180 → Fin 4 → EReal)
    (len : Fin 6144 → BitVec 32) (b : Fin 96) (j : Fin 6144) : EReal :=
  ∑ t : Fin 32, best qc qs dc ds len b j t

/-- The loss of one query's scores: their log-sum-exp about the greatest score, less the score at `p`. -/
def loss (sc : Fin 6144 → EReal) (p : Fin 6144) : EReal :=
  Ideal.log (∑ j, Ideal.exp (sc j - Finset.univ.sup sc)) + Finset.univ.sup sc - sc p

end Cert.Spec

end
-- ==== Proof.BlocksIdeal.lean ====
module

public import proofs.«01_k».proof.Proof.PaysIdeal
public import proofs.«01_k».proof.Proof.BodyIdeal
public import proofs.«01_k».proof.Proof.Spec

@[expose] public section

/-! What one block of documents computes over the extended reals: the loops' running values, closed. -/

set_option maxRecDepth 16384

noncomputable section

namespace Cert.KernelIdeal.Hand

open Cert.KernelIdeal Cert.KernelIdeal.Gen
open Idealize.ShloMosaic

/-! ## Suprema and sums by blocks -/

/-- A supremum over `n + k` numbers, split after the first `n`. -/
theorem sup_range_add (f : ℕ → EReal) (n k : ℕ) :
    (Finset.range (n + k)).sup f = max ((Finset.range n).sup f) (Finset.univ.sup fun i : Fin k => f (n + i.val)) := by
  apply le_antisymm
  · refine Finset.sup_le fun x hx => ?_
    have hx := Finset.mem_range.mp hx
    by_cases h : x < n
    · exact le_max_of_le_left (Finset.le_sup (f := f) (Finset.mem_range.mpr h))
    · refine le_max_of_le_right ?_
      have := Finset.le_sup (f := fun i : Fin k => f (n + i.val)) (Finset.mem_univ ⟨x - n, by omega⟩)
      simpa only [show n + (x - n) = x by omega] using this
  · refine max_le (Finset.sup_mono (Finset.range_mono (by omega))) (Finset.sup_le fun i _ => ?_)
    exact Finset.le_sup (f := f) (Finset.mem_range.mpr (by omega))

/-- A supremum over a range is one over `Fin`. -/
theorem sup_range_fin (f : ℕ → EReal) (n : ℕ) : (Finset.range n).sup f = Finset.univ.sup fun i : Fin n => f i.val := by
  apply le_antisymm
  · refine Finset.sup_le fun x hx => ?_
    exact Finset.le_sup (f := fun i : Fin n => f i.val) (Finset.mem_univ ⟨x, Finset.mem_range.mp hx⟩)
  · exact Finset.sup_le fun i _ => Finset.le_sup (f := f) (Finset.mem_range.mpr i.isLt)

/-- A sum over lanes of sums over blocks is one sum. -/
theorem sum_lanes (f : ℕ → EReal) : (∑ l : Fin 128, ∑ k ∈ Finset.range 48, f (128 * k + l.val)) = ∑ j : Fin 6144, f j.val := by
  refine Eq.trans ?_ (Equiv.sum_comp (finProdFinEquiv : Fin 48 × Fin 128 ≃ Fin (48 * 128)) (fun j : Fin (48 * 128) => f j.val))
  rw [Fintype.sum_prod_type, Finset.sum_comm (s := (Finset.univ : Finset (Fin 48)))]
  refine Finset.sum_congr rfl fun l _ => ?_
  rw [Finset.sum_range]
  refine Finset.sum_congr rfl fun k _ => ?_
  exact congrArg f (by simp [finProdFinEquiv]; omega)

/-- The same of suprema. -/
theorem sup_lanes (f : ℕ → EReal) : (Finset.univ.sup fun l : Fin 128 => (Finset.range 48).sup fun k => f (128 * k + l.val))
    = Finset.univ.sup fun j : Fin 6144 => f j.val := by
  apply le_antisymm
  · refine Finset.sup_le fun l _ => Finset.sup_le fun k hk => ?_
    have := Finset.mem_range.mp hk
    exact Finset.le_sup (f := fun j : Fin 6144 => f j.val) (Finset.mem_univ ⟨128 * k + l.val, by omega⟩)
  · refine Finset.sup_le fun j _ => ?_
    refine le_trans ?_ (Finset.le_sup (Finset.mem_univ (⟨j.val % 128, by omega⟩ : Fin 128)))
    have := Finset.le_sup (f := fun k => f (128 * k + j.val % 128)) (Finset.mem_range.mpr (show j.val / 128 < 48 by omega))
    simpa only [show 128 * (j.val / 128) + j.val % 128 = j.val by omega] using this

/-! ## The maxima over tokens -/

/-- The product of row `128 s + j` of the widened documents with row `r` of the widened queries. -/
def prodS (qw : Vec Ideal S3072x128 .bf16) (dw : Vec Ideal S23040x128 .bf16) (r : Fin 3072) (j : Fin 128) (s : ℕ) : EReal :=
  ∑ l : Fin 128, (dw (ix2 ⟨(128 * s + j.val) % 23040, by omega⟩ l) : EReal) * (qw (ix2 r l) : EReal)

/-- After `k` steps the accumulator holds the best of the first `10 k` tokens. -/
theorem acc_apply (qw : Vec Ideal S3072x128 .bf16) (dw : Vec Ideal S23040x128 .bf16) (t : ℕ) (ht : t < 12) (k : ℕ) (a : Fin 128) (b : Fin 256) :
    accS (qtileS qw t) dw k (ix2 a b) = (Finset.range (10 * k)).sup (prodS qw dw ⟨256 * t + b.val, by omega⟩ a) := by
  induction k with
  | zero => exact pay1_apply a b
  | succ k ih =>
    show k0_pay2 (qtileS qw t) (accS (qtileS qw t) dw k) (tileS dw k) (ix2 a b) = _
    rw [pay2_apply, ih, show 10 * (k + 1) = 10 * k + 10 by omega, sup_range_add]
    congr 1
    refine Finset.sup_congr rfl fun s _ => Finset.sum_congr rfl fun l _ => ?_
    refine congrArg₂ (fun x y : EReal => x * y) (congrArg dw ?_) (congrArg qw ?_)
    · refine congrArg (fun z => ix2 z l) (Fin.ext ?_)
      show (1280 * k + (s.val * 128 + a.val)) % 23040 = (128 * (10 * k + s.val) + a.val) % 23040
      congr 1; omega
    · refine congrArg (fun z => ix2 z l) (Fin.ext ?_)
      show (256 * t + b.val) % 3072 = 256 * t + b.val
      omega

/-- After all steps it holds the best of all 180 tokens. -/
theorem max_apply (qw : Vec Ideal S3072x128 .bf16) (dw : Vec Ideal S23040x128 .bf16) (t : ℕ) (ht : t < 12) (a : Fin 128) (b : Fin 256) :
    maxS qw dw t (ix2 a b) = Finset.univ.sup fun s : Fin 180 => prodS qw dw ⟨256 * t + b.val, by omega⟩ a s.val :=
  (acc_apply qw dw t ht 18 a b).trans (sup_range_fin _ 180)

/-- The block of per-token maxima, element by element. -/
theorem tm_apply (qw : Vec Ideal S3072x128 .bf16) (dw : Vec Ideal S23040x128 .bf16) (r : Fin 3072) (j : Fin 128) :
    tmS qw dw (ix2 r j) = Finset.univ.sup fun s : Fin 180 => prodS qw dw r j s.val := by
  show k0_pay3 (maxS qw dw (r.val / 256)) (ix2 ⟨r.val % 256, _⟩ j) = _
  rw [pay3_apply, max_apply _ _ _ (by omega)]
  simp only [show 256 * (r.val / 256) + r.val % 256 = r.val by omega]

/-- The block of scores, element by element. -/
theorem sc_apply (qw : Vec Ideal S3072x128 .bf16) (dw : Vec Ideal S23040x128 .bf16) (b : Fin 96) (j : Fin 128) :
    scS qw dw (ix2 b j) = ∑ t : Fin 32, Finset.univ.sup fun s : Fin 180 => prodS qw dw ⟨32 * b.val + t.val, by omega⟩ j s.val := by
  show k0_pay4 (maxS qw dw (b.val / 8)) (ix2 ⟨b.val % 8, _⟩ j) = _
  rw [pay4_apply]
  refine Finset.sum_congr rfl fun t _ => ?_
  rw [max_apply _ _ _ (by omega)]
  simp only [show 256 * (b.val / 8) + (b.val % 8 * 32 + t.val) = 32 * b.val + t.val by omega]

/-! ## The masked documents -/

/-- Past a document's end its first token stands in: the maximum over all tokens is the maximum over the
    document's own, which has at least one. -/
theorem masked_sup (p : Fin 180 → EReal) (v : Fin 180 → Bool) (h0 : v 0 = true) :
    (Finset.univ.sup fun s : Fin 180 => if s.val = 0 ∨ v s then p s else p 0)
      = Finset.univ.sup fun s : Fin 180 => if v s then p s else ⊥ := by
  apply le_antisymm
  · refine Finset.sup_le fun s _ => ?_
    by_cases h : v s
    · rw [if_pos (Or.inr h)]
      have := Finset.le_sup (f := fun s : Fin 180 => if v s then p s else ⊥) (Finset.mem_univ s)
      simpa only [h, if_true] using this
    · have := Finset.le_sup (f := fun s : Fin 180 => if v s then p s else ⊥) (Finset.mem_univ 0)
      simp only [h0, if_true] at this
      split
      · rename_i h'
        obtain rfl : s = 0 := Fin.ext (h'.resolve_right h)
        exact this
      · exact this
  · refine Finset.sup_le fun s _ => ?_
    split
    · rename_i h
      have := Finset.le_sup (f := fun s : Fin 180 => if s.val = 0 ∨ v s then p s else p 0) (Finset.mem_univ s)
      simpa only [h, or_true, if_true] using this
    · exact bot_le

/-- A row of the widened documents. -/
theorem dw_apply (x3 : Vec Ideal S180x128x128 .fp8e4m3) (x4 : Vec Ideal S180x4x128 .f32) (x5 : Vec Ideal S128x1 .i32) (s : Fin 180) (j l : Fin 128) :
    dwS x3 x4 x5 (ix2 ⟨(128 * s.val + j.val) % 23040, by omega⟩ l)
      = if s.val = 0 ∨ (BitVec.ofNat 32 s.val).slt (x5 (ix2 j 0)) then (x3 (ix3 s j l) : EReal) * (x4 (ix3 s ⟨l.val / 32, by omega⟩ j) : EReal)
        else (x3 (ix3 0 j l) : EReal) * (x4 (ix3 0 ⟨l.val / 32, by omega⟩ j) : EReal) := by
  have e : dwS x3 x4 x5 (ix2 ⟨(128 * s.val + j.val) % 23040, by omega⟩ l) = dwE x3 x4 x5 s j l := by
    unfold dwS
    refine congrArg₂ (fun a b => dwE x3 x4 x5 a b l) (Fin.ext ?_) (Fin.ext ?_)
    · show (128 * s.val + j.val) % 23040 / 128 = s.val
      omega
    · show (128 * s.val + j.val) % 23040 % 128 = j.val
      omega
  rw [e]
  unfold dwE
  by_cases h : s.val = 0
  · obtain rfl : s = 0 := Fin.ext h
    rw [if_pos h, if_pos (Or.inl h)]
    rfl
  · rw [if_neg h]
    show Scalar.select (IntOp.cmpi .slt (BitVec.ofNat 32 s.val) (x5 (ix2 j 0))) ((x3 (ix3 s j l) : EReal) * (x4 (ix3 s ⟨l.val / 32, by omega⟩ j) : EReal))
      ((x3 (ix3 0 j l) : EReal) * (x4 (ix3 0 ⟨l.val / 32, by omega⟩ j) : EReal)) = _
    cases h' : (BitVec.ofNat 32 s.val).slt (x5 (ix2 j 0)) <;> simp [Scalar.select, IntOp.cmpi, h, h']

/-- The best product of one query token with one document of the block. -/
theorem best_apply (x1 : Vec Ideal S3072x128 .fp8e4m3) (x2 : Vec Ideal S3072x128 .f32)
    (x3 : Vec Ideal S180x128x128 .fp8e4m3) (x4 : Vec Ideal S180x4x128 .f32) (x5 : Vec Ideal S128x1 .i32) (r : Fin 3072) (j : Fin 128)
    (h0 : (0#32).slt (x5 (ix2 j 0)) = true) :
    (Finset.univ.sup fun s : Fin 180 => prodS (qwS x1 x2) (dwS x3 x4 x5) r j s.val)
      = Finset.univ.sup fun s : Fin 180 => if (BitVec.ofNat 32 s.val).slt (x5 (ix2 j 0)) then
          ∑ l : Fin 128, (x3 (ix3 s j l) : EReal) * (x4 (ix3 s ⟨l.val / 32, by omega⟩ j) : EReal)
            * ((x1 (ix2 r l) : EReal) * (x2 (ix2 r ⟨l.val / 32, by omega⟩) : EReal)) else ⊥ := by
  rw [← masked_sup _ (fun s : Fin 180 => (BitVec.ofNat 32 s.val).slt (x5 (ix2 j 0))) h0]
  refine Finset.sup_congr rfl fun s _ => ?_
  unfold prodS
  simp only [dw_apply]
  split
  · rfl
  · rfl

/-! ## The loss -/

/-- The running maximum after `k` blocks, lane by lane. -/
theorem top_apply (sa : Vec Ideal S48x96x128 .f32) (k : ℕ) (a : Fin 96) (l : Fin 128) :
    topS sa k (ix2 a l) = (Finset.range k).sup fun k => (sa (ix3 ⟨k % 48, by omega⟩ a l) : EReal) := by
  induction k with
  | zero => exact pay6_apply a l
  | succ k ih =>
    show k0_pay7 (topS sa k) (rowS sa k) (ix2 a l) = _
    rw [pay7_apply, ih, Finset.range_add_one, Finset.sup_insert, max_comm]
    rfl

/-- The two running sums, one step on. -/
theorem sumS_succ (x6 : Vec Ideal S96x1 .i32) (top : FVec Ideal S96x128 .f32) (sa : Vec Ideal S48x96x128 .f32) (k : ℕ) (h : k < k0_t16_loop.trips) :
    sumS x6 top sa (k + 1) = (k0_pay11 top (sumS x6 top sa k).1 (rowS sa k), k0_pay12 x6 ⟨k, h⟩ (sumS x6 top sa k).2 (rowS sa k)) := by
  conv_lhs => unfold sumS
  exact dif_pos h

/-- The sum of exponentials after `k` blocks, lane by lane. -/
theorem sum1_apply (x6 : Vec Ideal S96x1 .i32) (top : FVec Ideal S96x128 .f32) (sa : Vec Ideal S48x96x128 .f32) (k : ℕ) (hk : k ≤ 48) (a : Fin 96) (l : Fin 128) :
    (sumS x6 top sa k).1 (ix2 a l) = ∑ k ∈ Finset.range k, Ideal.exp ((sa (ix3 ⟨k % 48, by omega⟩ a l) : EReal) - k0_pay8 top (ix2 a 0)) := by
  induction k with
  | zero => exact pay9_apply a l
  | succ k ih =>
    have h : k < k0_t16_loop.trips := hk
    rw [Finset.sum_range_succ, ← ih (by omega)]
    rw [sumS_succ x6 top sa k h]
    exact pay11_apply _ _ _ a l

/-- The picked score after `k` blocks, lane by lane. -/
theorem sum2_apply (x6 : Vec Ideal S96x1 .i32) (top : FVec Ideal S96x128 .f32) (sa : Vec Ideal S48x96x128 .f32) (k : ℕ) (hk : k ≤ 48) (a : Fin 96) (l : Fin 128) :
    (sumS x6 top sa k).2 (ix2 a l) = ∑ k ∈ Finset.range k, if BitVec.ofNat 32 (128 * k + l.val) = x6 (ix2 a 0) then (sa (ix3 ⟨k % 48, by omega⟩ a l) : EReal) else 0 := by
  induction k with
  | zero => exact pay9_apply a l
  | succ k ih =>
    have h : k < k0_t16_loop.trips := hk
    rw [Finset.sum_range_succ, ← ih (by omega)]
    rw [sumS_succ x6 top sa k h]
    exact pay12_apply _ _ _ _ a l

/-- The loss is the plain one of the query's 6144 scores. -/
theorem loss_apply (x6 : Vec Ideal S96x1 .i32) (sa : Vec Ideal S48x96x128 .f32) (a : Fin 96) (z : Fin 1) (p : Fin 6144)
    (hp : x6 (ix2 a 0) = BitVec.ofNat 32 p.val) :
    lossS x6 sa (ix2 a z) = Cert.Spec.loss (fun j : Fin 6144 => (sa (ix3 ⟨j.val / 128, by omega⟩ a ⟨j.val % 128, by omega⟩) : EReal)) p := by
  have key : ∀ k l : ℕ, ∀ hk : k < 48, ∀ hl : l < 128,
      (sa (ix3 ⟨k % 48, by omega⟩ a ⟨l, hl⟩) : EReal) = sa (ix3 ⟨(128 * k + l) / 128 % 48, by omega⟩ a ⟨(128 * k + l) % 128, by omega⟩) := by
    intro k l hk hl
    refine congrArg₂ (fun u v => sa (ix3 u a v)) (Fin.ext ?_) (Fin.ext ?_)
    · show k % 48 = (128 * k + l) / 128 % 48
      omega
    · show l = (128 * k + l) % 128
      omega
  have fin : ∀ j : Fin 6144, (sa (ix3 ⟨j.val / 128 % 48, by omega⟩ a ⟨j.val % 128, by omega⟩) : EReal) = sa (ix3 ⟨j.val / 128, by omega⟩ a ⟨j.val % 128, by omega⟩) := by
    intro j
    refine congrArg (fun u => sa (ix3 u a _)) (Fin.ext ?_)
    show j.val / 128 % 48 = j.val / 128
    omega
  have htop : k0_pay8 (topS sa 48) (ix2 a 0) = Finset.univ.sup fun j : Fin 6144 => (sa (ix3 ⟨j.val / 128, by omega⟩ a ⟨j.val % 128, by omega⟩) : EReal) := by
    rw [pay8_apply, ← Finset.sup_congr rfl (fun j _ => fin j),
      ← sup_lanes (fun j => (sa (ix3 ⟨j / 128 % 48, by omega⟩ a ⟨j % 128, by omega⟩) : EReal))]
    refine Finset.sup_congr rfl fun l _ => ?_
    rw [top_apply]
    exact Finset.sup_congr rfl fun k hk => key k l.val (Finset.mem_range.mp hk) l.isLt
  unfold lossS
  rw [pay13_apply]
  unfold Cert.Spec.loss
  rw [← htop]
  refine congrArg₂ (fun x y : EReal => x - y) (congrArg (fun x : EReal => Ideal.log x + _) ?_) ?_
  · rw [← Finset.sum_congr rfl (fun j _ => congrArg (fun x : EReal => Ideal.exp (x - k0_pay8 (topS sa 48) (ix2 a 0))) (fin j)),
      ← sum_lanes (fun j => Ideal.exp ((sa (ix3 ⟨j / 128 % 48, by omega⟩ a ⟨j % 128, by omega⟩) : EReal) - k0_pay8 (topS sa 48) (ix2 a 0)))]
    refine Finset.sum_congr rfl fun l _ => ?_
    rw [sum1_apply _ _ _ _ le_rfl]
    exact Finset.sum_congr rfl fun k hk => congrArg (fun x : EReal => Ideal.exp (x - _)) (key k l.val (Finset.mem_range.mp hk) l.isLt)
  · change _ = (sa (ix3 ⟨p.val / 128, by omega⟩ a ⟨p.val % 128, by omega⟩) : EReal)
    rw [← fin p]
    rw [Finset.sum_congr rfl (g := fun l : Fin 128 => ∑ k ∈ Finset.range 48, if BitVec.ofNat 32 (128 * k + l.val) = BitVec.ofNat 32 p.val then
        (sa (ix3 ⟨(128 * k + l.val) / 128 % 48, by omega⟩ a ⟨(128 * k + l.val) % 128, by omega⟩) : EReal) else 0) (fun l _ => by
      rw [sum2_apply _ _ _ _ le_rfl, hp]
      exact Finset.sum_congr rfl fun k hk => if_congr Iff.rfl (key k l.val (Finset.mem_range.mp hk) l.isLt) rfl),
      sum_lanes (fun j => if BitVec.ofNat 32 j = BitVec.ofNat 32 p.val then
        (sa (ix3 ⟨j / 128 % 48, by omega⟩ a ⟨j % 128, by omega⟩) : EReal) else 0),
      Finset.sum_eq_single p (fun j _ hj => if_neg fun h => hj (Fin.ext ?_)) (fun h => absurd (Finset.mem_univ p) h), if_pos rfl]
    have := congrArg BitVec.toNat h
    simp only [BitVec.toNat_ofNat] at this
    omega

end Cert.KernelIdeal.Hand

end
-- ==== Proof.ArraysIdeal.lean ====
module

public import proofs.«01_k».proof.Proof.RegionIdeal
public import proofs.«01_k».proof.Proof.BlocksIdeal
public import Idealize.ShloMosaic.Lib.Pipeline.ValueKit

@[expose] public section

/-! The kernel's blocks read off the arguments, and the three arrays it leaves, element by element. -/

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- Where each window stands at step `t`. -/
theorem at0 : ∀ t : Fin cfg0.N, win0_0.index t = ![0, 0] := by decide +kernel
theorem at1 : ∀ t : Fin cfg0.N, win0_1.index t = ![0, 0] := by decide +kernel
theorem at2 : ∀ t : Fin cfg0.N, win0_2.index t = ![0, t.val, 0] := by decide +kernel
theorem at3 : ∀ t : Fin cfg0.N, win0_3.index t = ![0, 0, t.val] := by decide +kernel
theorem at4 : ∀ t : Fin cfg0.N, win0_4.index t = ![t.val, 0] := by decide +kernel
theorem at5 : ∀ t : Fin cfg0.N, win0_5.index t = ![0, 0] := by decide +kernel
theorem at6 : ∀ t : Fin cfg0.N, win0_6.index t = ![0, t.val] := by decide +kernel
theorem at7 : ∀ t : Fin cfg0.N, win0_7.index t = ![0, 0] := by decide +kernel
theorem at8 : ∀ t : Fin cfg0.N, win0_8.index t = ![0, t.val] := by decide +kernel

/-- The six arrays that the host lines before the region prepare, read from the arguments. -/
theorem V_v4_at (r : Fin 3072) (l : Fin 128) : (V m c main_v4 : S3072x128.Idx → EReal) (ix2 r l) = m ((c : Thread nD τ).loc main_arg0) (ix3 ⟨r.val / 32, by omega⟩ ⟨r.val % 32, by omega⟩ l) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

theorem V_v1_at (r : Fin 3072) (l : Fin 4) : (V m c main_v1 : S3072x128.Idx → EReal) (ix2 r ⟨l.val, by omega⟩) = m ((c : Thread nD τ).loc main_arg1) (ix3 ⟨r.val / 32, by omega⟩ ⟨r.val % 32, by omega⟩ l) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

theorem V_v2_at (s : Fin 180) (j : Fin 6144) (l : Fin 128) : (V m c main_v2 : S180x6144x128.Idx → EReal) (ix3 s j l) = m ((c : Thread nD τ).loc main_arg2) (ix3 j s l) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

theorem V_v3_at (s : Fin 180) (g : Fin 4) (j : Fin 6144) : (V m c main_v3 : S180x4x6144.Idx → EReal) (ix3 s g j) = m ((c : Thread nD τ).loc main_arg3) (ix3 j s g) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

theorem V_v5_at (j : Fin 6144) : (V m c main_v5 : S6144x1.Idx → BitVec 32) (ix2 j 0) = m ((c : Thread nD τ).loc main_arg4) (ix1 j) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

theorem V_v6_at (a : Fin 96) : (V m c main_v6 : S96x1.Idx → BitVec 32) (ix2 a 0) = m ((c : Thread nD τ).loc main_arg5) (ix1 a) := by
  unfold V V0
  simp only [hostOps0, hostOps0_1, hostOps0_2, List.flatten_cons, List.flatten_nil, List.append_nil, List.cons_append, List.nil_append]
  after_results
  try simp -implicitDefEqProofs only [StableHlo.TRef.toBuf, StableHlo.TRef.ofBuf, cast_eq, id]
  pointwise

/-- The six input blocks at step `t`, read from the arguments. -/
theorem blk0 (t : Fin cfg0.N) (r : Fin 3072) (l : Fin 128) : (iblk m c 0 t : Vec Ideal S3072x128 .fp8e4m3) (ix2 r l)
    = m ((c : Thread nD τ).loc main_arg0) (ix3 ⟨r.val / 32, by omega⟩ ⟨r.val % 32, by omega⟩ l) := by
  refine Eq.trans ?_ (V_v4_at m c r l)
  refine congrArg (V m c main_v4) ?_
  show (win0_0.blk t).view.emb (ix2 r l) = ix2 r l
  blk_ext [at0 t]

theorem blk1 (t : Fin cfg0.N) (r : Fin 3072) (l : Fin 4) : (iblk m c 1 t : Vec Ideal S3072x128 .f32) (ix2 r ⟨l.val, by omega⟩)
    = m ((c : Thread nD τ).loc main_arg1) (ix3 ⟨r.val / 32, by omega⟩ ⟨r.val % 32, by omega⟩ l) := by
  refine Eq.trans ?_ (V_v1_at m c r l)
  refine congrArg (V m c main_v1) ?_
  show (win0_1.blk t).view.emb (ix2 r ⟨l.val, by omega⟩) = ix2 r ⟨l.val, by omega⟩
  blk_ext [at1 t]

theorem blk2 (t : Fin cfg0.N) (s : Fin 180) (j l : Fin 128) (h : 128 * t.val + j.val < 6144) : (iblk m c 2 t : Vec Ideal S180x128x128 .fp8e4m3) (ix3 s j l)
    = m ((c : Thread nD τ).loc main_arg2) (ix3 ⟨128 * t.val + j.val, h⟩ s l) := by
  refine Eq.trans ?_ (V_v2_at m c s _ l)
  refine congrArg (V m c main_v2) ?_
  show (win0_2.blk t).view.emb (ix3 s j l) = ix3 s ⟨128 * t.val + j.val, h⟩ l
  blk_ext [at2 t]

theorem blk3 (t : Fin cfg0.N) (s : Fin 180) (g : Fin 4) (j : Fin 128) (h : 128 * t.val + j.val < 6144) : (iblk m c 3 t : Vec Ideal S180x4x128 .f32) (ix3 s g j)
    = m ((c : Thread nD τ).loc main_arg3) (ix3 ⟨128 * t.val + j.val, h⟩ s g) := by
  refine Eq.trans ?_ (V_v3_at m c s g _)
  refine congrArg (V m c main_v3) ?_
  show (win0_3.blk t).view.emb (ix3 s g j) = ix3 s g ⟨128 * t.val + j.val, h⟩
  blk_ext [at3 t]

theorem blk4 (t : Fin cfg0.N) (j : Fin 128) (h : 128 * t.val + j.val < 6144) : (iblk m c 4 t : Vec Ideal S128x1 .i32) (ix2 j 0)
    = m ((c : Thread nD τ).loc main_arg4) (ix1 ⟨128 * t.val + j.val, h⟩) := by
  refine Eq.trans ?_ (V_v5_at m c _)
  refine congrArg (V m c main_v5) ?_
  show (win0_4.blk t).view.emb (ix2 j 0) = ix2 ⟨128 * t.val + j.val, h⟩ 0
  blk_ext [at4 t]

theorem blk5 (t : Fin cfg0.N) (a : Fin 96) : (iblk m c 5 t : Vec Ideal S96x1 .i32) (ix2 a 0)
    = m ((c : Thread nD τ).loc main_arg5) (ix1 a) := by
  refine Eq.trans ?_ (V_v6_at m c a)
  refine congrArg (V m c main_v6) ?_
  show (win0_5.blk t).view.emb (ix2 a 0) = ix2 a 0
  blk_ext [at5 t]

/-- The scores as the region leaves them. -/
theorem arr6 : (dats m 0 c).arrAt 6 (cfgs 0).N = fun y : S96x6144.Idx => SC m c ⟨(y 1).val / 128, by have : (y 1).val < 6144 := (y 1).isLt; show _ < 48; omega⟩ (ix2 (y 0) ⟨(y 1).val % 128, by omega⟩) := by
  refine (dats m 0 c).arrAt_eq_of_covers 6 _ (by decide +kernel) fun t hf y => ?_
  blk_simp
  rw [after6]
  refine congrArg₂ (fun (a : Fin cfg0.N) b => SC m c a b) (Fin.ext ?_) ?_
  · show t.val = (win0_6.index t 1 * 128 + (y 1).val) / 128
    rw [at6 t]
    have : (y 1).val < 128 := (y 1).isLt
    show t.val = (t.val * 128 + (y 1).val) / 128
    omega
  · blk_ext [at6 t]

/-- The per-token maxima as the region leaves them. -/
theorem arr8 : (dats m 0 c).arrAt 8 (cfgs 0).N = fun y : S3072x6144.Idx => TM m c ⟨(y 1).val / 128, by have : (y 1).val < 6144 := (y 1).isLt; show _ < 48; omega⟩ (ix2 (y 0) ⟨(y 1).val % 128, by omega⟩) := by
  refine (dats m 0 c).arrAt_eq_of_covers 8 _ (by decide +kernel) fun t hf y => ?_
  blk_simp
  rw [after8]
  refine congrArg₂ (fun (a : Fin cfg0.N) b => TM m c a b) (Fin.ext ?_) ?_
  · show t.val = (win0_8.index t 1 * 128 + (y 1).val) / 128
    rw [at8 t]
    have : (y 1).val < 128 := (y 1).isLt
    show t.val = (t.val * 128 + (y 1).val) / 128
    omega
  · blk_ext [at8 t]

/-- The losses as the region leaves them. -/
theorem arr7 : (dats m 0 c).arrAt 7 (cfgs 0).N = (LO m c : S96x1.Idx → EReal) := by
  refine (dats m 0 c).arrAt_eq_of_covers 7 _ (by decide +kernel) fun t hf y => ?_
  blk_simp
  rw [after7]
  refine congrArg (LO m c) ?_
  blk_ext [at7 t]

end Cert.KernelIdeal.Hand

end
-- ==== Proof.ResultsIdeal.lean ====
module

public import proofs.«01_k».proof.Proof.ArraysIdeal

@[expose] public section

/-! The kernel's three results, element by element: the plain functions of the arguments. -/

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The best products, of this device's arguments. -/
abbrev bestK (b : Fin 96) (j : Fin 6144) (t : Fin 32) : EReal := Cert.Spec.best
     (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j t

/-- The scores, of this device's arguments. -/
abbrev scoreK (b : Fin 96) (j : Fin 6144) : EReal := Cert.Spec.score
     (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j

variable (hlen : ∀ j : Fin 6144, (0#32).slt (m ((c : Thread nD τ).loc main_arg4) (ix1 j)) = true)
include hlen

/-- The best product of a block's row and column is the plain one, of the query token and document they stand for. -/
theorem tok_apply (t : Fin cfg0.N) (b : Fin 96) (tt : Fin 32) (r : Fin 3072) (hr : r.val = 32 * b.val + tt.val)
    (j : Fin 128) (J : Fin 6144) (hJ : J.val = 128 * t.val + j.val) :
    (Finset.univ.sup fun s : Fin 180 => prodS (QW m c) (DW m c t) r j s.val) = bestK m c b J tt := by
  have hJ' : 128 * t.val + j.val < 6144 := hJ ▸ J.isLt
  obtain rfl : J = ⟨128 * t.val + j.val, hJ'⟩ := Fin.ext hJ
  have hl := blk4 m c t j hJ'
  have hb : (⟨r.val / 32, by omega⟩ : Fin 96) = b := Fin.ext (by dsimp only; omega)
  have ht : (⟨r.val % 32, by omega⟩ : Fin 32) = tt := Fin.ext (by dsimp only; omega)
  unfold QW DW
  refine (best_apply _ _ _ _ _ r j ((congrArg (fun w : BitVec 32 => (0#32).slt w) hl).trans (hlen _))).trans ?_
  unfold bestK Cert.Spec.best Cert.Spec.dot
  refine Finset.sup_congr rfl fun s _ => ?_
  refine if_congr (by rw [hl]) (Finset.sum_congr rfl fun l _ => ?_) rfl
  have e0 := blk0 m c t00 r l
  have e1 := blk1 m c t00 r ⟨l.val / 32, by omega⟩
  rw [hb, ht] at e0 e1
  exact congrArg₂ (fun x y : EReal => x * y)
    (congrArg₂ (fun x y : EReal => x * y) (blk2 m c t s j l hJ') (blk3 m c t s ⟨l.val / 32, by omega⟩ j hJ'))
    (congrArg₂ (fun x y : EReal => x * y) e0 e1)

/-- The block of per-token maxima holds the plain ones. -/
theorem tm_eq (t : Fin cfg0.N) (b : Fin 96) (tt : Fin 32) (r : Fin 3072) (hr : r.val = 32 * b.val + tt.val)
    (j : Fin 128) (J : Fin 6144) (hJ : J.val = 128 * t.val + j.val) :
    TM m c t (ix2 r j) = bestK m c b J tt :=
  (tm_apply _ _ r j).trans (tok_apply m c hlen t b tt r hr j J hJ)

/-- The block of scores holds the plain ones. -/
theorem sc_eq (t : Fin cfg0.N) (b : Fin 96) (j : Fin 128) (J : Fin 6144) (hJ : J.val = 128 * t.val + j.val) :
    SC m c t (ix2 b j) = scoreK m c b J :=
  (sc_apply _ _ b j).trans (Finset.sum_congr rfl fun tt _ => tok_apply m c hlen t b tt _ rfl j J hJ)

/-- The losses are the plain ones. -/
theorem lo_eq (b : Fin 96) (p : Fin 6144) (hp : m ((c : Thread nD τ).loc main_arg5) (ix1 b) = BitVec.ofNat 32 p.val) :
    LO m c (ix2 b 0) = Cert.Spec.loss (scoreK m c b) p := by
  unfold LO
  refine (loss_apply _ _ b 0 p ((blk5 m c t00 b).trans hp)).trans ?_
  refine congrArg (fun f => Cert.Spec.loss f p) (funext fun J => ?_)
  exact sc_eq m c hlen ⟨J.val / 128, by show _ < 48; omega⟩ b ⟨J.val % 128, by omega⟩ J (by dsimp only; omega)

omit hlen

/-- What the host operations after the region leave. -/
abbrev WK (b : Ref sig .tc) := Pipeline.afterTail₀ cfgs (dats m) 0 (V0 m) [hostOps1] c b
/-- The arrays as the region leaves them. -/
abbrev AK : Valuation τ sig (Elt Ideal) := Pipeline.withArrays (cfgs 0).spec c (V0 m c) (fun w => (dats m 0 c).arrAt w (cfgs 0).N)

/-- The region's maxima and losses, as the later host lines find them. -/
theorem A_v7_2 : AK m c (Proc.tc.devRef main_v7_2) = (dats m 0 c).arrAt 8 (cfgs 0).N :=
  Pipeline.withArrays_arr _ winFacts0.arr_inj c (V0 m c) _ 8
theorem A_v7_1 : AK m c (Proc.tc.devRef main_v7_1) = (dats m 0 c).arrAt 7 (cfgs 0).N :=
  Pipeline.withArrays_arr _ winFacts0.arr_inj c (V0 m c) _ 7

/-- The last two host lines reshape and transpose. -/
theorem v9_read (b : Fin 96) (j : Fin 6144) (t : Fin 32) :
    (WK m c main_v9 : S96x6144x32.Idx → EReal) (ix3 b j t) = (AK m c (Proc.tc.devRef main_v7_2) : S3072x6144.Idx → EReal) (ix2 ⟨b.val * 32 + t.val, by omega⟩ j) := by
  unfold WK Pipeline.afterTail₀
  simp only [hostOps1, List.flatten_cons, List.flatten_nil, List.append_nil, List.cons_append, List.nil_append]
  after_results
  pointwise

theorem v10_read (b : Fin 96) :
    (WK m c main_v10 : S96.Idx → EReal) (ix1 b) = (AK m c (Proc.tc.devRef main_v7_1) : S96x1.Idx → EReal) (ix2 b 0) := by
  unfold WK Pipeline.afterTail₀
  simp only [hostOps1, List.flatten_cons, List.flatten_nil, List.append_nil, List.cons_append, List.nil_append]
  after_results
  pointwise

include hlen

/-- The three results, element by element. -/
theorem v7_0_at (b : Fin 96) (j : Fin 6144) :
    ((dats m 0 c).arrAt 6 (cfgs 0).N : S96x6144.Idx → EReal) (ix2 b j) = scoreK m c b j :=
  (congrFun (arr6 m c) (ix2 b j)).trans (sc_eq m c hlen ⟨j.val / 128, by show _ < 48; omega⟩ b ⟨j.val % 128, by omega⟩ j (by dsimp only; omega))

theorem v9_at (b : Fin 96) (j : Fin 6144) (t : Fin 32) :
    (WK m c main_v9 : S96x6144x32.Idx → EReal) (ix3 b j t) = bestK m c b j t := by
  rw [v9_read, A_v7_2]
  exact (congrFun (arr8 m c) (ix2 _ j)).trans (tm_eq m c hlen ⟨j.val / 128, by show _ < 48; omega⟩ b t _ (by show b.val * 32 + t.val = _; omega) ⟨j.val % 128, by omega⟩ j (by dsimp only; omega))

theorem v10_at (b : Fin 96) (p : Fin 6144) (hp : m ((c : Thread nD τ).loc main_arg5) (ix1 b) = BitVec.ofNat 32 p.val) :
    (WK m c main_v10 : S96.Idx → EReal) (ix1 b) = Cert.Spec.loss (scoreK m c b) p := by
  rw [v10_read, A_v7_1]
  exact (congrFun (arr7 m c) (ix2 b 0)).trans (lo_eq m c hlen b p hp)

omit hlen

/-- Every run of the idealized kernel leaves the plain functions of its arguments in its three results. -/
theorem run_results (g : Dev nD → PrngReg) (hl : ∀ c : Dev nD, ∀ j : Fin 6144, (0#32).slt (m ((c : Thread nD τ).loc main_arg4) (ix1 j)) = true)
    (p : Dev nD → Fin 96 → Fin 6144) (hp : ∀ c : Dev nD, ∀ b : Fin 96, m ((c : Thread nD τ).loc main_arg5) (ix1 b) = BitVec.ofNat 32 (p c b).val) :
    θ_run defs (onTc (τ := τ) (main (F := Ideal))) ⟨m, fun _ => 0, g⟩ (fun r => ∀ c : Dev nD,
      r.2.mem ((c.tc : Thread nD τ).loc main_v7_0) = (fun y : S96x6144.Idx => scoreK m c (y 0) (y 1))
      ∧ r.2.mem ((c.tc : Thread nD τ).loc main_v10) = (fun y : S96.Idx => Cert.Spec.loss (scoreK m c (y 0)) (p c (y 0)))
      ∧ r.2.mem ((c.tc : Thread nD τ).loc main_v9) = (fun y : S96x6144x32.Idx => bestK m c (y 0) (y 1) (y 2))) := by
  refine (θ_run defs _ _).mono (fun r h c => ⟨?_, ?_, ?_⟩) (run_main m g)
  · refine ((h.1 c).1 6).trans (funext fun y => ?_)
    obtain ⟨b, j, rfl⟩ : ∃ b j, y = ix2 b j := ⟨_, _, eq_ix2 y⟩
    exact v7_0_at m c (hl c) b j
  · refine ((h.1 c).2 main_v10 (Pipeline.mem_restRefs_of main_v10 (by decide) (by decide))).trans (funext fun y => ?_)
    obtain ⟨b, rfl⟩ : ∃ b, y = ix1 b := ⟨_, eq_ix1 y⟩
    exact v10_at m c (hl c) b (p c b) (hp c b)
  · refine ((h.1 c).2 main_v9 (Pipeline.mem_restRefs_of main_v9 (by decide) (by decide))).trans (funext fun y => ?_)
    obtain ⟨b, j, t, rfl⟩ : ∃ b j t, y = ix3 b j t := ⟨_, _, _, eq_ix3 y⟩
    exact v9_at m c (hl c) b j t

end Cert.KernelIdeal.Hand

end
-- ==== Proof.RefScoresIdeal.lean ====
module

public import proofs.«01_k».proof.Proof.Gen.ReferenceIdeal.Frame
public import proofs.«01_k».proof.Proof.Spec
public import Idealize.ShloMosaic.Lib.Pointwise
public import Idealize.ShloMosaic.Lib.Pipeline.ValueKit
public import Idealize.ShloMosaic.PureOps.Ideal
public import Idealize.ShloMosaic.PureOps.Ideal.Laws
public import Idealize.ShloMosaic.Lib.IdealHost

@[expose] public section

/-! What the reference computes, element by element, over the extended reals. -/

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ)

/-- The f32 word of `-∞` is `⊥`. -/
theorem ofBits_bot : Ideal.ofBits .f32 0xFF800000#32 = ⊥ := by simp [Ideal.ofBits, Ideal.ieee]

/-- A select by a signed comparison. -/
theorem select_slt {α : Type} (x y : BitVec 32) (a b : α) : Scalar.select (IntOp.cmpi .slt x y) a b = if x.slt y then a else b := by
  cases h : x.slt y <;> simp [Scalar.select, IntOp.cmpi, h]

/-- The masked maximum as the reference writes it. -/
theorem best_of (qc : Fin 96 → Fin 32 → Fin 128 → EReal) (qs : Fin 96 → Fin 32 → Fin 4 → EReal)
    (dc : Fin 6144 → Fin 180 → Fin 128 → EReal) (ds : Fin 6144 → Fin 180 → Fin 4 → EReal)
    (len : Fin 6144 → BitVec 32) (b : Fin 96) (j : Fin 6144) (t : Fin 32) {z : EReal} (hz : z = ⊥) :
    (Finset.univ.fold max z fun s : Fin 180 => Scalar.select (IntOp.cmpi .slt (BitVec.ofNat 32 s.val) (len j))
      (∑ l : Fin 128, dc j s ⟨l.val / 32 * 32 + l.val % 32, by omega⟩ * ds j s ⟨l.val / 32, by omega⟩
        * (qc b t ⟨l.val / 32 * 32 + l.val % 32, by omega⟩ * qs b t ⟨l.val / 32, by omega⟩)) z)
      = Cert.Spec.best qc qs dc ds len b j t := by
  subst hz
  have e : ∀ l : Fin 128, (⟨l.val / 32 * 32 + l.val % 32, by omega⟩ : Fin 128) = l := fun l => Fin.ext (by dsimp only; omega)
  simp only [e, select_slt]
  rfl

/-- The contents of every buffer at the end. -/
abbrev W (c : Dev nD) (b : Ref sig .tc) := Pipeline.afterTail₀ cfgs (dats m) 0 (V0 m) [hostOps1, hostOps1_1, hostOps1_2, hostOps1_3, hostOps1_4] c b

/-- The query codes, converted. -/
theorem arr2 (c : Dev nD) : (dats m 0 c).arrAt 2 (cfgs 0).N = m ((c : Thread nD τ).loc main_arg0) := by
  refine (dats m 0 c).arrAt_eq_of_covers 2 _ (by decide +kernel) fun t hf y => ?_
  blk_simp
  rw [after0_2]
  frame_out
  pointwise [k0_pay1]
  blk_ext [iblk, V_main_arg0] <;> rfl

/-- The document codes, converted. -/
theorem arr3 (c : Dev nD) : (dats m 0 c).arrAt 3 (cfgs 0).N = m ((c : Thread nD τ).loc main_arg2) := by
  refine (dats m 0 c).arrAt_eq_of_covers 3 _ (by decide +kernel) fun t hf y => ?_
  blk_simp
  rw [after0_3]
  frame_out
  pointwise [k0_pay2]
  blk_ext [iblk, V_main_arg2] <;> rfl

/-- The arrays as the region leaves them. -/
abbrev A (c : Dev nD) : Valuation τ sig (Elt Ideal) := Pipeline.withArrays (cfgs 0).spec c (V0 m c) (fun w => (dats m 0 c).arrAt w (cfgs 0).N)

/-- What the reference's cast region leaves: the codes, and the other arguments as they were. -/
theorem A_v0_0 (c : Dev nD) : A m c (Proc.tc.devRef main_v0_0) = m ((c : Thread nD τ).loc main_arg0) :=
  (Pipeline.withArrays_arr _ winFacts0.arr_inj c (V0 m c) _ 2).trans (arr2 m c)

theorem A_v0_1 (c : Dev nD) : A m c (Proc.tc.devRef main_v0_1) = m ((c : Thread nD τ).loc main_arg2) :=
  (Pipeline.withArrays_arr _ winFacts0.arr_inj c (V0 m c) _ 3).trans (arr3 m c)

theorem A_arg1 (c : Dev nD) : A m c (Proc.tc.devRef main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem A_arg3 (c : Dev nD) : A m c (Proc.tc.devRef main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem A_arg4 (c : Dev nD) : A m c (Proc.tc.devRef main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem A_arg5 (c : Dev nD) : A m c (Proc.tc.devRef main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The best products that the reference returns. -/
theorem v22_at (c : Dev nD) (b : Fin 96) (j : Fin 6144) (t : Fin 32) :
   (W m c main_v22 : S96x6144x32.Idx → EReal) (ix3 b j t) = Cert.Spec.best
     (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j t := by
  unfold W Pipeline.afterTail₀
  simp only [hostOps1, hostOps1_1, hostOps1_2, hostOps1_3, hostOps1_4, List.flatten_cons, List.flatten_nil, List.append_nil, List.cons_append, List.nil_append]
  after_results
  simp -implicitDefEqProofs only [StableHlo.TRef.toBuf, StableHlo.TRef.ofBuf, cast_eq, id, A_v0_0 m c, A_v0_1 m c, A_arg1 m c, A_arg3 m c, A_arg4 m c]
  pointwise
  exact best_of (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j t ofBits_bot

/-- The scores sum the per-token maxima. -/
theorem v23_eq (c : Dev nD) :
   (W m c main_v23 : S96x6144.Idx → EReal) =
     Host.reduceAdd (W m c main_v22 : S96x6144x32.Idx → EReal) (constant (F := Ideal) S_ FTy.f32 0#32) reducesTo_S96x6144x32_S96x6144_d2 h_S_ := by
  unfold W Pipeline.afterTail₀
  simp only [hostOps1, hostOps1_1, hostOps1_2, hostOps1_3, hostOps1_4, List.flatten_cons, List.flatten_nil, List.append_nil, List.cons_append, List.nil_append]
  after_results

end Cert.ReferenceIdeal.Hand

end
-- ==== Proof.RefLossIdeal.lean ====
module

public import proofs.«01_k».proof.Proof.Gen.ReferenceIdeal.Frame
public import proofs.«01_k».proof.Proof.Spec
public import Idealize.ShloMosaic.Lib.ValueIdxCore
public import Idealize.ShloMosaic.Lib.Pointwise
public import Idealize.ShloMosaic.Lib.Pipeline.ValueKit
public import Idealize.ShloMosaic.PureOps.Ideal
public import Idealize.ShloMosaic.PureOps.Ideal.Laws
public import Idealize.ShloMosaic.Lib.IdealHost

@[expose] public section

/-! What the reference computes, element by element, over the extended reals. -/

set_option maxRecDepth 16384

noncomputable section

namespace Cert.ReferenceIdeal.Hand

open Cert.ReferenceIdeal Cert.ReferenceIdeal.Gen
open Idealize.ShloMosaic Idealize.ShloMosaic.TcCoe

/-- The batched gather along the rows: element `(b, 0)` is row `b` of the operand at the start index
    `idx[b, 0, 0]`, read signed and clamped into the row. -/
theorem gather_row_min (x : S96x6144.Idx → EReal) (idx : IVec S96x1x1 32) (b : Fin 96) :
    Host.gather gather_S96x6144_S96x1x1_S96x1_n_1_0_0_1_2_11 x idx (ix2 b 0)
      = x (ix2 b ⟨min (idx (ix3 b 0 0)).toInt.toNat 6143, by omega⟩) := by
  unfold Host.gather
  congr 1
  funext a
  refine Fin.ext ?_
  show gather_S96x6144_S96x1x1_S96x1_n_1_0_0_1_2_11.start (ix2 b 0) idx a
      + gather_S96x6144_S96x1x1_S96x1_n_1_0_0_1_2_11.batchCoord (ix2 b 0) a
      + gather_S96x6144_S96x1x1_S96x1_n_1_0_0_1_2_11.offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S96x6144_S96x1x1_S96x1_n_1_0_0_1_2_11.operandBatchingDims from List.mem_singleton.mpr rfl)]
    rfl
  · rw [GatherDims.batchCoord_eq_zero _ _ _ (fun h => by simp [gather_S96x6144_S96x1x1_S96x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S96x6144_S96x1x1_S96x1_n_1_0_0_1_2_11.startIndexMap from List.mem_singleton.mpr rfl)]
    have hsi : gather_S96x6144_S96x1x1_S96x1_n_1_0_0_1_2_11.siIdx (ix2 b 0) ⟨List.idxOf (1 : Fin 2) gather_S96x6144_S96x1x1_S96x1_n_1_0_0_1_2_11.startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi]
    rfl

/-- The same where the start index is a column of the row. -/
theorem gather_row (x : S96x6144.Idx → EReal) (idx : IVec S96x1x1 32) (b : Fin 96) (q : Fin 6144) (hq : (idx (ix3 b 0 0)).toInt.toNat = q.val) :
    Host.gather gather_S96x6144_S96x1x1_S96x1_n_1_0_0_1_2_11 x idx (ix2 b 0)
      = x (ix2 b q) := by
  have hm : min (idx (ix3 b 0 0)).toInt.toNat 6143 = q.val := by omega
  have main : Host.gather gather_S96x6144_S96x1x1_S96x1_n_1_0_0_1_2_11 x idx (ix2 b 0)
      = x (ix2 b ⟨min (idx (ix3 b 0 0)).toInt.toNat 6143, by omega⟩) := gather_row_min x idx b
  rw [main]
  exact congrArg (fun z => x (ix2 b z)) (Fin.ext hm)

/-- The wrap-around and the bounds check that guard the gather let an index in range through. -/
theorem guard_of (p : Fin 6144) :
    Scalar.select (IntOp.cmpi .slt (BitVec.ofNat 32 p.val) 0#32) (IntOp.addi (BitVec.ofNat 32 p.val) 6144#32) (BitVec.ofNat 32 p.val) = BitVec.ofNat 32 p.val
    ∧ IntOp.cmpi .sge (BitVec.ofNat 32 p.val) 0#32 = 1#1 ∧ IntOp.cmpi .sle (BitVec.ofNat 32 p.val) 6143#32 = 1#1
    ∧ (BitVec.ofNat 32 p.val).toInt.toNat = p.val := by
  have hp := p.isLt
  have hlt : (BitVec.ofNat 32 p.val).toInt = p.val := by
    rw [BitVec.toInt_eq_toNat_of_lt (by simp; omega)]
    simp; omega
  have h1 : ¬ ((p.val : Int) < 0) := by omega
  have h2 : (p.val : Int) ≤ 6143 := by omega
  refine ⟨?_, ?_, ?_, by rw [hlt]; simp⟩
  · simp [Scalar.select, IntOp.cmpi, BitVec.slt, hlt, h1]
  · simp [IntOp.cmpi, BitVec.sle, hlt]
  · have h3 : (6143#32).toInt = 6143 := by decide
    simp [IntOp.cmpi, BitVec.sle, hlt, h3, h2]

/-- The loss as the reference writes it. -/
theorem loss_of (sc : Fin 6144 → EReal) (p : Fin 6144) {z : EReal} (hz : z = ⊥) (n : EReal) :
    Ideal.log (∑ j, Ideal.exp (sc j - Finset.univ.fold max z fun j => sc j)) + (Finset.univ.fold max z fun j => sc j)
      - Scalar.select 1#1 (sc p) n = Cert.Spec.loss sc p := by
  subst hz
  rfl

/-- The last host operations: the loss off the scores and the positions. -/
theorem v35_of (M : Valuation τ sig (Elt Ideal)) (b : Fin 96) (p : Fin 6144)
   (hp : (M (Proc.tc.devRef main_v24) : S96x1.Idx → BitVec 32) (ix2 b 0) = BitVec.ofNat 32 p.val) :
   (StableHlo.after (hostOps1_3 ++ hostOps1_4) M (Proc.tc.devRef main_v35) : S96.Idx → EReal) (ix1 b)
     = Cert.Spec.loss (fun j => (M (Proc.tc.devRef main_v23) : S96x6144.Idx → EReal) (ix2 b j)) p := by
  simp only [hostOps1_3, hostOps1_4, List.flatten_cons, List.flatten_nil, List.append_nil, List.cons_append, List.nil_append]
  after_results
  simp -implicitDefEqProofs only [StableHlo.TRef.toBuf, StableHlo.TRef.ofBuf, cast_eq, id]
  pointwise
  obtain ⟨g1, g2, g3, g4⟩ := guard_of p
  rw [gather_row _ _ b p (by
    show (Scalar.select (IntOp.cmpi .slt ((M (Proc.tc.devRef main_v24) : S96x1.Idx → BitVec 32) (ix2 b 0)) 0#32)
      (IntOp.addi ((M (Proc.tc.devRef main_v24) : S96x1.Idx → BitVec 32) (ix2 b 0)) 6144#32)
      ((M (Proc.tc.devRef main_v24) : S96x1.Idx → BitVec 32) (ix2 b 0))).toInt.toNat = p.val
    rw [hp, g1, g4])]
  rw [hp, g1, g2, g3]
  have hf : (Finset.univ : Finset (Fin 1)).fold IntOp.andi (1#1) (fun _ => IntOp.andi (1#1) (1#1)) = 1#1 := by decide
  rw [hf]
  exact loss_of (fun j => (M (Proc.tc.devRef main_v23) : S96x6144.Idx → EReal) (ix2 b j)) p (by simp [Ideal.ofBits, Ideal.ieee]) _

end Cert.ReferenceIdeal.Hand

end
-- ==== Proof.RefResultsIdeal.lean ====
module

public import proofs.«01_k».proof.Proof.RefScoresIdeal
public import proofs.«01_k».proof.Proof.RefLossIdeal

@[expose] public section

/-! The reference's three results, element by element: the plain functions of the arguments. -/

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

/-- The best products, of this device's arguments. -/
abbrev bestR (b : Fin 96) (j : Fin 6144) (t : Fin 32) : EReal := Cert.Spec.best
     (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j t

/-- The scores, of this device's arguments. -/
abbrev scoreR (b : Fin 96) (j : Fin 6144) : EReal := Cert.Spec.score
     (fun b t l => m ((c : Thread nD τ).loc main_arg0) (ix3 b t l)) (fun b t l => m ((c : Thread nD τ).loc main_arg1) (ix3 b t l))
     (fun b t l => m ((c : Thread nD τ).loc main_arg2) (ix3 b t l)) (fun b t l => m ((c : Thread nD τ).loc main_arg3) (ix3 b t l))
     (fun j => m ((c : Thread nD τ).loc main_arg4) (ix1 j)) b j

/-- The scores are the plain ones. -/
theorem v23_at (b : Fin 96) (j : Fin 6144) :
   (W m c main_v23 : S96x6144.Idx → EReal) (ix2 b j) = scoreR m c b j := by
  have e : ∀ X : FVec Ideal S96x6144x32 .f32, Host.reduceAdd X (constant (F := Ideal) S_ FTy.f32 0#32) reducesTo_S96x6144x32_S96x6144_d2 h_S_ (ix2 b j)
      = ∑ t : Fin 32, (X (ix3 b j t) : EReal) := by
    intro X
    pointwise
  refine ((congrFun (v23_eq m c) (ix2 b j)).trans (e _)).trans ?_
  have sums : ∀ f g : Fin 32 → EReal, (∀ t, f t = g t) → ∑ t, f t = ∑ t, g t := fun f g h => Finset.sum_congr rfl fun t _ => h t
  exact sums _ _ fun t => v22_at m c b j t

/-- The host operations before the loss. -/
abbrev A1 : Valuation τ sig (Elt Ideal) := StableHlo.after (hostOps1 ++ (hostOps1_1 ++ hostOps1_2)) (A m c)

/-- Running two lists of host lines is running one after the other. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons o l ih => exact ih _

/-- The lines of the loss run after all the others. -/
theorem W_eq (b : Ref sig .tc) : W m c b = StableHlo.after (hostOps1_3 ++ hostOps1_4) (A1 m c) (Proc.tc.devRef b) := by
  unfold W Pipeline.afterTail₀ A1
  rw [← after_app]
  simp only [List.flatten_cons, List.flatten_nil, List.append_nil, List.append_assoc]

/-- They leave the scores alone. -/
theorem v23_A1 : W m c main_v23 = A1 m c (Proc.tc.devRef main_v23) := by
  rw [W_eq]
  refine StableHlo.after_of_forall_not_mem (b := Proc.devRef .tc main_v23) _ _ (List.forall_iff_forall_mem.mp (by
      simp only [hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- They find the positive indices in a column. -/
theorem v24_A1 (b : Fin 96) : (A1 m c (Proc.tc.devRef main_v24) : S96x1.Idx → BitVec 32) (ix2 b 0) = m ((c : Thread nD τ).loc main_arg5) (ix1 b) := by
  unfold A1
  simp only [hostOps1, hostOps1_1, hostOps1_2, List.flatten_cons, List.flatten_nil, List.append_nil, List.cons_append, List.nil_append]
  after_results
  simp -implicitDefEqProofs only [A_arg5 m c]
  pointwise

/-- The losses are the plain ones. -/
theorem v35_at (b : Fin 96) (p : Fin 6144) (hp : m ((c : Thread nD τ).loc main_arg5) (ix1 b) = BitVec.ofNat 32 p.val) :
   (W m c main_v35 : S96.Idx → EReal) (ix1 b) = Cert.Spec.loss (fun j => scoreR m c b j) p := by
  rw [W_eq m c main_v35]
  refine (v35_of (A1 m c) b p ((v24_A1 m c b).trans hp)).trans ?_
  rw [← v23_A1]
  exact congrArg (fun f => Cert.Spec.loss f p) (funext fun j => v23_at m c b j)

/-- Every run of the reference leaves the plain functions of its arguments in its three results. -/
theorem run_results (g : Dev nD → PrngReg)
    (p : Dev nD → Fin 96 → Fin 6144) (hp : ∀ c : Dev nD, ∀ b : Fin 96, m ((c : Thread nD τ).loc main_arg5) (ix1 b) = BitVec.ofNat 32 (p c b).val) :
    θ_run defs (onTc (τ := τ) (main (F := Ideal))) ⟨m, fun _ => 0, g⟩ (fun r => ∀ c : Dev nD,
      r.2.mem ((c.tc : Thread nD τ).loc main_v23) = (fun y : S96x6144.Idx => scoreR m c (y 0) (y 1))
      ∧ r.2.mem ((c.tc : Thread nD τ).loc main_v35) = (fun y : S96.Idx => Cert.Spec.loss (fun j => scoreR m c (y 0) j) (p c (y 0)))
      ∧ r.2.mem ((c.tc : Thread nD τ).loc main_v22) = (fun y : S96x6144x32.Idx => bestR m c (y 0) (y 1) (y 2))) := by
  refine (θ_run defs _ _).mono (fun r h c => ⟨?_, ?_, ?_⟩) (run_main m g)
  · refine ((h c).2 main_v23 (Pipeline.mem_restRefs_of main_v23 (by decide) (by decide))).trans (funext fun y => ?_)
    obtain ⟨b, j, rfl⟩ : ∃ b j, y = ix2 b j := ⟨_, _, eq_ix2 y⟩
    exact v23_at m c b j
  · refine ((h c).2 main_v35 (Pipeline.mem_restRefs_of main_v35 (by decide) (by decide))).trans (funext fun y => ?_)
    obtain ⟨b, rfl⟩ : ∃ b, y = ix1 b := ⟨_, eq_ix1 y⟩
    exact v35_at m c b (p c b) (hp c b)
  · refine ((h c).2 main_v22 (Pipeline.mem_restRefs_of main_v22 (by decide) (by decide))).trans (funext fun y => ?_)
    obtain ⟨b, j, t, rfl⟩ : ∃ b j t, y = ix3 b j t := ⟨_, _, _, eq_ix3 y⟩
    exact v22_at m c b j t

end Cert.ReferenceIdeal.Hand

end
-- ==== Proof.PreIdeal.lean ====
module

public import proofs.«01_k».proof.Proof.Gen.Pre_pre
public import Idealize.ShloMosaic.Lib.Pointwise
public import Idealize.ShloMosaic.PureOps.Ideal

@[expose] public section

/-! What the claim's precondition says of the two index arrays. -/

set_option maxRecDepth 16384

noncomputable section

namespace Cert.Pre_pre.Hand

open Cert.Pre_pre
open Idealize.ShloMosaic

/-- A word that compares at least one is positive. -/
theorem pos_of_sge {x : BitVec 32} (h : IntOp.cmpi .sge x 1#32 = 1#1) : (0#32).slt x = true := by
  have h' : (1#32).sle x = true := by
    cases e : (1#32).sle x
    · simp [IntOp.cmpi, e] at h
    · rfl
  rw [BitVec.sle_iff_toInt_le] at h'
  rw [BitVec.slt_iff_toInt_lt]
  have e1 : (1#32).toInt = 1 := rfl
  have e0 : (0#32).toInt = 0 := rfl
  omega

/-- A word that passes both bounds checks is an index below 6144. -/
theorem lt_of_and {x : BitVec 32} (h : IntOp.andi (IntOp.cmpi .sge x 0#32) (IntOp.cmpi .slt x 6144#32) = 1#1) :
    ∃ p : Fin 6144, x = BitVec.ofNat 32 p.val := by
  have h1 : (0#32).sle x = true := by
    cases e : (0#32).sle x
    · simp [IntOp.cmpi, IntOp.andi, e] at h
    · rfl
  have h2 : x.slt 6144#32 = true := by
    cases e : x.slt 6144#32
    · simp [IntOp.cmpi, IntOp.andi, e] at h
    · rfl
  rw [BitVec.sle_iff_toInt_le] at h1
  rw [BitVec.slt_iff_toInt_lt] at h2
  have e1 : (6144#32).toInt = 6144 := rfl
  have e0 : (0#32).toInt = 0 := rfl
  have hx := x.isLt
  have ht : x.toNat < 6144 := by
    rw [e0] at h1
    rw [e1] at h2
    have hc := BitVec.toInt_eq_toNat_cond x
    split at hc <;> omega
  exact ⟨⟨x.toNat, ht⟩, BitVec.eq_of_toNat_eq (by simp)⟩

variable (a0 : FVec Ideal S96x32x128 .fp8e4m3) (a1 : FVec Ideal S96x32x4 .f32) (a2 : FVec Ideal S6144x180x128 .fp8e4m3) (a3 : FVec Ideal S6144x180x4 .f32)
  (a4 : IVec S6144 32) (a5 : IVec S96 32) [Facts] (h : fn (F := Ideal) a0 a1 a2 a3 a4 a5 = fun _ => 1#1)
include h

/-- Every document has at least one token. -/
theorem len_pos (j : Fin 6144) : (0#32).slt (a4 (ix1 j)) = true := by
  have e := congrFun h (ix1 ⟨j.val, by omega⟩)
  unfold fn at e
  pointwise at e
  exact pos_of_sge e

/-- Every query's positive document exists. -/
theorem pos_lt (b : Fin 96) : ∃ p : Fin 6144, a5 (ix1 b) = BitVec.ofNat 32 p.val := by
  have e := congrFun h (ix1 ⟨6144 + b.val, by omega⟩)
  unfold fn at e
  pointwise at e
  exact lt_of_and e

end Cert.Pre_pre.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Region
public import proofs.«01_k».proof.Proof.RegionIdeal
public import proofs.«01_k».proof.Proof.ResultsIdeal
public import proofs.«01_k».proof.Proof.RefResultsIdeal
public import proofs.«01_k».proof.Proof.PreIdeal
public import Idealize.ShloMosaic.Adequacy
public import Idealize.ShloMosaic.Init

@[expose] public section

noncomputable section

namespace Cert.Proof

open Idealize.ShloMosaic Idealize.SL.Sem Cert.Kernel

/-- The idealized kernel and the reference leave the same three arrays: each leaves the same plain functions of the
    arguments. -/
theorem algebraic : letI := Cert.KernelIdeal.Gen.facts; letI := Cert.ReferenceIdeal.Gen.facts; letI := Cert.Pre_pre.Gen.facts
    Cert.algebraic_KernelIdeal_ReferenceIdeal_pre_pre := by
  intro m g m' g' hpre hag
  have hl : ∀ c : Dev Cert.KernelIdeal.nD, ∀ j : Fin 6144, (0#32).slt (m ((c.tc : Thread Cert.KernelIdeal.nD Cert.KernelIdeal.τ).loc Cert.KernelIdeal.main_arg4) (ix1 j)) = true :=
    fun c j => Cert.Pre_pre.Hand.len_pos _ _ _ _ _ _ (hpre c) j
  have hp : ∀ c : Dev Cert.KernelIdeal.nD, ∀ b : Fin 96, ∃ p : Fin 6144, m ((c.tc : Thread Cert.KernelIdeal.nD Cert.KernelIdeal.τ).loc Cert.KernelIdeal.main_arg5) (ix1 b) = BitVec.ofNat 32 p.val :=
    fun c b => Cert.Pre_pre.Hand.pos_lt _ _ _ _ _ _ (hpre c) b
  choose p hp using hp
  refine ⟨_, _, _, (θ_run _ _ _).mono (fun r h c => ⟨(h.1 c).1, (h.1 c).2.1, (h.1 c).2.2, h.2.1 c⟩)
      (θ_run_and (Cert.KernelIdeal.Hand.run_results m g hl p hp) (Cert.KernelIdeal.Hand.frame_main m g)),
    (θ_run _ _ _).mono (fun r h c => ⟨(h.1 c).1.trans ?_, (h.1 c).2.1.trans ?_, (h.1 c).2.2.trans ?_, h.2.1 c⟩)
      (θ_run_and (Cert.ReferenceIdeal.Hand.run_results m' g' p (fun c b => (congrFun (hag c).2.2.2.2.2 (ix1 b)).trans (hp c b)))
        (Cert.ReferenceIdeal.Gen.frame m' g'))⟩
  · funext y
    unfold Cert.ReferenceIdeal.Hand.scoreR Cert.KernelIdeal.Hand.scoreK
    rw [(hag c).1, (hag c).2.1, (hag c).2.2.1, (hag c).2.2.2.1, (hag c).2.2.2.2.1]
  · funext y
    unfold Cert.ReferenceIdeal.Hand.scoreR Cert.KernelIdeal.Hand.scoreK
    rw [(hag c).1, (hag c).2.1, (hag c).2.2.1, (hag c).2.2.2.1, (hag c).2.2.2.2.1]
  · funext y
    unfold Cert.ReferenceIdeal.Hand.bestR Cert.KernelIdeal.Hand.bestK
    rw [(hag c).1, (hag c).2.1, (hag c).2.2.1, (hag c).2.2.2.1, (hag c).2.2.2.2.1]

/-- Everything that is claimed. -/
theorem claim : Cert.Claim := ⟨Cert.Kernel.Gen.facts, Cert.KernelIdeal.Gen.facts, Cert.ReferenceIdeal.Gen.facts, Cert.Pre_pre.Gen.facts,
  fun m ρ _ => Cert.Kernel.Hand.frame_main m ρ,
  fun m ρ _ => Cert.KernelIdeal.Hand.frame_main m ρ,
  fun m ρ _ => Cert.KernelIdeal.Hand.frame_main m ρ,
  fun m ρ _ => Cert.ReferenceIdeal.Gen.frame m ρ,
  fun m ρ _ => Cert.ReferenceIdeal.Gen.frame m ρ, trivial, algebraic⟩

end Cert.Proof

end
